-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_in_range [hPre_in_range : Cert.Pre_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_in_range [hPre_in_range : Cert.Pre_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_in_range [hKernel5Ideal : Cert.Kernel5Ideal.Facts] [hPre_in_range : Cert.Pre_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_in_range m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_in_range [hReference5Ideal : Cert.Reference5Ideal.Facts] [hPre_in_range : Cert.Pre_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "dead" .f32 0x42DC0000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.bf16_pair.BufferStatement Cert.Kernel3Ideal.S131072x2x128 Cert.Kernel3Ideal.S131072x1x128
  ∧ IdealRules.bf16_pair.BufferStatement Cert.Kernel3Ideal.S2048x2x128 Cert.Kernel3Ideal.S2048x1x128
  ∧ IdealRules.bf16_pair.Statement Cert.Kernel3Ideal.S512x2x128 Cert.Kernel3Ideal.S512x1x128
  ∧ IdealRules.bf16_pack.Statement Cert.Kernel3Ideal.S512x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v14_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v101) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_in_range [hKernel5Ideal : Cert.Kernel5Ideal.Facts] [hReference5Ideal : Cert.Reference5Ideal.Facts] [hPre_in_range : Cert.Pre_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_in_range m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_in_range (hKernel5Ideal := hKernel5Ideal) (hPre_in_range := hPre_in_range)
    ∧ quiescent_Reference5Ideal (hReference5Ideal := hReference5Ideal)
    ∧ quiescent_Reference5Ideal_pre_in_range (hReference5Ideal := hReference5Ideal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_in_range (hKernel5Ideal := hKernel5Ideal) (hReference5Ideal := hReference5Ideal) (hPre_in_range := hPre_in_range)
-- ==== Pre_finite.lean ====
abbrev S32768x3072 : Shape := ⟨2, ![32768, 3072]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)

variable [Facts]

def fn {F : FTy → Type} [FloatOps F] (main_arg0 : FVec F S32768x3072 .bf16) : IVec S32768x3072 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  main_v3
-- ==== Pre_in_range.lean ====
abbrev S8x32768 : Shape := ⟨2, ![8, 32768]⟩
abbrev S256 : Shape := ⟨1, ![256]⟩
abbrev S_ : Shape := ⟨0, ![]⟩

class Facts : Prop where
  bcast_S_S8x32768 : S_.BroadcastsInDim S8x32768 (![] : Fin 0 → Fin S8x32768.rank)

variable [Facts]

def fn {F : FTy → Type} [FloatOps F] (main_arg0 : IVec S8x32768 32) (main_arg1 : IVec S8x32768 32) (main_arg2 : IVec S256 32) : IVec S8x32768 1 :=
  let main_c : IVec S_ 32 := constantI S_ 32 0#32
  let main_v0 : IVec S8x32768 32 := broadcastInDim S8x32768 ![] bcast_S_S8x32768 main_c
  let main_v1 : IVec S8x32768 1 := cmpi .sge main_arg0 main_v0
  let main_c_0 : IVec S_ 32 := constantI S_ 32 256#32
  let main_v2 : IVec S8x32768 32 := broadcastInDim S8x32768 ![] bcast_S_S8x32768 main_c_0
  let main_v3 : IVec S8x32768 1 := cmpi .slt main_arg0 main_v2
  let main_v4 : IVec S8x32768 1 := andi main_v1 main_v3
  main_v4
-- ==== Kernel.lean ====
abbrev S32768x3072 : Shape := ⟨2, ![32768, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x1024 : Shape := ⟨2, ![32768, 1024]⟩
abbrev S256x512 : Shape := ⟨2, ![256, 512]⟩
abbrev S4096x512 : Shape := ⟨2, ![4096, 512]⟩
abbrev S256x128 : Shape := ⟨2, ![256, 128]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x3072, .bf16⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S32768x1024, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x256, .bf16⟩
  | .local _ .vmem, ⟨7, _⟩ => ⟨S256x512, .bf16⟩
  | .local _ .vmem, ⟨8, _⟩ => ⟨S256x512, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 16], ![false, false, false]⟩

def k0_mult1 (i : grid0.Coords) : BitVec 32 :=
  let arg2 : BitVec 32 := BitVec.ofNat 32 (i 2).val
  let c256_i32 : BitVec 32 := 256#32
  let v8 : BitVec 32 := Scalar.muli arg2 c256_i32
  v8
def k0_off1 (i : grid0.Coords) : Fin 2 → Nat :=
  let arg2 : BitVec 32 := BitVec.ofNat 32 (i 2).val
  let c256_i32 : BitVec 32 := 256#32
  let v8 : BitVec 32 := Scalar.muli arg2 c256_i32
  let v9 : BitVec 32 := v8
  let v11 : Index := Scalar.indexCast v9
  let c0_4 : Index := 0#32
  ![v11.toNat, 0]
def k0_mult2 (i : grid0.Coords) : BitVec 32 :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_16 : BitVec 32 := 256#32
  let v56 : BitVec 32 := Scalar.muli v7 c256_i32_16
  v56
def k0_off2 (i : grid0.Coords) : Fin 2 → Nat :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_16 : BitVec 32 := 256#32
  let v56 : BitVec 32 := Scalar.muli v7 c256_i32_16
  let v57 : BitVec 32 := v56
  let v59 : Index := Scalar.indexCast v57
  let c0_19 : Index := 0#32
  ![v59.toNat, 0]
def k0_mult3 (i : grid0.Coords) : BitVec 32 :=
  let arg2 : BitVec 32 := BitVec.ofNat 32 (i 2).val
  let c256_i32_29 : BitVec 32 := 256#32
  let v101 : BitVec 32 := Scalar.muli arg2 c256_i32_29
  v101
def k0_off3 (i : grid0.Coords) : Fin 2 → Nat :=
  let arg2 : BitVec 32 := BitVec.ofNat 32 (i 2).val
  let c256_i32_29 : BitVec 32 := 256#32
  let v101 : BitVec 32 := Scalar.muli arg2 c256_i32_29
  let v102 : BitVec 32 := v101
  let v104 : Index := Scalar.indexCast v102
  let c128_31 : Index := 128#32
  ![v104.toNat, 128]
def k0_mult4 (i : grid0.Coords) : BitVec 32 :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_43 : BitVec 32 := 256#32
  let v149 : BitVec 32 := Scalar.muli v7 c256_i32_43
  v149
def k0_off4 (i : grid0.Coords) : Fin 2 → Nat :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_43 : BitVec 32 := 256#32
  let v149 : BitVec 32 := Scalar.muli v7 c256_i32_43
  let v150 : BitVec 32 := v149
  let v152 : Index := Scalar.indexCast v150
  let c128_46 : Index := 128#32
  ![v152.toNat, 128]
def k0_mult5 (i : grid0.Coords) : BitVec 32 :=
  let arg2 : BitVec 32 := BitVec.ofNat 32 (i 2).val
  let c256_i32_56 : BitVec 32 := 256#32
  let v194 : BitVec 32 := Scalar.muli arg2 c256_i32_56
  v194
def k0_off5 (i : grid0.Coords) : Fin 2 → Nat :=
  let arg2 : BitVec 32 := BitVec.ofNat 32 (i 2).val
  let c256_i32_56 : BitVec 32 := 256#32
  let v194 : BitVec 32 := Scalar.muli arg2 c256_i32_56
  let v195 : BitVec 32 := v194
  let v197 : Index := Scalar.indexCast v195
  let c256_58 : Index := 256#32
  ![v197.toNat, 256]
def k0_mult6 (i : grid0.Coords) : BitVec 32 :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_70 : BitVec 32 := 256#32
  let v242 : BitVec 32 := Scalar.muli v7 c256_i32_70
  v242
def k0_off6 (i : grid0.Coords) : Fin 2 → Nat :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_70 : BitVec 32 := 256#32
  let v242 : BitVec 32 := Scalar.muli v7 c256_i32_70
  let v243 : BitVec 32 := v242
  let v245 : Index := Scalar.indexCast v243
  let c256_73 : Index := 256#32
  ![v245.toNat, 256]
def k0_mult7 (i : grid0.Coords) : BitVec 32 :=
  let arg2 : BitVec 32 := BitVec.ofNat 32 (i 2).val
  let c256_i32_83 : BitVec 32 := 256#32
  let v287 : BitVec 32 := Scalar.muli arg2 c256_i32_83
  v287
def k0_off7 (i : grid0.Coords) : Fin 2 → Nat :=
  let arg2 : BitVec 32 := BitVec.ofNat 32 (i 2).val
  let c256_i32_83 : BitVec 32 := 256#32
  let v287 : BitVec 32 := Scalar.muli arg2 c256_i32_83
  let v288 : BitVec 32 := v287
  let v290 : Index := Scalar.indexCast v288
  let c384_85 : Index := 384#32
  ![v290.toNat, 384]
def k0_mult8 (i : grid0.Coords) : BitVec 32 :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_97 : BitVec 32 := 256#32
  let v335 : BitVec 32 := Scalar.muli v7 c256_i32_97
  v335
def k0_off8 (i : grid0.Coords) : Fin 2 → Nat :=
  let arg2 : BitVec 32 := BitVec.ofNat 32 (i 2).val
  let c1_i32 : BitVec 32 := 1#32
  let v6 : BitVec 32 := Scalar.subi arg2 c1_i32
  let c0_i32_1 : BitVec 32 := 0#32
  let v7 : BitVec 32 := Scalar.maxsi v6 c0_i32_1
  let c256_i32_97 : BitVec 32 := 256#32
  let v335 : BitVec 32 := Scalar.muli v7 c256_i32_97
  let v336 : BitVec 32 := v335
  let v338 : Index := Scalar.indexCast v336
  let c384_100 : Index := 384#32
  ![v338.toNat, 384]
def k0_mult9 (arg8 : BitVec 32) : BitVec 32 :=
  let c256_i32_123 : BitVec 32 := 256#32
  let v411 : BitVec 32 := Scalar.muli arg8 c256_i32_123
  v411

def k0_off9 (arg8 : BitVec 32) : Fin 2 → Nat :=
  let c256_i32_123 : BitVec 32 := 256#32
  let v411 : BitVec 32 := Scalar.muli arg8 c256_i32_123
  let v412 : BitVec 32 := v411
  let v414 : Index := Scalar.indexCast v412
  let c0_126 : Index := 0#32
  ![v414.toNat, 0]
def k0_mult10 (arg8 : BitVec 32) : BitVec 32 :=
  let c256_i32_136 : BitVec 32 := 256#32
  let v452 : BitVec 32 := Scalar.muli arg8 c256_i32_136
  v452
def k0_off10 (arg8 : BitVec 32) : Fin 2 → Nat :=
  let c256_i32_136 : BitVec 32 := 256#32
  let v452 : BitVec 32 := Scalar.muli arg8 c256_i32_136
  let v453 : BitVec 32 := v452
  let v455 : Index := Scalar.indexCast v453
  let c128_139 : Index := 128#32
  ![v455.toNat, 128]
def k0_mult11 (arg8 : BitVec 32) : BitVec 32 :=
  let c256_i32_149 : BitVec 32 := 256#32
  let v493 : BitVec 32 := Scalar.muli arg8 c256_i32_149
  v493
def k0_off11 (arg8 : BitVec 32) : Fin 2 → Nat :=
  let c256_i32_149 : BitVec 32 := 256#32
  let v493 : BitVec 32 := Scalar.muli arg8 c256_i32_149
  let v494 : BitVec 32 := v493
  let v496 : Index := Scalar.indexCast v494
  let c256_152 : Index := 256#32
  ![v496.toNat, 256]
def k0_mult12 (arg8 : BitVec 32) : BitVec 32 :=
  let c256_i32_162 : BitVec 32 := 256#32
  let v534 : BitVec 32 := Scalar.muli arg8 c256_i32_162
  v534
def k0_off12 (arg8 : BitVec 32) : Fin 2 → Nat :=
  let c256_i32_162 : BitVec 32 := 256#32
  let v534 : BitVec 32 := Scalar.muli arg8 c256_i32_162
  let v535 : BitVec 32 := v534
  let v537 : Index := Scalar.indexCast v535
  let c384_165 : Index := 384#32
  ![v537.toNat, 384]

def k0_chk1 (arg8 : BitVec 32) : Prop :=
  (256 ∣ (k0_mult9 arg8).toNat) ∧
  (∀ a, (k0_off9 arg8) a + S256x128.size a ≤ S4096x512.size a) ∧
  (256 ∣ (k0_mult10 arg8).toNat) ∧
  (∀ a, (k0_off10 arg8) a + S256x128.size a ≤ S4096x512.size a) ∧
  (256 ∣ (k0_mult11 arg8).toNat) ∧
  (∀ a, (k0_off11 arg8) a + S256x128.size a ≤ S4096x512.size a) ∧
  (256 ∣ (k0_mult12 arg8).toNat) ∧
  (∀ a, (k0_off12 arg8) a + S256x128.size a ≤ S4096x512.size a)
theorem k0_mult9_dvd : ∀ (arg8 : BitVec 32) (k0_hw1 : k0_chk1 arg8), 256 ∣ (k0_mult9 arg8).toNat := fun arg8 k0_hw1 => k0_hw1.1
theorem k0_off9_inb : ∀ (arg8 : BitVec 32) (k0_hw1 : k0_chk1 arg8), ∀ a, (k0_off9 arg8) a + S256x128.size a ≤ S4096x512.size a := fun arg8 k0_hw1 => k0_hw1.2.1
theorem k0_mult10_dvd : ∀ (arg8 : BitVec 32) (k0_hw1 : k0_chk1 arg8), 256 ∣ (k0_mult10 arg8).toNat := fun arg8 k0_hw1 => k0_hw1.2.2.1
theorem k0_off10_inb : ∀ (arg8 : BitVec 32) (k0_hw1 : k0_chk1 arg8), ∀ a, (k0_off10 arg8) a + S256x128.size a ≤ S4096x512.size a := fun arg8 k0_hw1 => k0_hw1.2.2.2.1
theorem k0_mult11_dvd : ∀ (arg8 : BitVec 32) (k0_hw1 : k0_chk1 arg8), 256 ∣ (k0_mult11 arg8).toNat := fun arg8 k0_hw1 => k0_hw1.2.2.2.2.1
theorem k0_off11_inb : ∀ (arg8 : BitVec 32) (k0_hw1 : k0_chk1 arg8), ∀ a, (k0_off11 arg8) a + S256x128.size a ≤ S4096x512.size a := fun arg8 k0_hw1 => k0_hw1.2.2.2.2.2.1
theorem k0_mult12_dvd : ∀ (arg8 : BitVec 32) (k0_hw1 : k0_chk1 arg8), 256 ∣ (k0_mult12 arg8).toNat := fun arg8 k0_hw1 => k0_hw1.2.2.2.2.2.2.1
theorem k0_off12_inb : ∀ (arg8 : BitVec 32) (k0_hw1 : k0_chk1 arg8), ∀ a, (k0_off12 arg8) a + S256x128.size a ≤ S4096x512.size a := fun arg8 k0_hw1 => k0_hw1.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "dead" => some ⊤
  | _ => none
-- ==== ReferenceIdeal.lean ====
abbrev S32768x3072 : Shape := ⟨2, ![32768, 3072]⟩
abbrev S32768x1024 : Shape := ⟨2, ![32768, 1024]⟩
abbrev S8x4096x8x128 : Shape := ⟨4, ![8, 4096, 8, 128]⟩
abbrev S8x8x4096x128 : Shape := ⟨4, ![8, 8, 4096, 128]⟩
abbrev S4096 : Shape := ⟨1, ![4096]⟩
abbrev S8x8x32x128x128 : Shape := ⟨5, ![8, 8, 32, 128, 128]⟩
abbrev S32x8x8x128x128 : Shape := ⟨5, ![32, 8, 8, 128, 128]⟩
abbrev S32 : Shape := ⟨1, ![32]⟩
abbrev S_ : Shape := ⟨0, ![]⟩
abbrev S1x8x8x128x128 : Shape := ⟨5, ![1, 8, 8, 128, 128]⟩
abbrev S8x8x128x128 : Shape := ⟨4, ![8, 8, 128, 128]⟩
abbrev S1 : Shape := ⟨1, ![1]⟩
abbrev S8x8x128x4096 : Shape := ⟨4, ![8, 8, 128, 4096]⟩
abbrev S128 : Shape := ⟨1, ![128]⟩
abbrev S1x4096 : Shape := ⟨2, ![1, 4096]⟩
abbrev S128x1 : Shape := ⟨2, ![128, 1]⟩
abbrev S128x4096 : Shape := ⟨2, ![128, 4096]⟩

abbrev nBuf : Space → Nat
  | .hbm => 112
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S32768x3072, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S8x4096x8x128, .f32⟩
  | .hbm, ⟨6, _⟩ => ⟨S8x8x4096x128, .f32⟩
  | .hbm, ⟨7, _⟩ => ⟨S8x4096x8x128, .f32⟩
  | .hbm, ⟨8, _⟩ => ⟨S8x8x4096x128, .f32⟩
  | .hbm, ⟨9, _⟩ => ⟨S8x4096x8x128, .f32⟩
  | .hbm, ⟨10, _⟩ => ⟨S8x8x4096x128, .f32⟩
  | .hbm, ⟨11, _⟩ => ⟨S4096, .i32⟩
  | .hbm, ⟨12, _⟩ => ⟨S8x8x32x128x128, .f32⟩
  | .hbm, ⟨13, _⟩ => ⟨S32x8x8x128x128, .f32⟩
  | .hbm, ⟨14, _⟩ => ⟨S32, .i32⟩
  | .hbm, ⟨15, _⟩ => ⟨S_, .f32⟩
  | .hbm, ⟨16, _⟩ => ⟨S32x8x8x128x128, .f32⟩
  | .hbm, ⟨17, _⟩ => ⟨S_, .i32⟩
  | .hbm, ⟨18, _⟩ => ⟨S32x8x8x128x128, .f32⟩
  | .hbm, ⟨19, _⟩ => ⟨S32, .i32⟩
  | .hbm, ⟨20, _⟩ => ⟨S8x8x4096x128, .f32⟩
  | .hbm, ⟨21, _⟩ => ⟨S4096, .i32⟩
  | .hbm, ⟨22, _⟩ => ⟨S8x8x4096x128, .f32⟩
  | .hbm, ⟨23, _⟩ => ⟨S_, .i32⟩
  | .hbm, ⟨24, _⟩ => ⟨S32x8x8x128x128, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x8x8x128x128, .f32⟩
  | .hbm, ⟨32, _⟩ => ⟨S8x8x128x128, .f32⟩
  | .hbm, ⟨33, _⟩ => ⟨S1, .i32⟩
  | .hbm, ⟨34, _⟩ => ⟨S_, .i32⟩
  | .hbm, ⟨35, _⟩ => ⟨S8x8x128x4096, .f32⟩
  | .hbm, ⟨36, _⟩ => ⟨S_, .f32⟩
  | .hbm, ⟨37, _⟩ => ⟨S8x8x128x4096, .f32⟩
  | .hbm, ⟨38, _⟩ => ⟨S8x8x128x4096, .f32⟩
  | .hbm, ⟨39, _⟩ => ⟨S_, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S1x4096, .i32⟩
  | .hbm, ⟨45, _⟩ => ⟨S128x1, .i32⟩
  | .hbm, ⟨46, _⟩ => ⟨S128x4096, .i32⟩
  | .hbm, ⟨47, _⟩ => ⟨S128x4096, .i32⟩
  | .hbm, ⟨48, _⟩ => ⟨S128x4096, .i1⟩
  | .hbm, ⟨49, _⟩ => ⟨S8x8x128x4096, .f32⟩
  | .hbm, ⟨50, _⟩ => ⟨S8x8x128x4096, .f32⟩
  | .hbm, ⟨51, _⟩ => ⟨S_, .f32⟩
  | .hbm, ⟨52, _⟩ => ⟨S8x8x128x4096, .f32⟩
  | .hbm, ⟨53, _⟩ => ⟨S8x8x128x4096, .f32⟩
  | .hbm, ⟨54, _⟩ => ⟨S8x8x128x4096, .f32⟩
  | .hbm, ⟨55, _⟩ => ⟨S8x8x128x4096, .f32⟩
  | .hbm, ⟨56, _⟩ => ⟨S8x8x128x4096, .i1⟩
  | .hbm, ⟨57, _⟩ => ⟨S8x8x128x4096, .f32⟩
  | .hbm, ⟨58, _⟩ => ⟨S8x8x128x4096, .f32⟩
  | .hbm, ⟨59, _⟩ => ⟨S8x8x128x4096, .f32⟩
  | .hbm, ⟨60, _⟩ => ⟨S8x8x128x4096, .f32⟩
  | .hbm, ⟨61, _⟩ => ⟨S8x8x128x4096, .f32⟩
  | .hbm, ⟨62, _⟩ => ⟨S8x8x128x4096, .f32⟩
  | .hbm, ⟨63, _⟩ => ⟨S8x8x128x4096, .f32⟩
  | .hbm, ⟨64, _⟩ => ⟨S8x8x128x4096, .f32⟩
  | .hbm, ⟨65, _⟩ => ⟨S8x8x128x4096, .f32⟩
  | .hbm, ⟨66, _⟩ => ⟨S_, .f32⟩
  | .hbm, ⟨67, _⟩ => ⟨S_, .f32⟩
  | .hbm, ⟨68, _⟩ => ⟨S8x8x128x4096, .i1⟩
  | .hbm, ⟨69, _⟩ => ⟨S8x8x128x4096, .f32⟩
  | .hbm, ⟨70, _⟩ => ⟨S8x8x128x4096, .f32⟩
  | .hbm, ⟨71, _⟩ => ⟨S_, .f32⟩
  | .hbm, ⟨72, _⟩ => ⟨S_, .f32⟩
  | .hbm, ⟨73, _⟩ => ⟨S8x8x128x4096, .f32⟩
  | .hbm, ⟨74, _⟩ => ⟨S8x8x128x4096, .f32⟩
  | .hbm, ⟨75, _⟩ => ⟨S8x8x128x4096, .f32⟩
  | .hbm, ⟨76, _⟩ => ⟨S_, .f32⟩
  | .hbm, ⟨77, _⟩ => ⟨S8x8x128x4096, .f32⟩
  | .hbm, ⟨78, _⟩ => ⟨S8x8x128x4096, .f32⟩
  | .hbm, ⟨79, _⟩ => ⟨S8x8x128x4096, .f32⟩
  | .hbm, ⟨80, _⟩ => ⟨S8x8x128x4096, .f32⟩
  | .hbm, ⟨81, _⟩ => ⟨S8x8x128x4096, .i1⟩
  | .hbm, ⟨82, _⟩ => ⟨S8x8x128x4096, .f32⟩
  | .hbm, ⟨83, _⟩ => ⟨S8x8x128x4096, .f32⟩
  | .hbm, ⟨84, _⟩ => ⟨S8x8x128x4096, .f32⟩
  | .hbm, ⟨85, _⟩ => ⟨S8x8x128x4096, .f32⟩
  | .hbm, ⟨86, _⟩ => ⟨S8x8x128x4096, .f32⟩
  | .hbm, ⟨87, _⟩ => ⟨S8x8x128x4096, .f32⟩
  | .hbm, ⟨88, _⟩ => ⟨S8x8x128x4096, .f32⟩
  | .hbm, ⟨89, _⟩ => ⟨S8x8x128x4096, .f32⟩
  | .hbm, ⟨90, _⟩ => ⟨S8x8x128x4096, .f32⟩
  | .hbm, ⟨91, _⟩ => ⟨S8x8x128x4096, .f32⟩
  | .hbm, ⟨92, _⟩ => ⟨S8x8x128x4096, .f32⟩
  | .hbm, ⟨93, _⟩ => ⟨S_, .f32⟩
  | .hbm, ⟨94, _⟩ => ⟨S_, .f32⟩
  | .hbm, ⟨95, _⟩ => ⟨S8x8x128x4096, .i1⟩
  | .hbm, ⟨96, _⟩ => ⟨S8x8x128x4096, .f32⟩
  | .hbm, ⟨97, _⟩ => ⟨S8x8x128x4096, .f32⟩
  | .hbm, ⟨98, _⟩ => ⟨S8x8x128x128, .f32⟩
  | .hbm, ⟨99, _⟩ => ⟨S1x8x8x128x128, .f32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S32x8x8x128x128, .f32⟩
  | .hbm, ⟨105, _⟩ => ⟨S_, .i32⟩
  | .hbm, ⟨106, _⟩ => ⟨S_, .i32⟩
  | .hbm, ⟨107, _⟩ => ⟨S8x8x32x128x128, .f32⟩
  | .hbm, ⟨108, _⟩ => ⟨S8x8x4096x128, .f32⟩
  | .hbm, ⟨109, _⟩ => ⟨S8x4096x8x128, .f32⟩
  | .hbm, ⟨110, _⟩ => ⟨S32768x1024, .f32⟩
  | .hbm, ⟨111, _⟩ => ⟨S32768x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_c : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev main_v15_3 : Ref sig .tc := ⟨.hbm, 21, rfl⟩
abbrev main_v15_4 : Ref sig .tc := ⟨.hbm, 22, rfl⟩
abbrev main_v15_5 : Ref sig .tc := ⟨.hbm, 23, rfl⟩
abbrev main_v15_6 : Ref sig .tc := ⟨.hbm, 24, rfl⟩
abbrev main_while0c_c_6 : Ref sig .tc := ⟨.hbm, 25, rfl⟩
abbrev main_while0c_v21 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_c_2 : Ref sig .tc := ⟨.hbm, 30, rfl⟩
abbrev main_while0b_call0_v0 : Ref sig .tc := ⟨.hbm, 31, rfl⟩
abbrev main_while0b_v21 : Ref sig .tc := ⟨.hbm, 32, rfl⟩
abbrev main_while0b_call1_v0 : Ref sig .tc := ⟨.hbm, 33, rfl⟩
abbrev main_while0b_v22 : Ref sig .tc := ⟨.hbm, 34, rfl⟩
abbrev main_while0b_v23 : Ref sig .tc := ⟨.hbm, 35, rfl⟩
abbrev main_while0b_cst_6 : Ref sig .tc := ⟨.hbm, 36, rfl⟩
abbrev main_while0b_v24 : Ref sig .tc := ⟨.hbm, 37, rfl⟩
abbrev main_while0b_v25 : Ref sig .tc := ⟨.hbm, 38, rfl⟩
abbrev main_while0b_c_7 : Ref sig .tc := ⟨.hbm, 39, rfl⟩
abbrev main_while0b_v26 : Ref sig .tc := ⟨.hbm, 40, rfl⟩
abbrev main_while0b_v27 : Ref sig .tc := ⟨.hbm, 41, rfl⟩
abbrev main_while0b_v28 : Ref sig .tc := ⟨.hbm, 42, rfl⟩
abbrev main_while0b_v29 : Ref sig .tc := ⟨.hbm, 43, rfl⟩
abbrev main_while0b_v30 : Ref sig .tc := ⟨.hbm, 44, rfl⟩
abbrev main_while0b_v31 : Ref sig .tc := ⟨.hbm, 45, rfl⟩
abbrev main_while0b_v32 : Ref sig .tc := ⟨.hbm, 46, rfl⟩
abbrev main_while0b_v33 : Ref sig .tc := ⟨.hbm, 47, rfl⟩
abbrev main_while0b_v34 : Ref sig .tc := ⟨.hbm, 48, rfl⟩
abbrev main_while0b_v35 : Ref sig .tc := ⟨.hbm, 49, rfl⟩
abbrev main_while0b_call2_v0 : Ref sig .tc := ⟨.hbm, 50, rfl⟩
abbrev main_while0b_call2_call0_cst : Ref sig .tc := ⟨.hbm, 51, rfl⟩
abbrev main_while0b_call2_call0_v0 : Ref sig .tc := ⟨.hbm, 52, rfl⟩
abbrev main_while0b_call2_call0_v1 : Ref sig .tc := ⟨.hbm, 53, rfl⟩
abbrev main_while0b_call2_call0_v2 : Ref sig .tc := ⟨.hbm, 54, rfl⟩
abbrev main_while0b_call2_call0_v3 : Ref sig .tc := ⟨.hbm, 55, rfl⟩
abbrev main_while0b_call2_call0_v4 : Ref sig .tc := ⟨.hbm, 56, rfl⟩
abbrev main_while0b_call2_call0_v5 : Ref sig .tc := ⟨.hbm, 57, rfl⟩
abbrev main_while0b_call2_call0_v6 : Ref sig .tc := ⟨.hbm, 58, rfl⟩
abbrev main_while0b_call2_call0_v7 : Ref sig .tc := ⟨.hbm, 59, rfl⟩
abbrev main_while0b_call2_call0_v8 : Ref sig .tc := ⟨.hbm, 60, rfl⟩
abbrev main_while0b_call2_call0_v9 : Ref sig .tc := ⟨.hbm, 61, rfl⟩
abbrev main_while0b_call2_call0_v10 : Ref sig .tc := ⟨.hbm, 62, rfl⟩
abbrev main_while0b_call2_call0_v11 : Ref sig .tc := ⟨.hbm, 63, rfl⟩
abbrev main_while0b_call2_v1 : Ref sig .tc := ⟨.hbm, 64, rfl⟩
abbrev main_while0b_v36 : Ref sig .tc := ⟨.hbm, 65, rfl⟩
abbrev main_while0b_cst_8 : Ref sig .tc := ⟨.hbm, 66, rfl⟩
abbrev main_while0b_call3_v0 : Ref sig .tc := ⟨.hbm, 67, rfl⟩
abbrev main_while0b_call3_v1 : Ref sig .tc := ⟨.hbm, 68, rfl⟩
abbrev main_while0b_call3_v2 : Ref sig .tc := ⟨.hbm, 69, rfl⟩
abbrev main_while0b_v37 : Ref sig .tc := ⟨.hbm, 70, rfl⟩
abbrev main_while0b_call4_cst : Ref sig .tc := ⟨.hbm, 71, rfl⟩
abbrev main_while0b_call4_v0 : Ref sig .tc := ⟨.hbm, 72, rfl⟩
abbrev main_while0b_v38 : Ref sig .tc := ⟨.hbm, 73, rfl⟩
abbrev main_while0b_v39 : Ref sig .tc := ⟨.hbm, 74, rfl⟩
abbrev main_while0b_call5_v0 : Ref sig .tc := ⟨.hbm, 75, rfl⟩
abbrev main_while0b_call5_call0_cst : Ref sig .tc := ⟨.hbm, 76, rfl⟩
abbrev main_while0b_call5_call0_v0 : Ref sig .tc := ⟨.hbm, 77, rfl⟩
abbrev main_while0b_call5_call0_v1 : Ref sig .tc := ⟨.hbm, 78, rfl⟩
abbrev main_while0b_call5_call0_v2 : Ref sig .tc := ⟨.hbm, 79, rfl⟩
abbrev main_while0b_call5_call0_v3 : Ref sig .tc := ⟨.hbm, 80, rfl⟩
abbrev main_while0b_call5_call0_v4 : Ref sig .tc := ⟨.hbm, 81, rfl⟩
abbrev main_while0b_call5_call0_v5 : Ref sig .tc := ⟨.hbm, 82, rfl⟩
abbrev main_while0b_call5_call0_v6 : Ref sig .tc := ⟨.hbm, 83, rfl⟩
abbrev main_while0b_call5_call0_v7 : Ref sig .tc := ⟨.hbm, 84, rfl⟩
abbrev main_while0b_call5_call0_v8 : Ref sig .tc := ⟨.hbm, 85, rfl⟩
abbrev main_while0b_call5_call0_v9 : Ref sig .tc := ⟨.hbm, 86, rfl⟩
abbrev main_while0b_call5_call0_v10 : Ref sig .tc := ⟨.hbm, 87, rfl⟩
abbrev main_while0b_call5_call0_v11 : Ref sig .tc := ⟨.hbm, 88, rfl⟩
abbrev main_while0b_call5_v1 : Ref sig .tc := ⟨.hbm, 89, rfl⟩
abbrev main_while0b_v40 : Ref sig .tc := ⟨.hbm, 90, rfl⟩
abbrev main_while0b_v41 : Ref sig .tc := ⟨.hbm, 91, rfl⟩
abbrev main_while0b_v42 : Ref sig .tc := ⟨.hbm, 92, rfl⟩
abbrev main_while0b_cst_9 : Ref sig .tc := ⟨.hbm, 93, rfl⟩
abbrev main_while0b_call6_v0 : Ref sig .tc := ⟨.hbm, 94, rfl⟩
abbrev main_while0b_call6_v1 : Ref sig .tc := ⟨.hbm, 95, rfl⟩
abbrev main_while0b_call6_v2 : Ref sig .tc := ⟨.hbm, 96, rfl⟩
abbrev main_while0b_v43 : Ref sig .tc := ⟨.hbm, 97, rfl⟩
abbrev main_while0b_v44 : Ref sig .tc := ⟨.hbm, 98, rfl⟩
abbrev main_while0b_call7_v0 : Ref sig .tc := ⟨.hbm, 99, rfl⟩
abbrev main_while0b_call7_c : Ref sig .tc := ⟨.hbm, 100, rfl⟩
abbrev main_while0b_call7_c_0 : Ref sig .tc := ⟨.hbm, 101, rfl⟩
abbrev main_while0b_call7_c_1 : Ref sig .tc := ⟨.hbm, 102, rfl⟩
abbrev main_while0b_call7_c_2 : Ref sig .tc := ⟨.hbm, 103, rfl⟩
abbrev main_while0b_v45 : Ref sig .tc := ⟨.hbm, 104, rfl⟩
abbrev main_while0b_c_10 : Ref sig .tc := ⟨.hbm, 105, rfl⟩
abbrev main_while0b_v46 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_v19 : Ref sig .tc := ⟨.hbm, 110, rfl⟩
abbrev main_v20 : Ref sig .tc := ⟨.hbm, 111, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x4096x1024 : Shape := ⟨3, ![8, 4096, 1024]⟩
abbrev S1x1024x9216 : Shape := ⟨3, ![1, 1024, 9216]⟩
abbrev S32768x1024 : Shape := ⟨2, ![32768, 1024]⟩
abbrev S1024x9216 : Shape := ⟨2, ![1024, 9216]⟩
abbrev S1024x3072 : Shape := ⟨2, ![1024, 3072]⟩
abbrev S32768x3072 : Shape := ⟨2, ![32768, 3072]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1x1024x9216, .f32⟩
  | .hbm, ⟨2, _⟩ => ⟨S32768x1024, .f32⟩
  | .hbm, ⟨3, _⟩ => ⟨S1024x9216, .f32⟩
  | .hbm, ⟨4, _⟩ => ⟨S1024x9216, .bf16⟩
  | .hbm, ⟨5, _⟩ => ⟨S1024x3072, .bf16⟩
  | .hbm, ⟨6, _⟩ => ⟨S32768x3072, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x4096x1024 : Shape := ⟨3, ![8, 4096, 1024]⟩
abbrev S1x1024x9216 : Shape := ⟨3, ![1, 1024, 9216]⟩
abbrev S1024x9216 : Shape := ⟨2, ![1024, 9216]⟩
abbrev S8x4096x9216 : Shape := ⟨3, ![8, 4096, 9216]⟩
abbrev S8x4096x3072 : Shape := ⟨3, ![8, 4096, 3072]⟩
abbrev S32768x3072 : Shape := ⟨2, ![32768, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x9216, .f32⟩
  | .hbm, ⟨2, _⟩ => ⟨S1024x9216, .f32⟩
  | .hbm, ⟨3, _⟩ => ⟨S8x4096x9216, .f32⟩
  | .hbm, ⟨4, _⟩ => ⟨S8x4096x3072, .f32⟩
  | .hbm, ⟨5, _⟩ => ⟨S8x4096x3072, .bf16⟩
  | .hbm, ⟨6, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S32768x1024 : Shape := ⟨2, ![32768, 1024]⟩
abbrev S8x4096x1024 : Shape := ⟨3, ![8, 4096, 1024]⟩
abbrev S1x1024x9216 : Shape := ⟨3, ![1, 1024, 9216]⟩
abbrev S1x1024x1024 : Shape := ⟨3, ![1, 1024, 1024]⟩
abbrev S1x1024 : Shape := ⟨2, ![1, 1024]⟩
abbrev S1024x9216 : Shape := ⟨2, ![1024, 9216]⟩
abbrev S1024x2048 : Shape := ⟨2, ![1024, 2048]⟩
abbrev S1024x1024 : Shape := ⟨2, ![1024, 1024]⟩
abbrev S1024 : Shape := ⟨1, ![1024]⟩
abbrev S131072x128 : Shape := ⟨2, ![131072, 128]⟩
abbrev S512x1024 : Shape := ⟨2, ![512, 1024]⟩
abbrev S2048x128 : Shape := ⟨2, ![2048, 128]⟩
abbrev S512 : Shape := ⟨1, ![512]⟩
abbrev S512x1 : Shape := ⟨2, ![512, 1]⟩
abbrev S512x128 : Shape := ⟨2, ![512, 128]⟩

abbrev nBuf : Space → Nat
  | .hbm => 25
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S8x4096x1024, .f32⟩
  | .hbm, ⟨3, _⟩ => ⟨S1x1024x9216, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S32768x1024, .f32⟩
  | .hbm, ⟨10, _⟩ => ⟨S1024x9216, .f32⟩
  | .hbm, ⟨11, _⟩ => ⟨S1024x9216, .bf16⟩
  | .hbm, ⟨12, _⟩ => ⟨S1024x2048, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S32768x1024, .f32⟩
  | .hbm, ⟨24, _⟩ => ⟨S131072x128, .i32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S2048x128, .i32⟩
  | .local _ .vmem, ⟨15, _⟩ => ⟨S2048x128, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel3Ideal.lean ====
abbrev S32768x1024 : Shape := ⟨2, ![32768, 1024]⟩
abbrev S8x4096x1024 : Shape := ⟨3, ![8, 4096, 1024]⟩
abbrev S1x1024x9216 : Shape := ⟨3, ![1, 1024, 9216]⟩
abbrev S1x1024x1024 : Shape := ⟨3, ![1, 1024, 1024]⟩
abbrev S1x1024 : Shape := ⟨2, ![1, 1024]⟩
abbrev S1024x9216 : Shape := ⟨2, ![1024, 9216]⟩
abbrev S1024x2048 : Shape := ⟨2, ![1024, 2048]⟩
abbrev S1024x1024 : Shape := ⟨2, ![1024, 1024]⟩
abbrev S1024 : Shape := ⟨1, ![1024]⟩
abbrev S131072x2x128 : Shape := ⟨3, ![131072, 2, 128]⟩
abbrev S131072x1x128 : Shape := ⟨3, ![131072, 1, 128]⟩
abbrev S131072x128 : Shape := ⟨2, ![131072, 128]⟩
abbrev S512x1024 : Shape := ⟨2, ![512, 1024]⟩
abbrev S2048x128 : Shape := ⟨2, ![2048, 128]⟩
abbrev S2048x2x128 : Shape := ⟨3, ![2048, 2, 128]⟩
abbrev S2048x1x128 : Shape := ⟨3, ![2048, 1, 128]⟩
abbrev S512 : Shape := ⟨1, ![512]⟩
abbrev S512x1 : Shape := ⟨2, ![512, 1]⟩
abbrev S512x128 : Shape := ⟨2, ![512, 128]⟩
abbrev S512x2x128 : Shape := ⟨3, ![512, 2, 128]⟩
abbrev S512x1x128 : Shape := ⟨3, ![512, 1, 128]⟩

abbrev nBuf : Space → Nat
  | .hbm => 25
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S8x4096x1024, .f32⟩
  | .hbm, ⟨3, _⟩ => ⟨S1x1024x9216, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S32768x1024, .f32⟩
  | .hbm, ⟨10, _⟩ => ⟨S1024x9216, .f32⟩
  | .hbm, ⟨11, _⟩ => ⟨S1024x9216, .bf16⟩
  | .hbm, ⟨12, _⟩ => ⟨S1024x2048, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S32768x1024, .f32⟩
  | .hbm, ⟨24, _⟩ => ⟨S131072x2x128, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S2048x2x128, .bf16⟩
  | .local _ .vmem, ⟨15, _⟩ => ⟨S2048x2x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x2x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x1024 : Shape := ⟨2, ![32768, 1024]⟩
abbrev S8x4096x1024 : Shape := ⟨3, ![8, 4096, 1024]⟩
abbrev S1x1024x9216 : Shape := ⟨3, ![1, 1024, 9216]⟩
abbrev S1x1024x1024 : Shape := ⟨3, ![1, 1024, 1024]⟩
abbrev S1x1024 : Shape := ⟨2, ![1, 1024]⟩
abbrev S1024x9216 : Shape := ⟨2, ![1024, 9216]⟩
abbrev S8x4096x9216 : Shape := ⟨3, ![8, 4096, 9216]⟩
abbrev S8x4096x2048 : Shape := ⟨3, ![8, 4096, 2048]⟩
abbrev S1024x1024 : Shape := ⟨2, ![1024, 1024]⟩
abbrev S_ : Shape := ⟨0, ![]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S8x4096x1024, .f32⟩
  | .hbm, ⟨3, _⟩ => ⟨S1x1024x9216, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1024x9216, .f32⟩
  | .hbm, ⟨10, _⟩ => ⟨S8x4096x9216, .f32⟩
  | .hbm, ⟨11, _⟩ => ⟨S8x4096x2048, .f32⟩
  | .hbm, ⟨12, _⟩ => ⟨S8x4096x1024, .f32⟩
  | .hbm, ⟨13, _⟩ => ⟨S8x4096x1024, .f32⟩
  | .hbm, ⟨14, _⟩ => ⟨S32768x1024, .f32⟩
  | .hbm, ⟨15, _⟩ => ⟨S8x4096x1024, .f32⟩
  | .hbm, ⟨16, _⟩ => ⟨S1024x1024, .f32⟩
  | .hbm, ⟨17, _⟩ => ⟨S8x4096x1024, .f32⟩
  | .hbm, ⟨18, _⟩ => ⟨S32768x1024, .f32⟩
  | .hbm, ⟨19, _⟩ => ⟨S8x4096x1024, .f32⟩
  | .hbm, ⟨20, _⟩ => ⟨S1024x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S1024x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S1x1x1024, .f32⟩
  | .hbm, ⟨73, _⟩ => ⟨S8x4096x1024, .f32⟩
  | .hbm, ⟨74, _⟩ => ⟨S8x4096x1024, .f32⟩
  | .hbm, ⟨75, _⟩ => ⟨S1x1x1024, .f32⟩
  | .hbm, ⟨76, _⟩ => ⟨S8x4096x1024, .f32⟩
  | .hbm, ⟨77, _⟩ => ⟨S8x4096x1024, .f32⟩
  | .hbm, ⟨78, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x1024x9216 : Shape := ⟨3, ![1, 1024, 9216]⟩
abbrev S2x1024 : Shape := ⟨2, ![2, 1024]⟩
abbrev S1x1024 : Shape := ⟨2, ![1, 1024]⟩
abbrev S_ : Shape := ⟨0, ![]⟩
abbrev S1024 : Shape := ⟨1, ![1024]⟩
abbrev S32768x1024 : Shape := ⟨2, ![32768, 1024]⟩
abbrev S1024x9216 : Shape := ⟨2, ![1024, 9216]⟩
abbrev S1024x4096 : Shape := ⟨2, ![1024, 4096]⟩
abbrev S256x1024 : Shape := ⟨2, ![256, 1024]⟩
abbrev S8x128x128 : Shape := ⟨3, ![8, 128, 128]⟩
abbrev S256x256 : Shape := ⟨2, ![256, 256]⟩
abbrev S1024x1024 : Shape := ⟨2, ![1024, 1024]⟩
abbrev S1x128 : Shape := ⟨2, ![1, 128]⟩
abbrev S256x128 : Shape := ⟨2, ![256, 128]⟩
abbrev S1x128x128 : Shape := ⟨3, ![1, 128, 128]⟩
abbrev S128x128 : Shape := ⟨2, ![128, 128]⟩
abbrev S32x128 : Shape := ⟨2, ![32, 128]⟩
abbrev S256 : Shape := ⟨1, ![256]⟩
abbrev S256x1 : Shape := ⟨2, ![256, 1]⟩

abbrev nBuf : Space → Nat
  | .hbm => 31
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024x9216, .f32⟩
  | .hbm, ⟨2, _⟩ => ⟨S2x1024, .f32⟩
  | .hbm, ⟨3, _⟩ => ⟨S1x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S_, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S32768x1024, .f32⟩
  | .hbm, ⟨24, _⟩ => ⟨S1024x9216, .f32⟩
  | .hbm, ⟨25, _⟩ => ⟨S1024x9216, .bf16⟩
  | .hbm, ⟨26, _⟩ => ⟨S1024x4096, .bf16⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S8x128x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x4096x1024 : Shape := ⟨3, ![8, 4096, 1024]⟩
abbrev S1x1024x9216 : Shape := ⟨3, ![1, 1024, 9216]⟩
abbrev S2x1024 : Shape := ⟨2, ![2, 1024]⟩
abbrev S1x1024 : Shape := ⟨2, ![1, 1024]⟩
abbrev S_ : Shape := ⟨0, ![]⟩
abbrev S1024 : Shape := ⟨1, ![1024]⟩
abbrev S1024x9216 : Shape := ⟨2, ![1024, 9216]⟩
abbrev S8x4096x9216 : Shape := ⟨3, ![8, 4096, 9216]⟩
abbrev S1x1x1024 : Shape := ⟨3, ![1, 1, 1024]⟩
abbrev S8x4096x8x128 : Shape := ⟨4, ![8, 4096, 8, 128]⟩
abbrev S8x128x32x8x128 : Shape := ⟨5, ![8, 128, 32, 8, 128]⟩
abbrev S128x8x8x32x128 : Shape := ⟨5, ![128, 8, 8, 32, 128]⟩
abbrev S128x8x8x1x128 : Shape := ⟨5, ![128, 8, 8, 1, 128]⟩
abbrev S32x32 : Shape := ⟨2, ![32, 32]⟩
abbrev S128x8x8x32x32 : Shape := ⟨5, ![128, 8, 8, 32, 32]⟩
abbrev S8x8x128x128 : Shape := ⟨4, ![8, 8, 128, 128]⟩
abbrev S1x8x8x32x128 : Shape := ⟨5, ![1, 8, 8, 32, 128]⟩
abbrev S8x8x32x128 : Shape := ⟨4, ![8, 8, 32, 128]⟩
abbrev S1x8x8x1x128 : Shape := ⟨5, ![1, 8, 8, 1, 128]⟩
abbrev S8x8x1x128 : Shape := ⟨4, ![8, 8, 1, 128]⟩
abbrev S8x8x128 : Shape := ⟨3, ![8, 8, 128]⟩
abbrev S8x8x128x1 : Shape := ⟨4, ![8, 8, 128, 1]⟩
abbrev S8x4096x8 : Shape := ⟨3, ![8, 4096, 8]⟩
abbrev S8x4096x8x1 : Shape := ⟨4, ![8, 4096, 8, 1]⟩
abbrev S8x128 : Shape := ⟨2, ![8, 128]⟩
abbrev S1x1x8x128 : Shape := ⟨4, ![1, 1, 8, 128]⟩
abbrev S32768x1024 : Shape := ⟨2, ![32768, 1024]⟩

abbrev nBuf : Space → Nat
  | .hbm => 194
  | .vmem => 0
  | .smem => 0
  | _ => 0

abbrev hbmTy0_0 (i : Nat) : BufTy := match i % 128 with
  | 0 => ⟨S8x4096x1024, .f32⟩
  | 1 => ⟨S1x1024x9216, .f32⟩
  | 2 => ⟨S2x1024, .f32⟩
  | 3 => ⟨S1x1024, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S1024x9216, .f32⟩
  | 24 => ⟨S8x4096x9216, .f32⟩
  | 25 => ⟨S8x4096x1024, .f32⟩
  | 26 => ⟨S8x4096x1024, .f32⟩
  | 27 => ⟨S8x4096x1024, .f32⟩
  | 28 => ⟨S8x4096x1024, .f32⟩
  | 29 => ⟨S_, .f32⟩
  | 30 => ⟨S1024, .f32⟩
  | 31 => ⟨S1024, .f32⟩
  | 32 => ⟨S8x4096x1024, .f32⟩
  | 33 => ⟨S8x4096x1024, .f32⟩
  | 34 => ⟨S_, .f32⟩
  | 35 => ⟨S8x4096x1024, .f32⟩
  | 36 => ⟨S8x4096x1024, .f32⟩
  | 37 => ⟨S_, .f32⟩
  | 38 => ⟨S8x4096x1024, .f32⟩
  | 39 => ⟨S8x4096x1024, .f32⟩
  | 40 => ⟨S1x1x1024, .f32⟩
  | 41 => ⟨S8x4096x1024, .f32⟩
  | 42 => ⟨S8x4096x1024, .f32⟩
  | 43 => ⟨S1x1x1024, .f32⟩
  | 44 => ⟨S8x4096x1024, .f32⟩
  | 45 => ⟨S8x4096x1024, .f32⟩
  | 46 => ⟨S8x4096x1024, .f32⟩
  | 47 => ⟨S_, .f32⟩
  | 48 => ⟨S1024, .f32⟩
  | 49 => ⟨S1024, .f32⟩
  | 50 => ⟨S8x4096x1024, .f32⟩
  | 51 => ⟨S8x4096x1024, .f32⟩
  | 52 => ⟨S8x4096x1024, .f32⟩
  | 53 => ⟨S_, .f32⟩
  | 54 => ⟨S8x4096x1024, .f32⟩
  | 55 => ⟨S8x4096x1024, .f32⟩
  | 56 => ⟨S_, .f32⟩
  | 57 => ⟨S8x4096x1024, .f32⟩
  | 58 => ⟨S8x4096x1024, .f32⟩
  | 59 => ⟨S1x1x1024, .f32⟩
  | 60 => ⟨S8x4096x1024, .f32⟩
  | 61 => ⟨S8x4096x1024, .f32⟩
  | 62 => ⟨S8x4096x8x128, .f32⟩
  | 63 => ⟨S8x4096x8x128, .f32⟩
  | 64 => ⟨S8x4096x8x128, .f32⟩
  | 65 => ⟨S8x4096x8x128, .f32⟩
  | 66 => ⟨S8x128x32x8x128, .f32⟩
  | 67 => ⟨S128x8x8x32x128, .f32⟩
  | 68 => ⟨S8x128x32x8x128, .f32⟩
  | 69 => ⟨S128x8x8x32x128, .f32⟩
  | 70 => ⟨S8x128x32x8x128, .f32⟩
  | 71 => ⟨S128x8x8x32x128, .f32⟩
  | 72 => ⟨S8x128x32x8x128, .f32⟩
  | 73 => ⟨S128x8x8x32x128, .f32⟩
  | 74 => ⟨S_, .f32⟩
  | 75 => ⟨S_, .f32⟩
  | 76 => ⟨S128x8x8x32x128, .f32⟩
  | 77 => ⟨S128x8x8x1x128, .f32⟩
  | 78 => ⟨S128x8x8x32x128, .f32⟩
  | 79 => ⟨S128x8x8x32x128, .f32⟩
  | 80 => ⟨S128x8x8x32x128, .f32⟩
  | 81 => ⟨S128x8x8x32x128, .f32⟩
  | 82 => ⟨S128x8x8x32x128, .f32⟩
  | 83 => ⟨S128x8x8x32x128, .f32⟩
  | 84 => ⟨S128x8x8x32x128, .f32⟩
  | 85 => ⟨S128x8x8x32x128, .f32⟩
  | 86 => ⟨S128x8x8x32x128, .f32⟩
  | 87 => ⟨S128x8x8x32x128, .f32⟩
  | 88 => ⟨S_, .i1⟩
  | 89 => ⟨S32x32, .i1⟩
  | 90 => ⟨S32x32, .i32⟩
  | 91 => ⟨S_, .i32⟩
  | 92 => ⟨S32x32, .i32⟩
  | 93 => ⟨S32x32, .i32⟩
  | 94 => ⟨S32x32, .i32⟩
  | 95 => ⟨S32x32, .i1⟩
  | 96 => ⟨S_, .i1⟩
  | 97 => ⟨S32x32, .i1⟩
  | 98 => ⟨S32x32, .i1⟩
  | 99 => ⟨S128x8x8x32x32, .f32⟩
  | 100 => ⟨S_, .f32⟩
  | 101 => ⟨S_, .f32⟩
  | 102 => ⟨S128x8x8x32x32, .i1⟩
  | 103 => ⟨S128x8x8x32x32, .f32⟩
  | 104 => ⟨S128x8x8x32x32, .f32⟩
  | 105 => ⟨S128x8x8x32x128, .f32⟩
  | 106 => ⟨S_, .f32⟩
  | 107 => ⟨S8x8x128x128, .f32⟩
  | 108 => ⟨S_, .f32⟩
  | 109 => ⟨S128x8x8x32x128, .f32⟩
  | 110 => ⟨S_, .i32⟩
  | 111 => ⟨S128x8x8x32x128, .f32⟩
  | 112 => ⟨S128x8x8x32x128, .f32⟩
  | 113 => ⟨S128x8x8x32x128, .f32⟩
  | 114 => ⟨S128x8x8x1x128, .f32⟩
  | 115 => ⟨S_, .i32⟩
  | 116 => ⟨S8x8x128x128, .f32⟩
  | 117 => ⟨S128x8x8x32x128, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1x8x8x32x128, .f32⟩
  | 125 => ⟨S8x8x32x128, .f32⟩
  | 126 => ⟨S_, .i32⟩
  | 127 => ⟨S_, .i32⟩
  | _ => ⟨S8x4096x1024, .f32⟩

abbrev hbmTy0_1 (i : Nat) : BufTy := match i % 128 with
  | 0 => ⟨S_, .i32⟩
  | 1 => ⟨S_, .i32⟩
  | 2 => ⟨S1x8x8x32x128, .f32⟩
  | 3 => ⟨S8x8x32x128, .f32⟩
  | 4 => ⟨S_, .i32⟩
  | 5 => ⟨S_, .i32⟩
  | 6 => ⟨S_, .i32⟩
  | 7 => ⟨S_, .i32⟩
  | 8 => ⟨S1x8x8x32x128, .f32⟩
  | 9 => ⟨S8x8x32x128, .f32⟩
  | 10 => ⟨S_, .i32⟩
  | 11 => ⟨S_, .i32⟩
  | 12 => ⟨S_, .i32⟩
  | 13 => ⟨S_, .i32⟩
  | 14 => ⟨S1x8x8x1x128, .f32⟩
  | 15 => ⟨S8x8x1x128, .f32⟩
  | 16 => ⟨S8x8x32x128, .f32⟩
  | 17 => ⟨S8x8x1x128, .f32⟩
  | 18 => ⟨S8x8x128, .f32⟩
  | 19 => ⟨S8x8x128x1, .f32⟩
  | 20 => ⟨S8x8x128x128, .f32⟩
  | 21 => ⟨S8x8x128x128, .f32⟩
  | 22 => ⟨S8x8x128x128, .f32⟩
  | 23 => ⟨S8x8x128x128, .f32⟩
  | 24 => ⟨S1x8x8x32x128, .f32⟩
  | 25 => ⟨S_, .i32⟩
  | 26 => ⟨S_, .i32⟩
  | 27 => ⟨S_, .i32⟩
  | 28 => ⟨S_, .i32⟩
  | 29 => ⟨S128x8x8x32x128, .f32⟩
  | 30 => ⟨S_, .i32⟩
  | 31 => ⟨S_, .i32⟩
  | 32 => ⟨S128x8x8x32x128, .f32⟩
  | 33 => ⟨S8x128x32x8x128, .f32⟩
  | 34 => ⟨S8x4096x8x128, .f32⟩
  | 35 => ⟨S8x4096x8x128, .f32⟩
  | 36 => ⟨S_, .f32⟩
  | 37 => ⟨S8x4096x8, .f32⟩
  | 38 => ⟨S8x4096x8x1, .f32⟩
  | 39 => ⟨S_, .f32⟩
  | 40 => ⟨S8x4096x8x1, .f32⟩
  | 41 => ⟨S8x4096x8x1, .f32⟩
  | 42 => ⟨S_, .f32⟩
  | 43 => ⟨S8x4096x8x1, .f32⟩
  | 44 => ⟨S8x4096x8x1, .f32⟩
  | 45 => ⟨S8x4096x8x1, .f32⟩
  | 46 => ⟨S8x4096x8x128, .f32⟩
  | 47 => ⟨S8x4096x8x128, .f32⟩
  | 48 => ⟨S1024, .f32⟩
  | 49 => ⟨S8x128, .f32⟩
  | 50 => ⟨S1x1x8x128, .f32⟩
  | 51 => ⟨S8x4096x8x128, .f32⟩
  | 52 => ⟨S8x4096x8x128, .f32⟩
  | 53 => ⟨S8x4096x1024, .f32⟩
  | 54 => ⟨S8x4096x1024, .f32⟩
  | 55 => ⟨S8x4096x1024, .f32⟩
  | 56 => ⟨S_, .f32⟩
  | 57 => ⟨S8x4096x1024, .f32⟩
  | 58 => ⟨S8x4096x1024, .f32⟩
  | 59 => ⟨S_, .f32⟩
  | 60 => ⟨S8x4096x1024, .f32⟩
  | 61 => ⟨S8x4096x1024, .f32⟩
  | 62 => ⟨S8x4096x1024, .f32⟩
  | 63 => ⟨S8x4096x1024, .f32⟩
  | 64 => ⟨S32768x1024, .f32⟩
  | 65 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call1_call0_cst : Ref sig .tc := ⟨.hbm, 74, rfl⟩
abbrev main_call1_call0_v0 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c : Ref sig .tc := ⟨.hbm, 88, rfl⟩
abbrev main_v71 : Ref sig .tc := ⟨.hbm, 89, rfl⟩
abbrev main_call2_v0 : Ref sig .tc := ⟨.hbm, 90, rfl⟩
abbrev main_call2_c : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_0 : Ref sig .tc := ⟨.hbm, 96, rfl⟩
abbrev main_call2_v5 : Ref sig .tc := ⟨.hbm, 97, rfl⟩
abbrev main_v72 : Ref sig .tc := ⟨.hbm, 98, rfl⟩
abbrev main_v73 : Ref sig .tc := ⟨.hbm, 99, rfl⟩
abbrev main_cst_8 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v74 : Ref sig .tc := ⟨.hbm, 104, rfl⟩
abbrev main_v75 : Ref sig .tc := ⟨.hbm, 105, rfl⟩
abbrev main_cst_9 : Ref sig .tc := ⟨.hbm, 106, rfl⟩
abbrev main_v76 : Ref sig .tc := ⟨.hbm, 107, rfl⟩
abbrev main_cst_10 : Ref sig .tc := ⟨.hbm, 108, rfl⟩
abbrev main_v77 : Ref sig .tc := ⟨.hbm, 109, rfl⟩
abbrev main_c_11 : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_v78_5 : Ref sig .tc := ⟨.hbm, 116, rfl⟩
abbrev main_v78_6 : Ref sig .tc := ⟨.hbm, 117, rfl⟩
abbrev main_while0c_c_21 : Ref sig .tc := ⟨.hbm, 118, rfl⟩
abbrev main_while0c_v102 : Ref sig .tc := ⟨.hbm, 119, rfl⟩
abbrev main_while0b_call4_c : Ref sig .tc := ⟨.hbm, 120, rfl⟩
abbrev main_while0b_call4_c_0 : Ref sig .tc := ⟨.hbm, 121, rfl⟩
abbrev main_while0b_call4_c_1 : Ref sig .tc := ⟨.hbm, 122, rfl⟩
abbrev main_while0b_call4_c_2 : Ref sig .tc := ⟨.hbm, 123, rfl⟩
abbrev main_while0b_call4_v0 : Ref sig .tc := ⟨.hbm, 124, rfl⟩
abbrev main_while0b_v102 : Ref sig .tc := ⟨.hbm, 125, rfl⟩
abbrev main_while0b_call5_c : Ref sig .tc := ⟨.hbm, 126, rfl⟩
abbrev main_while0b_call5_c_0 : Ref sig .tc := ⟨.hbm, 127, rfl⟩
abbrev main_while0b_call5_c_1 : Ref sig .tc := ⟨.hbm, 128, rfl⟩
abbrev main_while0b_call5_c_2 : Ref sig .tc := ⟨.hbm, 129, rfl⟩
abbrev main_while0b_call5_v0 : Ref sig .tc := ⟨.hbm, 130, rfl⟩
abbrev main_while0b_v103 : Ref sig .tc := ⟨.hbm, 131, rfl⟩
abbrev main_while0b_call6_c : Ref sig .tc := ⟨.hbm, 132, rfl⟩
abbrev main_while0b_call6_c_0 : Ref sig .tc := ⟨.hbm, 133, rfl⟩
abbrev main_while0b_call6_c_1 : Ref sig .tc := ⟨.hbm, 134, rfl⟩
abbrev main_while0b_call6_c_2 : Ref sig .tc := ⟨.hbm, 135, rfl⟩
abbrev main_while0b_call6_v0 : Ref sig .tc := ⟨.hbm, 136, rfl⟩
abbrev main_while0b_v104 : Ref sig .tc := ⟨.hbm, 137, rfl⟩
abbrev main_while0b_call7_c : Ref sig .tc := ⟨.hbm, 138, rfl⟩
abbrev main_while0b_call7_c_0 : Ref sig .tc := ⟨.hbm, 139, rfl⟩
abbrev main_while0b_call7_c_1 : Ref sig .tc := ⟨.hbm, 140, rfl⟩
abbrev main_while0b_call7_c_2 : Ref sig .tc := ⟨.hbm, 141, rfl⟩
abbrev main_while0b_call7_v0 : Ref sig .tc := ⟨.hbm, 142, rfl⟩
abbrev main_while0b_v105 : Ref sig .tc := ⟨.hbm, 143, rfl⟩
abbrev main_while0b_v106 : Ref sig .tc := ⟨.hbm, 144, rfl⟩
abbrev main_while0b_v107 : Ref sig .tc := ⟨.hbm, 145, rfl⟩
abbrev main_while0b_v108 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_call8_v0 : Ref sig .tc := ⟨.hbm, 152, rfl⟩
abbrev main_while0b_call8_c : Ref sig .tc := ⟨.hbm, 153, rfl⟩
abbrev main_while0b_call8_c_0 : Ref sig .tc := ⟨.hbm, 154, rfl⟩
abbrev main_while0b_call8_c_1 : Ref sig .tc := ⟨.hbm, 155, rfl⟩
abbrev main_while0b_call8_c_2 : Ref sig .tc := ⟨.hbm, 156, rfl⟩
abbrev main_while0b_v114 : Ref sig .tc := ⟨.hbm, 157, rfl⟩
abbrev main_while0b_c_21 : Ref sig .tc := ⟨.hbm, 158, rfl⟩
abbrev main_while0b_v115 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_cst_12 : Ref sig .tc := ⟨.hbm, 164, rfl⟩
abbrev main_v83 : Ref sig .tc := ⟨.hbm, 165, rfl⟩
abbrev main_v84 : Ref sig .tc := ⟨.hbm, 166, rfl⟩
abbrev main_cst_13 : Ref sig .tc := ⟨.hbm, 167, rfl⟩
abbrev main_v85 : Ref sig .tc := ⟨.hbm, 168, rfl⟩
abbrev main_v86 : Ref sig .tc := ⟨.hbm, 169, rfl⟩
abbrev main_cst_14 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_call9_v0 : Ref sig .tc := ⟨.hbm, 182, rfl⟩
abbrev main_call9_v1 : Ref sig .tc := ⟨.hbm, 183, rfl⟩
abbrev main_call9_cst : Ref sig .tc := ⟨.hbm, 184, rfl⟩
abbrev main_call9_v2 : Ref sig .tc := ⟨.hbm, 185, rfl⟩
abbrev main_call9_v3 : Ref sig .tc := ⟨.hbm, 186, rfl⟩
abbrev main_call9_cst_0 : Ref sig .tc := ⟨.hbm, 187, rfl⟩
abbrev main_call9_v4 : Ref sig .tc := ⟨.hbm, 188, rfl⟩
abbrev main_call9_v5 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩

abbrev nD : Nat := 1
abbrev τ : Topo := Topo.v7x

variable {F : FTy → Type} [FloatOps F]

abbrev main_while0_count : Scf.Loop 32 := ⟨0#32, 128#32, 1#32⟩
-- ==== Kernel5.lean ====
abbrev S8x32768 : Shape := ⟨2, ![8, 32768]⟩
abbrev S256 : Shape := ⟨1, ![256]⟩
abbrev S256x1 : Shape := ⟨2, ![256, 1]⟩
abbrev S8x256 : Shape := ⟨2, ![8, 256]⟩
abbrev S256x256 : Shape := ⟨2, ![256, 256]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S8x32768, .i32⟩
  | .hbm, ⟨1, _⟩ => ⟨S8x32768, .i32⟩
  | .hbm, ⟨2, _⟩ => ⟨S256, .i32⟩
  | .hbm, ⟨3, _⟩ => ⟨S256, .f32⟩
  | .hbm, ⟨4, _⟩ => ⟨S256x1, .f32⟩
  | .hbm, ⟨5, _⟩ => ⟨S8x32768, .i32⟩
  | .hbm, ⟨6, _⟩ => ⟨S8x32768, .i32⟩
  | .local _ .vmem, ⟨0, _⟩ => ⟨S8x256, .i32⟩
  | .local _ .vmem, ⟨1, _⟩ => ⟨S8x256, .i32⟩
  | .local _ .vmem, ⟨2, _⟩ => ⟨S8x256, .i32⟩
  | .local _ .vmem, ⟨3, _⟩ => ⟨S8x256, .i32⟩
  | .local _ .vmem, ⟨4, _⟩ => ⟨S256x1, .f32⟩
  | .local _ .vmem, ⟨5, _⟩ => ⟨S8x256, .i32⟩
  | .local _ .vmem, ⟨6, _⟩ => ⟨S8x256, .i32⟩
  | .local _ .vmem, ⟨7, _⟩ => ⟨S8x256, .i32⟩
  | .local _ .vmem, ⟨8, _⟩ => ⟨S8x256, .i32⟩
  | _, _ => ⟨S8x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x32768 : Shape := ⟨2, ![8, 32768]⟩
abbrev S256 : Shape := ⟨1, ![256]⟩
abbrev S_ : Shape := ⟨0, ![]⟩
abbrev S8x32768x1 : Shape := ⟨3, ![8, 32768, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x32768, .i32⟩
  | .hbm, ⟨1, _⟩ => ⟨S8x32768, .i32⟩
  | .hbm, ⟨2, _⟩ => ⟨S256, .i32⟩
  | .hbm, ⟨3, _⟩ => ⟨S_, .i32⟩
  | .hbm, ⟨4, _⟩ => ⟨S8x32768, .i32⟩
  | .hbm, ⟨5, _⟩ => ⟨S8x32768, .i1⟩
  | .hbm, ⟨6, _⟩ => ⟨S_, .i32⟩
  | .hbm, ⟨7, _⟩ => ⟨S8x32768, .i32⟩
  | .hbm, ⟨8, _⟩ => ⟨S8x32768, .i32⟩
  | .hbm, ⟨9, _⟩ => ⟨S8x32768, .i32⟩
  | .hbm, ⟨10, _⟩ => ⟨S8x32768x1, .i32⟩
  | .hbm, ⟨11, _⟩ => ⟨S8x32768, .i32⟩
  | .hbm, ⟨12, _⟩ => ⟨S8x32768, .i32⟩
  | .hbm, ⟨13, _⟩ => ⟨S_, .i32⟩
  | .hbm, ⟨14, _⟩ => ⟨S8x32768, .i32⟩
  | .hbm, ⟨15, _⟩ => ⟨S8x32768, .i32⟩
  | .hbm, ⟨16, _⟩ => ⟨S_, .i32⟩
  | .hbm, ⟨17, _⟩ => ⟨S8x32768, .i32⟩
  | .hbm, ⟨18, _⟩ => ⟨S8x32768, .i32⟩
  | _, _ => ⟨S8x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.SbI.Setup.lean ====
/-
  The launch of the stick-breaking kernel: @main's host operations up to the pipelined region, the array each window
  stages as the region finds it, the block of it a grid point is handed, and the staging buffers a point's body runs on.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The kernel's variants are the naturals: the trips the loop may still make. -/
abbrev 𝒱₀ : Variants := Variants.nat

/-- Core `c`'s buffers once the host operations before the region have run. -/
abbrev entryV (c : Dev nD) (b : Ref sig .tc) : Buf (Elt F) ((c : Thread nD τ).loc b) :=
  StableHlo.after hostOps0 (fun b => m (c, b)) b

/-- None of the host operations leaves a buffer undetermined. -/
theorem hostOps0_noFresh : (hostOps0 : List (HloOp τ sig (Elt F))).Forall fun op => op.fresh = ∅ := by
  simp only [List.Forall]; repeat' constructor

set_option maxHeartbeats 800000 in
/-- @main is those host operations, then the region. -/
theorem main_prefix : Pipeline.HMain (Ix := Unit) (Name := ℕ) (U := UR sig nD τ) (Lvl := ℕ) cfgs 0 defs₀ 𝒱₀ m
    (main (F := F)) (entryV m) :=
  Pipeline.hmain_prefix cfgs 0 defs₀ 𝒱₀ m main hostOps0 hostOps0_sub hostOps0_noFresh main_chain

/-- The argument reaches the region as it was launched: no host operation writes it. -/
theorem entryV_arg0 (c : Dev nD) : entryV m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The block of window `w`'s array that grid point `t` is handed. -/
def blockIn (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (entryV m c (Pipeline.arrRef spec0 w))

/-- For proof data whose array `w` is the one the region finds and whose body leaves the block in place, the staging
    buffer of an input window holds its block at every point. -/
theorem before0_of {c : Dev nD} (dat : Dat τ (Elt F) Unit ℕ (UR sig nD τ) ℕ (cfg0 (F := F)) c)
    (hA : dat.A 0 = entryV m c (Pipeline.arrRef spec0 0)) (ha : ∀ t, dat.after 0 t = blockIn m c 0 t) (t : Fin (cfg0 (F := F)).N) (d) :
    dat.before 0 t d = blockIn m c 0 t :=
  (dat.before_in_eq_fetched 0 rfl (fun _ => rfl) (fun _ _ _ => rfl)
      (fun t => by rw [ha]; unfold Dat.blockOf blockIn; rw [hA]; try rfl) t d).trans
    (by unfold Dat.fetched Dat.blockOf blockIn; rw [hA]; try rfl)
theorem before1_of {c : Dev nD} (dat : Dat τ (Elt F) Unit ℕ (UR sig nD τ) ℕ (cfg0 (F := F)) c)
    (hA : dat.A 1 = entryV m c (Pipeline.arrRef spec0 1)) (ha : ∀ t, dat.after 1 t = blockIn m c 1 t) (t : Fin (cfg0 (F := F)).N) (d) :
    dat.before 1 t d = blockIn m c 1 t :=
  (dat.before_in_eq_fetched 1 rfl (fun _ => rfl) (fun _ _ _ => rfl)
      (fun t => by rw [ha]; unfold Dat.blockOf blockIn; rw [hA]; try rfl) t d).trans
    (by unfold Dat.fetched Dat.blockOf blockIn; rw [hA]; try rfl)
theorem before2_of {c : Dev nD} (dat : Dat τ (Elt F) Unit ℕ (UR sig nD τ) ℕ (cfg0 (F := F)) c)
    (hA : dat.A 2 = entryV m c (Pipeline.arrRef spec0 2)) (ha : ∀ t, dat.after 2 t = blockIn m c 2 t) (t : Fin (cfg0 (F := F)).N) (d) :
    dat.before 2 t d = blockIn m c 2 t :=
  (dat.before_in_eq_fetched 2 rfl (fun _ => rfl) (fun _ _ _ => rfl)
      (fun t => by rw [ha]; unfold Dat.blockOf blockIn; rw [hA]; try rfl) t d).trans
    (by unfold Dat.fetched Dat.blockOf blockIn; rw [hA]; try rfl)
theorem before3_of {c : Dev nD} (dat : Dat τ (Elt F) Unit ℕ (UR sig nD τ) ℕ (cfg0 (F := F)) c)
    (hA : dat.A 3 = entryV m c (Pipeline.arrRef spec0 3)) (ha : ∀ t, dat.after 3 t = blockIn m c 3 t) (t : Fin (cfg0 (F := F)).N) (d) :
    dat.before 3 t d = blockIn m c 3 t :=
  (dat.before_in_eq_fetched 3 rfl (fun _ => rfl) (fun _ _ _ => rfl)
      (fun t => by rw [ha]; unfold Dat.blockOf blockIn; rw [hA]; try rfl) t d).trans
    (by unfold Dat.fetched Dat.blockOf blockIn; rw [hA]; try rfl)

/-- The output window's staging buffer, as a view to state its contents through. -/
abbrev outView : View sig .tc .vmem S256x512 .bf16 := (Memref.whole cc0_stg4_0 : Memref sig .tc .vmem S256x512 .bf16).view

/-- The staging buffers at point `t` (queries, keys, values, triangle, output), each a whole buffer. -/
abbrev stgQ (t : Fin (cfg0 (F := F)).N) : Memref sig .tc .vmem S256x512 .bf16 := win0_0.stage ((cfg0 (F := F)).slots t 0)
abbrev wholeQ (t : Fin (cfg0 (F := F)).N) : (stgQ (F := F) t).IsWhole := hstage0_0 (((cfg0 (F := F)).slots t 0).cast nbuf0_0)
abbrev stgK (t : Fin (cfg0 (F := F)).N) : Memref sig .tc .vmem S4096x512 .bf16 := win0_1.stage ((cfg0 (F := F)).slots t 1)
abbrev wholeK (t : Fin (cfg0 (F := F)).N) : (stgK (F := F) t).IsWhole := hstage0_1 (((cfg0 (F := F)).slots t 1).cast nbuf0_1)
abbrev stgV (t : Fin (cfg0 (F := F)).N) : Memref sig .tc .vmem S4096x512 .bf16 := win0_2.stage ((cfg0 (F := F)).slots t 2)
abbrev wholeV (t : Fin (cfg0 (F := F)).N) : (stgV (F := F) t).IsWhole := hstage0_2 (((cfg0 (F := F)).slots t 2).cast nbuf0_2)
abbrev stgU (t : Fin (cfg0 (F := F)).N) : Memref sig .tc .vmem S256x256 .bf16 := win0_3.stage ((cfg0 (F := F)).slots t 3)
abbrev wholeU (t : Fin (cfg0 (F := F)).N) : (stgU (F := F) t).IsWhole := hstage0_3 (((cfg0 (F := F)).slots t 3).cast nbuf0_3)
abbrev stgO (t : Fin (cfg0 (F := F)).N) : Memref sig .tc .vmem S256x512 .bf16 := win0_4.stage ((cfg0 (F := F)).slots t 4)
abbrev wholeO (t : Fin (cfg0 (F := F)).N) : (stgO (F := F) t).IsWhole := hstage0_4 (((cfg0 (F := F)).slots t 4).cast nbuf0_4)

end Cert.KernelIdeal.Sb

end
-- ==== Proof.SbI.Blocks.lean ====
/-
  What one grid point of the stick-breaking kernel computes, as functions of its four input blocks: of a head's tile of
  queries and tile of keys, the scores and what each key takes off the stick; of these and the carried stick, the weights,
  what they add to the head's accumulator, and the next carry. `wres` is what the loop over the earlier tiles returns.
-/
module

public import proofs.«01_k».proof.Proof.SbI.Setup

@[expose] public section

set_option maxRecDepth 16384

noncomputable section

namespace Cert.KernelIdeal.Sb

open Cert.KernelIdeal Cert.KernelIdeal.Gen
open Idealize.ShloMosaic Idealize.ShloMosaic.TcCoe

variable {F : FTy → Type} [FloatOps F] [Named F]

/-! ### Tiles -/

/-- The 256 × 128 tile of `X` whose first entry is `(256 * j, 128 * h)` (read modulo `X`'s extents, so that it needs no
    evidence). -/
def tile (rows cols : ℕ) [NeZero rows] [NeZero cols] (X : Vec F ⟨2, ![rows, cols]⟩ .bf16) (j h : ℕ) : Vec F S256x128 .bf16 := fun y =>
  X (fun a => match a with
    | ⟨0, _⟩ => Fin.ofNat rows (256 * j + (y 0).val)
    | ⟨1, _⟩ => Fin.ofNat cols (128 * h + (y 1).val))

/-- A load of a 256 × 128 rectangle that lies inside a whole buffer at contents reading `X` is the tile at its offset. -/
theorem readAt_tile {sp : Space} (rows cols : ℕ) [NeZero rows] [NeZero cols]
    {mr : Memref sig .tc sp ⟨2, ![rows, cols]⟩ .bf16} (hm : mr.IsWhole)
    (X : Vec F ⟨2, ![rows, cols]⟩ .bf16) (off : Fin 2 → ℕ) (inb : ∀ a, off a + S256x128.size a ≤ (⟨2, ![rows, cols]⟩ : Shape).size a)
    (j h : ℕ) (h0 : off 0 = 256 * j) (h1 : off 1 = 128 * h) :
    View.readAt (Elt F) mr.view (Rect.unit (s := ⟨2, ![rows, cols]⟩) off S256x128.size inb).toLoadRect (hm.unread X)
      = tile rows cols X j h := by
  funext y
  rw [hm.readAt_unread]
  unfold tile
  congr 1
  funext a
  apply Fin.ext
  match a with
  | ⟨0, _⟩ =>
    have h2 := inb 0
    have h3 := (y 0).isLt
    simp only [Rect.unit, LoadRect.idx, Fin.ofNat, one_mul]
    change off 0 + (y 0).val = (256 * j + (y 0).val) % rows
    change off 0 + 256 ≤ rows at h2
    change (y 0).val < 256 at h3
    rw [Nat.mod_eq_of_lt] <;> omega
  | ⟨1, _⟩ =>
    have h2 := inb 1
    have h3 := (y 1).isLt
    simp only [Rect.unit, LoadRect.idx, Fin.ofNat, one_mul]
    change off 1 + (y 1).val = (128 * h + (y 1).val) % cols
    change off 1 + 128 ≤ cols at h2
    change (y 1).val < 128 at h3
    rw [Nat.mod_eq_of_lt] <;> omega

/-- The tiles of the queries' block, and of the keys' (or values') block. -/
abbrev tileQ (X : Vec F S256x512 .bf16) (h : ℕ) : Vec F S256x128 .bf16 := tile 256 512 X 0 h
abbrev tileK (X : Vec F S4096x512 .bf16) (j h : ℕ) : Vec F S256x128 .bf16 := tile 4096 512 X j h

/-! ### One tile of keys -/

/-- The scaled scores of a tile of queries against a tile of keys. -/
def scores (q k : Vec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))

/-- `max z 0 + log (1 + exp (0 - |z|))`: what a key of score `z` takes off the stick. -/
def soft (z : FVec F S256x256 .f32) : FVec F S256x256 .f32 :=
  addf (maximumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- What the later keys of the tile take off, `d` in two halves times the triangle `u`. -/
def later (u : FVec F S256x256 .bf16) (d : FVec F S256x256 .f32) : FVec F S256x256 .f32 :=
  addf (matmul dot_S256x256_S256x256_S256x256_1_0_0_1_n_n none (truncf .bf16 d bitsLt_bf16_f32) u (constant S256x256 .f32 0x00000000#32))
    (matmul dot_S256x256_S256x256_S256x256_1_0_0_1_n_n none
      (truncf .bf16 (subf d (extf .f32 (truncf .bf16 d bitsLt_bf16_f32) bitsLt_bf16_f32)) bitsLt_bf16_f32) u
      (constant S256x256 .f32 0x00000000#32))

/-- The weights of a tile's keys: `exp ((z - soft z) - (later + carry))`. -/
def weights (z lat : FVec F S256x256 .f32) (car : FVec F S256x128 .f32) : FVec F S256x256 .f32 :=
  exp (subf (subf z (soft z))
    (addf lat (concatenate S256x256 1 [⟨S256x128, car⟩, ⟨S256x128, car⟩] concatenates_S256x128_S256x128_S256x256_d1)))

/-- The accumulator after a tile of weights `w` and values `v`. -/
def accum (acc : FVec F S256x128 .f32) (w : FVec F S256x256 .f32) (v : Vec F S256x128 .bf16) : FVec F S256x128 .f32 :=
  addf acc (matmul dot_S256x256_S256x128_S256x128_1_0_0_1_n_n none (truncf .bf16 w bitsLt_bf16_f32) v (constant S256x128 .f32 0x00000000#32))

/-- The carry after a tile: the whole of what its keys take off is added. -/
def carry (car : FVec F S256x128 .f32) (lat d : FVec F S256x256 .f32) : FVec F S256x128 .f32 :=
  addf car (broadcastTo S256x128 (shapeCast S256x1
    (addf (extractStridedSlice S256x1 ![0, 0] lat slices_S256x256_o0_0_S256x1)
      (extractStridedSlice S256x1 ![0, 0] d slices_S256x256_o0_0_S256x1)) shapeCasts_S256x1_S256x1) broadcasts_S256x1_S256x128)

/-! ### The three kinds of tile -/

/-- The zero carry and accumulator. -/
def zeros : FVec F S256x128 .f32 := broadcast S256x128 (Scalar.ofBits .f32 0x00000000#32)

/-- Key before query, in the tile on the diagonal. -/
def before : IVec S256x256 1 :=
  cmpi .slt (iota .tc S256x256 32 [1] iota_S256x256_d1_w32) (iota .tc S256x256 32 [0] iota_S256x256_d0_w32)

/-- What the diagonal tile's keys take off, -/
def dropD (q k : Vec F S256x128 .bf16) : FVec F S256x256 .f32 :=
  select before (soft (scores q k)) (broadcast S256x256 (Scalar.ofBits .f32 0x00000000#32))
/-- the carry -/
def carD (u : FVec F S256x256 .bf16) (q k : Vec F S256x128 .bf16) : FVec F S256x128 .f32 :=
  carry zeros (later u (dropD q k)) (dropD q k)
/-- and the accumulator after it. -/
def accD (u : FVec F S256x256 .bf16) (q k v : Vec F S256x128 .bf16) : FVec F S256x128 .f32 :=
  accum zeros (select before (weights (scores q k) (later u (dropD q k)) zeros)
    (broadcast S256x256 (Scalar.ofBits .f32 0x00000000#32))) v

/-- One if the point has a tile before the diagonal one, else zero. -/
def live (i : grid0.Coords) : F .f32 :=
  Scalar.sitofp .f32 (Scalar.extui (Scalar.cmpi .sgt (BitVec.ofNat 32 (i 2).val) 0#32) : BitVec 32)

/-- What the tile before the diagonal takes off, -/
def dropL (lv : F .f32) (q k : Vec F S256x128 .bf16) : FVec F S256x256 .f32 :=
  mulf (soft (scores q k)) (broadcast S256x256 lv)
/-- the carry -/
def carL (u : FVec F S256x256 .bf16) (lv : F .f32) (car : FVec F S256x128 .f32) (q k : Vec F S256x128 .bf16) : FVec F S256x128 .f32 :=
  carry car (later u (dropL lv q k)) (dropL lv q k)
/-- and the accumulator after it. -/
def accL (u : FVec F S256x256 .bf16) (lv : F .f32) (car acc : FVec F S256x128 .f32) (q k v : Vec F S256x128 .bf16) : FVec F S256x128 .f32 :=
  accum acc (mulf (weights (scores q k) (later u (dropL lv q k)) car) (broadcast S256x256 lv)) v

/-- The carry -/
def carW (u : FVec F S256x256 .bf16) (car : FVec F S256x128 .f32) (q k : Vec F S256x128 .bf16) : FVec F S256x128 .f32 :=
  carry car (later u (soft (scores q k))) (soft (scores q k))
/-- and the accumulator after one of the loop's tiles. -/
def accW (u : FVec F S256x256 .bf16) (car acc : FVec F S256x128 .f32) (q k v : Vec F S256x128 .bf16) : FVec F S256x128 .f32 :=
  accum acc (weights (scores q k) (later u (soft (scores q k))) car) v

/-! ### The loop -/

/-- The least entry of a head's carry. -/
def least1 (car : FVec F S256x128 .f32) : F .f32 :=
  extractAt ![0, 0, 0] (shapeCast S1x1x1 (multiReduction .minimumf [1, 2] S1
    (shapeCast S1x256x128 car shapeCasts_S256x128_S1x256x128) 0x7F800000#32 reduces_S1x256x128_S1 (.inl rfl) rfl) shapeCasts_S1_S1x1x1)
    inpos_S1x1x1_p0_0_0

/-- Whether some stick of the four heads is not used up. -/
def alive (c : Fin 4 → FVec F S256x128 .f32) : BitVec 32 :=
  Scalar.extui (Scalar.cmpf .olt
    (Scalar.minimumf (Scalar.minimumf (Scalar.minimumf (least1 (c 0)) (least1 (c 1))) (least1 (c 2))) (least1 (c 3)))
    (Named.named κ "dead" 0x42DC0000#32))

/-- The loop's test on the tile's number and the flag. -/
abbrev goes (j a : BitVec 32) : BitVec 1 := Scalar.andi (Scalar.cmpi .sge j 0#32) (Scalar.cmpi .sgt a 0#32)

/-- What the loop returns: its ten values. -/
abbrev Res (F : FTy → Type) := BitVec 32 × BitVec 32 × FVec F S256x128 .f32 × FVec F S256x128 .f32 × FVec F S256x128 .f32 ×
  FVec F S256x128 .f32 × FVec F S256x128 .f32 × FVec F S256x128 .f32 × FVec F S256x128 .f32 × FVec F S256x128 .f32

/-- The four heads' carries after tile `j`, -/
def stepC (u : FVec F S256x256 .bf16) (xq : Vec F S256x512 .bf16) (xk : Vec F S4096x512 .bf16) (j : ℕ)
    (c : Fin 4 → FVec F S256x128 .f32) : Fin 4 → FVec F S256x128 .f32 :=
  fun h => carW u (c h) (tileQ xq h.val) (tileK xk j h.val)
/-- and their accumulators. -/
def stepA (u : FVec F S256x256 .bf16) (xq : Vec F S256x512 .bf16) (xk xv : Vec F S4096x512 .bf16) (j : ℕ)
    (c a : Fin 4 → FVec F S256x128 .f32) : Fin 4 → FVec F S256x128 .f32 :=
  fun h => accW u (c h) (a h) (tileQ xq h.val) (tileK xk j h.val) (tileK xv j h.val)

/-- The loop's result with at most `n` trips to make, from tile `j` and flag `al`. -/
def wres (u : FVec F S256x256 .bf16) (xq : Vec F S256x512 .bf16) (xk xv : Vec F S4096x512 .bf16) :
    ℕ → BitVec 32 → BitVec 32 → (Fin 4 → FVec F S256x128 .f32) → (Fin 4 → FVec F S256x128 .f32) → Res F
  | 0, j, al, c, a => (j, al, c 0, c 1, c 2, c 3, a 0, a 1, a 2, a 3)
  | n + 1, j, al, c, a =>
    if goes j al = 1#1 then
      wres u xq xk xv n (Scalar.subi j 1#32) (alive (stepC u xq xk j.toNat c)) (stepC u xq xk j.toNat c) (stepA u xq xk xv j.toNat c a)
    else (j, al, c 0, c 1, c 2, c 3, a 0, a 1, a 2, a 3)

/-! ### The point -/

/-- The carries of the four heads when the loop is entered, -/
def startC (i : grid0.Coords) (u : FVec F S256x256 .bf16) (xq : Vec F S256x512 .bf16) (xk : Vec F S4096x512 .bf16) :
    Fin 4 → FVec F S256x128 .f32 :=
  fun h => carL u (live i) (carD u (tileQ xq h.val) (tileK xk (i 2).val h.val)) (tileQ xq h.val) (tileK xk ((i 2).val - 1) h.val)
/-- their accumulators, -/
def startA (i : grid0.Coords) (u : FVec F S256x256 .bf16) (xq : Vec F S256x512 .bf16) (xk xv : Vec F S4096x512 .bf16) :
    Fin 4 → FVec F S256x128 .f32 :=
  fun h => accL u (live i) (carD u (tileQ xq h.val) (tileK xk (i 2).val h.val))
    (accD u (tileQ xq h.val) (tileK xk (i 2).val h.val) (tileK xv (i 2).val h.val))
    (tileQ xq h.val) (tileK xk ((i 2).val - 1) h.val) (tileK xv ((i 2).val - 1) h.val)

/-- and the loop's result at the point. -/
def loopRes (i : grid0.Coords) (u : FVec F S256x256 .bf16) (xq : Vec F S256x512 .bf16) (xk xv : Vec F S4096x512 .bf16) : Res F :=
  wres u xq xk xv 15 (Scalar.subi (BitVec.ofNat 32 (i 2).val) 2#32) (alive (startC i u xq xk)) (startC i u xq xk) (startA i u xq xk xv)

/-- The four pieces of its output block a point stores, last first. -/
def stores (r : Res F) : List (View.Piece (Elt F) S256x512 .bf16) :=
  [⟨Rect.unit (s := S256x512) ![0, 384] S256x128.size inb_S256x512_S256x128_0_384, truncf .bf16 r.2.2.2.2.2.2.2.2.2 bitsLt_bf16_f32⟩,
   ⟨Rect.unit (s := S256x512) ![0, 256] S256x128.size inb_S256x512_S256x128_0_256, truncf .bf16 r.2.2.2.2.2.2.2.2.1 bitsLt_bf16_f32⟩,
   ⟨Rect.unit (s := S256x512) ![0, 128] S256x128.size inb_S256x512_S256x128_0_128, truncf .bf16 r.2.2.2.2.2.2.2.1 bitsLt_bf16_f32⟩,
   ⟨Rect.unit (s := S256x512) ![0, 0] S256x128.size inb_S256x512_S256x128_0_0, truncf .bf16 r.2.2.2.2.2.2.1 bitsLt_bf16_f32⟩]

/-! ### The printed values are these -/

theorem pay86_eq (u : FVec F S256x256 .bf16) (c a : FVec F S256x128 .f32) (q k v : Vec F S256x128 .bf16) :
    k0_pay86 u c a q k v = accW u c a q k v := rfl
theorem pay87_eq (u : FVec F S256x256 .bf16) (c : FVec F S256x128 .f32) (q k : Vec F S256x128 .bf16) :
    k0_pay87 u c q k = carW u c q k := rfl
theorem pay91_eq (u : FVec F S256x256 .bf16) (c a : FVec F S256x128 .f32) (q k v : Vec F S256x128 .bf16) :
    k0_pay91 u c a q k v = accW u c a q k v := rfl
theorem pay92_eq (u : FVec F S256x256 .bf16) (c : FVec F S256x128 .f32) (q k : Vec F S256x128 .bf16) :
    k0_pay92 u c q k = carW u c q k := rfl
theorem pay96_eq (u : FVec F S256x256 .bf16) (c a : FVec F S256x128 .f32) (q k v : Vec F S256x128 .bf16) :
    k0_pay96 u c a q k v = accW u c a q k v := rfl
theorem pay97_eq (u : FVec F S256x256 .bf16) (c : FVec F S256x128 .f32) (q k : Vec F S256x128 .bf16) :
    k0_pay97 u c q k = carW u c q k := rfl
theorem pay101_eq (u : FVec F S256x256 .bf16) (c a : FVec F S256x128 .f32) (q k v : Vec F S256x128 .bf16) :
    k0_pay101 u c a v (k0_pay98 q k) = accW u c a q k v := rfl
theorem pay102_eq (u : FVec F S256x256 .bf16) (c : FVec F S256x128 .f32) (q k : Vec F S256x128 .bf16) :
    k0_pay102 u c (k0_pay98 q k) = carW u c q k := rfl
/-- The loop's flag after a trip. -/
theorem flag_eq (u : FVec F S256x256 .bf16) (c : Fin 4 → FVec F S256x128 .f32) (c3 : FVec F S256x128 .f32) (z : FVec F S256x256 .f32)
    (h3 : c 3 = k0_pay102 u c3 z) :
    (Scalar.extui (Scalar.cmpf .olt (k0_pay3 (k0_pay103 (c 0) (c 1) (c 2)) (k0_pay104 u c3 z)) (Named.named κ "dead" 0x42DC0000#32)) : BitVec 32)
      = alive c := by
  unfold alive least1 k0_pay3 k0_pay103 k0_pay104
  rw [h3]

end Cert.KernelIdeal.Sb

end
-- ==== Proof.SbI.While.lean ====
/-
  The loop over the earlier tiles: its label's specification — holding the queries', keys' and values' buffers at their
  contents, it hands them back and returns `wres` — and that its body meets it, by induction on the trips it may make.
-/
module

public import proofs.«01_k».proof.Proof.SbI.Blocks

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ### The tile's number -/

/-- The loop goes on only at a tile's number that is not negative. -/
theorem goes_nonneg (j a : BitVec 32) (h : goes j a = 1#1) : 0 ≤ j.toInt := by
  have h2 : Scalar.cmpi .sge j 0#32 = 1#1 := by
    unfold goes Scalar.andi IntOp.andi at h
    generalize Scalar.cmpi .sge j 0#32 = x at h ⊢
    generalize Scalar.cmpi .sgt a 0#32 = y at h
    revert x y; decide
  by_contra hn
  exact Affine.sge_fails (Affine.word j) (Affine.ofNat (e := 0) 0 (by omega)) (by omega) h2

theorem toNat_cast (j : BitVec 32) (h : 0 ≤ j.toInt) : (j.toNat : ℤ) = j.toInt := by
  rw [BitVec.toInt_eq_toNat_cond] at h ⊢
  split at h <;> split <;> omega

/-- The number of the tile before. -/
theorem sub_one_toInt (j : BitVec 32) (h : 0 ≤ j.toInt) (h' : j.toInt < 16) : (Scalar.subi j 1#32).toInt = j.toInt - 1 := by
  have := Affine.subi (Affine.word j) (Affine.ofNat (e := 1) 1 (by omega)) (e := j.toInt - 1) (by omega)
  unfold Affine.IsInt at this
  exact this

/-- A tile's number times the tile's rows. -/
theorem mul_toNat (j : BitVec 32) (h : 0 ≤ j.toInt) (h' : j.toInt < 16) : (Scalar.muli j 256#32).toNat = 256 * j.toNat := by
  have h1 := toNat_cast j h
  have : (j * 256#32).toNat = 256 * j.toNat := by
    rw [BitVec.toNat_mul]
    simp only [BitVec.toNat_ofNat, Nat.reducePow, Nat.reduceMod]
    omega
  exact this

/-- The loop's tile lies inside the keys' and the values' blocks. -/
theorem chk_of (j : BitVec 32) (h : 0 ≤ j.toInt) (h' : j.toInt < 16) : k0_chk1 j := by
  have h1 := toNat_cast j h
  have h2 := mul_toNat j h h'
  have h3 : (Scalar.indexCast (Scalar.muli j 256#32)).toNat = 256 * j.toNat := h2
  have hj : j.toNat < 16 := by omega
  unfold k0_chk1
  refine ⟨?_, ?_, ?_, ?_, ?_, ?_, ?_, ?_⟩
  · exact ⟨j.toNat, h2⟩
  · intro a; fin_cases a
    · show (Scalar.indexCast (Scalar.muli j 256#32)).toNat + 256 ≤ 4096; omega
    · show 0 + 128 ≤ 512; omega
  · exact ⟨j.toNat, h2⟩
  · intro a; fin_cases a
    · show (Scalar.indexCast (Scalar.muli j 256#32)).toNat + 256 ≤ 4096; omega
    · show 128 + 128 ≤ 512; omega
  · exact ⟨j.toNat, h2⟩
  · intro a; fin_cases a
    · show (Scalar.indexCast (Scalar.muli j 256#32)).toNat + 256 ≤ 4096; omega
    · show 256 + 128 ≤ 512; omega
  · exact ⟨j.toNat, h2⟩
  · intro a; fin_cases a
    · show (Scalar.indexCast (Scalar.muli j 256#32)).toNat + 256 ≤ 4096; omega
    · show 384 + 128 ≤ 512; omega

/-! ### The label -/

theorem congr3 {α β γ δ : Sort*} (f : α → β → γ → δ) {a a' : α} {b b' : β} {c c' : γ} (ha : a = a') (hb : b = b') (hc : c = c') :
    f a b c = f a' b' c' := by subst ha hb hc; rfl

section Label

variable (c : Dev nD) (i : grid0.Coords) (arg3 : Memref sig .tc .vmem S256x512 .bf16) (harg3 : arg3.IsWhole)
  (arg4 : Memref sig .tc .vmem S4096x512 .bf16) (harg4 : arg4.IsWhole) (arg5 : Memref sig .tc .vmem S4096x512 .bf16) (harg5 : arg5.IsWhole)
  (u : FVec F S256x256 .bf16) (xq : Vec F S256x512 .bf16) (xk xv : Vec F S4096x512 .bf16)

/-- The three buffers the loop reads, held at their contents. -/
def held : sProp 𝕄 :=
  iprop((arg3.view.loc (c : Thread nD τ) ↦[arg3.view.set]{fullShare} harg3.unread xq)
    ∗ (arg4.view.loc (c : Thread nD τ) ↦[arg4.view.set]{fullShare} harg4.unread xk)
    ∗ (arg5.view.loc (c : Thread nD τ) ↦[arg5.view.set]{fullShare} harg5.unread xv))

/-- The loop with at most `n` trips to make. -/
def spec (n : ℕ) (j al : BitVec 32) (cs ac : Fin 4 → FVec F S256x128 .f32) : sWPT 𝕄 (Res F) := do
  sWPT.consume (held c arg3 harg3 arg4 harg4 arg5 harg5 xq xk xv)
  sWPT.produce (held c arg3 harg3 arg4 harg4 arg5 harg5 xq xk xv)
  pure (wres u xq xk xv n j al cs ac)

theorem spec_apply (n : ℕ) (j al : BitVec 32) (cs ac : Fin 4 → FVec F S256x128 .f32) (K : Res F → sProp 𝕄) :
    spec c arg3 harg3 arg4 harg4 arg5 harg5 u xq xk xv n j al cs ac K
      = iprop(held c arg3 harg3 arg4 harg4 arg5 harg5 xq xk xv
          ∗ (held c arg3 harg3 arg4 harg4 arg5 harg5 xq xk xv -∗ K (wres u xq xk xv n j al cs ac))) := rfl

set_option maxHeartbeats 2000000 in
/-- The label's body meets its specification. -/
theorem spec_le (E : Set ℕ) :
    ∀ (n : ℕ) (j al : BitVec 32) (cs ac : Fin 4 → FVec F S256x128 .f32), j.toInt < n → n ≤ 16 → ∀ K,
      spec c arg3 harg3 arg4 harg4 arg5 harg5 u xq xk xv n j al cs ac K
      ⊢ wp frame (wpE (defs₀ (F := F)) 𝒱₀ (c : Thread nD τ) (some n)) E
          (defs₀ (F := F) .tc 1 ⟨i, arg3, harg3, arg4, harg4, arg5, harg5, u, j, al, cs 0, cs 1, cs 2, cs 3, ac 0, ac 1, ac 2, ac 3⟩) K := by
  intro n
  induction n with
  | zero =>
    intro j al cs ac hj hn K
    rw [spec_apply]
    show _ ⊢ wp frame (wpE (defs₀ (F := F)) 𝒱₀ (c : Thread nD τ) (some 0)) E
      (cc0_while1 i arg3 harg3 arg4 harg4 arg5 harg5 u j al (cs 0) (cs 1) (cs 2) (cs 3) (ac 0) (ac 1) (ac 2) (ac 3)) K
    simp only [cc0_while1_eq_skeleton]; unfold cc0_while1_skel
    have htest : ¬ Scalar.andi (Scalar.cmpi .sge j 0#32) (Scalar.cmpi .sgt al 0#32) = 1#1 := fun h => by
      have := goes_nonneg j al h
      omega
    simp only [htest, ↓reduceIte, Prog.pure_eq_ret]
    iintro ⟨H, Hk⟩
    rw [wp_ret]; imodintro
    rw [wres]
    iapply Hk; iexact H
  | succ n ih =>
    intro j al cs ac hj hn K
    rw [spec_apply]
    show _ ⊢ wp frame (wpE (defs₀ (F := F)) 𝒱₀ (c : Thread nD τ) (some (n + 1))) E
      (cc0_while1 i arg3 harg3 arg4 harg4 arg5 harg5 u j al (cs 0) (cs 1) (cs 2) (cs 3) (ac 0) (ac 1) (ac 2) (ac 3)) K
    simp only [cc0_while1_eq_skeleton]; unfold cc0_while1_skel
    by_cases htest : Scalar.andi (Scalar.cmpi .sge j 0#32) (Scalar.cmpi .sgt al 0#32) = 1#1
    · have h0 : 0 ≤ j.toInt := goes_nonneg j al htest
      have h16 : j.toInt < 16 := by omega
      have hchk := chk_of j h0 h16
      simp only [htest, ↓reduceIte, k0_part10_eq_skeleton, k0_part11_eq_skeleton, k0_part12_eq_skeleton, k0_part13_eq_skeleton]
      unfold held
      iintro ⟨⟨Hq, H4, H5⟩, Hk⟩
      sl_exec
      have tq0 := readAt_tile 256 512 harg3 xq ![0, 0] inb_S256x512_S256x128_0_0 0 0 rfl rfl
      have tk0 := readAt_tile 4096 512 harg4 xk (k0_off9 j) (k0_off9_inb j hchk) j.toNat 0 (mul_toNat j h0 h16) rfl
      have tv0 := readAt_tile 4096 512 harg5 xv (k0_off9 j) (k0_off9_inb j hchk) j.toNat 0 (mul_toNat j h0 h16) rfl
      have tq1 := readAt_tile 256 512 harg3 xq ![0, 128] inb_S256x512_S256x128_0_128 0 1 rfl rfl
      have tk1 := readAt_tile 4096 512 harg4 xk (k0_off10 j) (k0_off10_inb j hchk) j.toNat 1 (mul_toNat j h0 h16) rfl
      have tv1 := readAt_tile 4096 512 harg5 xv (k0_off10 j) (k0_off10_inb j hchk) j.toNat 1 (mul_toNat j h0 h16) rfl
      have tq2 := readAt_tile 256 512 harg3 xq ![0, 256] inb_S256x512_S256x128_0_256 0 2 rfl rfl
      have tk2 := readAt_tile 4096 512 harg4 xk (k0_off11 j) (k0_off11_inb j hchk) j.toNat 2 (mul_toNat j h0 h16) rfl
      have tv2 := readAt_tile 4096 512 harg5 xv (k0_off11 j) (k0_off11_inb j hchk) j.toNat 2 (mul_toNat j h0 h16) rfl
      have tq3 := readAt_tile 256 512 harg3 xq ![0, 384] inb_S256x512_S256x128_0_384 0 3 rfl rfl
      have tk3 := readAt_tile 4096 512 harg4 xk (k0_off12 j) (k0_off12_inb j hchk) j.toNat 3 (mul_toNat j h0 h16) rfl
      have tv3 := readAt_tile 4096 512 harg5 xv (k0_off12 j) (k0_off12_inb j hchk) j.toNat 3 (mul_toNat j h0 h16) rfl
      have a0 : spec_le.sl.r arg3 harg3 arg4 harg4 arg5 harg5 u xq xk xv j cs ac hchk = stepA u xq xk xv j.toNat cs ac 0 := congr3 (k0_pay86 u (cs 0) (ac 0)) tq0 tk0 tv0
      have a1 : spec_le.sl.r_2 arg3 harg3 arg4 harg4 arg5 harg5 u xq xk xv j cs ac hchk = stepA u xq xk xv j.toNat cs ac 1 := congr3 (k0_pay91 u (cs 1) (ac 1)) tq1 tk1 tv1
      have a2 : spec_le.sl.r_6 arg3 harg3 arg4 harg4 arg5 harg5 u xq xk xv j cs ac hchk = stepA u xq xk xv j.toNat cs ac 2 := congr3 (k0_pay96 u (cs 2) (ac 2)) tq2 tk2 tv2
      have a3 : spec_le.sl.r_10 arg3 harg3 arg4 harg4 arg5 harg5 u xq xk xv j cs ac hchk = stepA u xq xk xv j.toNat cs ac 3 :=
        congr3 (fun q k v => k0_pay101 u (cs 3) (ac 3) v (k0_pay98 q k)) tq3 tk3 tv3
      have c0 : spec_le.sl.r_1 arg3 harg3 arg4 harg4 u xq xk j cs hchk = stepC u xq xk j.toNat cs 0 := congrArg₂ (k0_pay87 u (cs 0)) tq0 tk0
      have c1 : spec_le.sl.r_3 arg3 harg3 arg4 harg4 u xq xk j cs hchk = stepC u xq xk j.toNat cs 1 := congrArg₂ (k0_pay92 u (cs 1)) tq1 tk1
      have c2 : spec_le.sl.r_7 arg3 harg3 arg4 harg4 u xq xk j cs hchk = stepC u xq xk j.toNat cs 2 := congrArg₂ (k0_pay97 u (cs 2)) tq2 tk2
      have c3 : spec_le.sl.r_11 arg3 harg3 arg4 harg4 u xq xk j cs hchk = stepC u xq xk j.toNat cs 3 :=
        congrArg₂ (fun q k => k0_pay102 u (cs 3) (k0_pay98 q k)) tq3 tk3
      have m3 : spec_le.sl.r_12 arg3 harg3 arg4 harg4 u xq xk j cs hchk = k0_pay103 (stepC u xq xk j.toNat cs 0) (stepC u xq xk j.toNat cs 1) (stepC u xq xk j.toNat cs 2) :=
        congr3 k0_pay103 c0 c1 c2
      have m4 : spec_le.sl.r_13 arg3 harg3 arg4 harg4 u xq xk j cs hchk = k0_pay104 u (cs 3) (k0_pay98 (tileQ xq 3) (tileK xk j.toNat 3)) :=
        congrArg₂ (fun q k => k0_pay104 u (cs 3) (k0_pay98 q k)) tq3 tk3
      have hj1 : spec_le.sl.v575 j = Scalar.subi j 1#32 := rfl
      rw [m3, m4, a0, a1, a2, a3, c0, c1, c2, c3, hj1,
        flag_eq u (stepC u xq xk j.toNat cs) (cs 3) (k0_pay98 (tileQ xq 3) (tileK xk j.toNat 3)) rfl]
      have hsub := sub_one_toInt j h0 h16
      iapply (wp_call_spec 𝒱₀ (c : Thread nD τ) (some (n + 1)) E
        (spec c arg3 harg3 arg4 harg4 arg5 harg5 u xq xk xv n (Scalar.subi j 1#32) (alive (stepC u xq xk j.toNat cs))
          (stepC u xq xk j.toNat cs) (stepA u xq xk xv j.toNat cs ac)) n
        (fun u hu => by cases hu; exact Nat.lt_succ_self n)
        (ih _ _ _ _ (by omega) (by omega)))
      rw [spec_apply]; unfold held
      isplitl [Hq H4 H5]
      · isplitl [Hq]; · iexact Hq
        isplitl [H4]; · iexact H4
        iexact H5
      iintro ⟨Hq, H4, H5⟩
      rw [wp_ret]; imodintro
      rw [wres, if_pos htest]
      iapply Hk
      isplitl [Hq]; · iexact Hq
      isplitl [H4]; · iexact H4
      iexact H5
    · have hw : wres u xq xk xv (n + 1) j al cs ac = (j, al, cs 0, cs 1, cs 2, cs 3, ac 0, ac 1, ac 2, ac 3) := by
        rw [wres, if_neg htest]
      rw [hw]
      simp only [htest, ↓reduceIte, Prog.pure_eq_ret]
      iintro ⟨H, Hk⟩
      rw [wp_ret]; imodintro
      iapply Hk; iexact H

end Label

end Cert.KernelIdeal.Sb

end
-- ==== Proof.SbI.Body.lean ====
/-
  The kernel's body at a grid point: from whole staging buffers, the inputs' at their blocks, it runs to the end — the
  loop's label answered by its specification — and leaves in the output's buffer the four pieces `stores (loopRes …)`.
-/
module

public import proofs.«01_k».proof.Proof.SbI.While

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A load of the whole triangle from a whole buffer at contents reading it. -/
theorem readAt_all {arg6 : Memref sig .tc .vmem S256x256 .bf16} (harg6 : arg6.IsWhole) (xu : Vec F S256x256 .bf16) :
    View.readAt (Elt F) arg6.view (Rect.unit (s := S256x256) ![0, 0] S256x256.size inb_S256x256_S256x256_0_0).toLoadRect (harg6.unread xu)
      = xu := by
  funext y
  rw [harg6.readAt_unread]
  congr 1
  funext a
  apply Fin.ext
  simp only [Rect.unit, LoadRect.idx, one_mul]
  match a with
  | ⟨0, _⟩ => exact Nat.zero_add _
  | ⟨1, _⟩ => exact Nat.zero_add _

/-- The loads of a tile of queries, and of a tile of keys or values. -/
abbrev ldQ (arg3 : Memref sig .tc .vmem S256x512 .bf16) (harg3 : arg3.IsWhole) (xq : Vec F S256x512 .bf16) (off : Fin 2 → ℕ)
    (inb : ∀ a, off a + S256x128.size a ≤ S256x512.size a) : Vec F S256x128 .bf16 :=
  View.readAt (Elt F) arg3.view (Rect.unit (s := S256x512) off S256x128.size inb).toLoadRect (harg3.unread xq)
abbrev ldK (arg4 : Memref sig .tc .vmem S4096x512 .bf16) (harg4 : arg4.IsWhole) (xk : Vec F S4096x512 .bf16) (off : Fin 2 → ℕ)
    (inb : ∀ a, off a + S256x128.size a ≤ S4096x512.size a) : Vec F S256x128 .bf16 :=
  View.readAt (Elt F) arg4.view (Rect.unit (s := S4096x512) off S256x128.size inb).toLoadRect (harg4.unread xk)

/-- The diagonal tile's number, -/
theorem diag_toNat (i : grid0.Coords) : (Scalar.muli (BitVec.ofNat 32 (i 2).val) 256#32).toNat = 256 * (i 2).val := by
  have hi : (i 2).val < 16 := (i 2).isLt
  show (BitVec.ofNat 32 (i 2).val * 256#32).toNat = _
  rw [BitVec.toNat_mul]
  simp only [BitVec.toNat_ofNat, Nat.reducePow, Nat.reduceMod]
  omega

/-- and the number of the tile before it. -/
theorem prev_toNat (i : grid0.Coords) :
    (Scalar.muli (Scalar.maxsi (Scalar.subi (BitVec.ofNat 32 (i 2).val) 1#32) 0#32) 256#32).toNat = 256 * ((i 2).val - 1) := by
  have hi : (i 2).val < 16 := (i 2).isLt
  generalize (i 2).val = k at hi ⊢
  interval_cases k <;> rfl

/-- The first tile the loop may take. -/
theorem first_toInt (i : grid0.Coords) : (Scalar.subi (BitVec.ofNat 32 (i 2).val) 2#32).toInt < (15 : ℕ) := by
  have hi : (i 2).val < 16 := (i 2).isLt
  generalize (i 2).val = k at hi ⊢
  interval_cases k <;> decide

set_option maxHeartbeats 4000000 in
/-- The body's run. -/
theorem body_run (c : Dev nD) (i : grid0.Coords) (arg3 : Memref sig .tc .vmem S256x512 .bf16) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S256x256 .bf16) (harg6 : arg6.IsWhole) (arg7 : Memref sig .tc .vmem S256x512 .bf16) (harg7 : arg7.IsWhole)
    (xq : Vec F S256x512 .bf16) (xk xv : Vec F S4096x512 .bf16) (xu : Vec F S256x256 .bf16) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xu ∗ (∃ d, owns (c : Thread nD τ) arg7 fullShare d)
        ∗ (iprop(owns (c : Thread nD τ) arg3 fullShare xq ∗ owns (c : Thread nD τ) arg4 fullShare xk ∗ owns (c : Thread nD τ) arg5 fullShare xv
            ∗ owns (c : Thread nD τ) arg6 fullShare xu
            ∗ (∃ f, arg7.view.loc (c : Thread nD τ) ↦[arg7.view.set]{fullShare}
                arg7.view.writes (Elt F) f (stores (loopRes i (k0_pay4 xu) xq xk xv)))) -∗ K ⟨⟩))
      ⊢ wp frame (wpE (defs₀ (F := F)) 𝒱₀ (c : Thread nD τ) none) E
          (cc0_stick_breaking i arg3 harg3 arg4 harg4 arg5 harg5 arg6 harg6 arg7 harg7) K := by
  simp only [cc0_stick_breaking_eq_skeleton]; unfold cc0_stick_breaking_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg3.eq_unread hf0; obtain rfl := harg4.eq_unread hf1; obtain rfl := harg5.eq_unread hf2; obtain rfl := harg6.eq_unread hf3
  sl_exec
  have tu := readAt_all harg6 xu
  have tq0 : ldQ arg3 harg3 xq ![0, 0] inb_S256x512_S256x128_0_0 = tileQ xq 0 := readAt_tile 256 512 harg3 xq ![0, 0] inb_S256x512_S256x128_0_0 0 0 rfl rfl
  have tkd0 : ldK arg4 harg4 xk (k0_off1 i) (k0_off1_inb i) = tileK xk (i 2).val 0 := readAt_tile 4096 512 harg4 xk (k0_off1 i) (k0_off1_inb i) (i 2).val 0 (diag_toNat i) rfl
  have tvd0 : ldK arg5 harg5 xv (k0_off1 i) (k0_off1_inb i) = tileK xv (i 2).val 0 := readAt_tile 4096 512 harg5 xv (k0_off1 i) (k0_off1_inb i) (i 2).val 0 (diag_toNat i) rfl
  have tkl0 : ldK arg4 harg4 xk (k0_off2 i) (k0_off2_inb i) = tileK xk ((i 2).val - 1) 0 := readAt_tile 4096 512 harg4 xk (k0_off2 i) (k0_off2_inb i) ((i 2).val - 1) 0 (prev_toNat i) rfl
  have tvl0 : ldK arg5 harg5 xv (k0_off2 i) (k0_off2_inb i) = tileK xv ((i 2).val - 1) 0 := readAt_tile 4096 512 harg5 xv (k0_off2 i) (k0_off2_inb i) ((i 2).val - 1) 0 (prev_toNat i) rfl
  have tq1 : ldQ arg3 harg3 xq ![0, 128] inb_S256x512_S256x128_0_128 = tileQ xq 1 := readAt_tile 256 512 harg3 xq ![0, 128] inb_S256x512_S256x128_0_128 0 1 rfl rfl
  have tkd1 : ldK arg4 harg4 xk (k0_off3 i) (k0_off3_inb i) = tileK xk (i 2).val 1 := readAt_tile 4096 512 harg4 xk (k0_off3 i) (k0_off3_inb i) (i 2).val 1 (diag_toNat i) rfl
  have tvd1 : ldK arg5 harg5 xv (k0_off3 i) (k0_off3_inb i) = tileK xv (i 2).val 1 := readAt_tile 4096 512 harg5 xv (k0_off3 i) (k0_off3_inb i) (i 2).val 1 (diag_toNat i) rfl
  have tkl1 : ldK arg4 harg4 xk (k0_off4 i) (k0_off4_inb i) = tileK xk ((i 2).val - 1) 1 := readAt_tile 4096 512 harg4 xk (k0_off4 i) (k0_off4_inb i) ((i 2).val - 1) 1 (prev_toNat i) rfl
  have tvl1 : ldK arg5 harg5 xv (k0_off4 i) (k0_off4_inb i) = tileK xv ((i 2).val - 1) 1 := readAt_tile 4096 512 harg5 xv (k0_off4 i) (k0_off4_inb i) ((i 2).val - 1) 1 (prev_toNat i) rfl
  have tq2 : ldQ arg3 harg3 xq ![0, 256] inb_S256x512_S256x128_0_256 = tileQ xq 2 := readAt_tile 256 512 harg3 xq ![0, 256] inb_S256x512_S256x128_0_256 0 2 rfl rfl
  have tkd2 : ldK arg4 harg4 xk (k0_off5 i) (k0_off5_inb i) = tileK xk (i 2).val 2 := readAt_tile 4096 512 harg4 xk (k0_off5 i) (k0_off5_inb i) (i 2).val 2 (diag_toNat i) rfl
  have tvd2 : ldK arg5 harg5 xv (k0_off5 i) (k0_off5_inb i) = tileK xv (i 2).val 2 := readAt_tile 4096 512 harg5 xv (k0_off5 i) (k0_off5_inb i) (i 2).val 2 (diag_toNat i) rfl
  have tkl2 : ldK arg4 harg4 xk (k0_off6 i) (k0_off6_inb i) = tileK xk ((i 2).val - 1) 2 := readAt_tile 4096 512 harg4 xk (k0_off6 i) (k0_off6_inb i) ((i 2).val - 1) 2 (prev_toNat i) rfl
  have tvl2 : ldK arg5 harg5 xv (k0_off6 i) (k0_off6_inb i) = tileK xv ((i 2).val - 1) 2 := readAt_tile 4096 512 harg5 xv (k0_off6 i) (k0_off6_inb i) ((i 2).val - 1) 2 (prev_toNat i) rfl
  have tq3 : ldQ arg3 harg3 xq ![0, 384] inb_S256x512_S256x128_0_384 = tileQ xq 3 := readAt_tile 256 512 harg3 xq ![0, 384] inb_S256x512_S256x128_0_384 0 3 rfl rfl
  have tkd3 : ldK arg4 harg4 xk (k0_off7 i) (k0_off7_inb i) = tileK xk (i 2).val 3 := readAt_tile 4096 512 harg4 xk (k0_off7 i) (k0_off7_inb i) (i 2).val 3 (diag_toNat i) rfl
  have tvd3 : ldK arg5 harg5 xv (k0_off7 i) (k0_off7_inb i) = tileK xv (i 2).val 3 := readAt_tile 4096 512 harg5 xv (k0_off7 i) (k0_off7_inb i) (i 2).val 3 (diag_toNat i) rfl
  have tkl3 : ldK arg4 harg4 xk (k0_off8 i) (k0_off8_inb i) = tileK xk ((i 2).val - 1) 3 := readAt_tile 4096 512 harg4 xk (k0_off8 i) (k0_off8_inb i) ((i 2).val - 1) 3 (prev_toNat i) rfl
  have tvl3 : ldK arg5 harg5 xv (k0_off8 i) (k0_off8_inb i) = tileK xv ((i 2).val - 1) 3 := readAt_tile 4096 512 harg5 xv (k0_off8 i) (k0_off8_inb i) ((i 2).val - 1) 3 (prev_toNat i) rfl
  have c0 : body_run.sl.r_16 c i arg3 harg3 arg4 harg4 arg6 harg6 xq xk xu = startC i (k0_pay4 xu) xq xk 0 := by
    have h : body_run.sl.r_16 c i arg3 harg3 arg4 harg4 arg6 harg6 xq xk xu
        = carL (k0_pay4 (View.readAt (Elt F) arg6.view (Rect.unit (s := S256x256) ![0, 0] S256x256.size inb_S256x256_S256x256_0_0).toLoadRect (harg6.unread xu))) (live i) (carD (k0_pay4 (View.readAt (Elt F) arg6.view (Rect.unit (s := S256x256) ![0, 0] S256x256.size inb_S256x256_S256x256_0_0).toLoadRect (harg6.unread xu))) (ldQ arg3 harg3 xq ![0, 0] inb_S256x512_S256x128_0_0) (ldK arg4 harg4 xk (k0_off1 i) (k0_off1_inb i))) (ldQ arg3 harg3 xq ![0, 0] inb_S256x512_S256x128_0_0) (ldK arg4 harg4 xk (k0_off2 i) (k0_off2_inb i)) := rfl
    rw [h, tu, tq0, tkd0, tkl0]; rfl
  have a0 : body_run.sl.r_15 c i arg3 harg3 arg4 harg4 arg5 harg5 arg6 harg6 xq xk xv xu = startA i (k0_pay4 xu) xq xk xv 0 := by
    have h : body_run.sl.r_15 c i arg3 harg3 arg4 harg4 arg5 harg5 arg6 harg6 xq xk xv xu
        = accL (k0_pay4 (View.readAt (Elt F) arg6.view (Rect.unit (s := S256x256) ![0, 0] S256x256.size inb_S256x256_S256x256_0_0).toLoadRect (harg6.unread xu))) (live i) (carD (k0_pay4 (View.readAt (Elt F) arg6.view (Rect.unit (s := S256x256) ![0, 0] S256x256.size inb_S256x256_S256x256_0_0).toLoadRect (harg6.unread xu))) (ldQ arg3 harg3 xq ![0, 0] inb_S256x512_S256x128_0_0) (ldK arg4 harg4 xk (k0_off1 i) (k0_off1_inb i))) (accD (k0_pay4 (View.readAt (Elt F) arg6.view (Rect.unit (s := S256x256) ![0, 0] S256x256.size inb_S256x256_S256x256_0_0).toLoadRect (harg6.unread xu))) (ldQ arg3 harg3 xq ![0, 0] inb_S256x512_S256x128_0_0) (ldK arg4 harg4 xk (k0_off1 i) (k0_off1_inb i)) (ldK arg5 harg5 xv (k0_off1 i) (k0_off1_inb i))) (ldQ arg3 harg3 xq ![0, 0] inb_S256x512_S256x128_0_0) (ldK arg4 harg4 xk (k0_off2 i) (k0_off2_inb i)) (ldK arg5 harg5 xv (k0_off2 i) (k0_off2_inb i)) := rfl
    rw [h, tu, tq0, tkd0, tkl0, tvd0, tvl0]; rfl
  have c1 : body_run.sl.r_32 c i arg3 harg3 arg4 harg4 arg6 harg6 xq xk xu = startC i (k0_pay4 xu) xq xk 1 := by
    have h : body_run.sl.r_32 c i arg3 harg3 arg4 harg4 arg6 harg6 xq xk xu
        = carL (k0_pay4 (View.readAt (Elt F) arg6.view (Rect.unit (s := S256x256) ![0, 0] S256x256.size inb_S256x256_S256x256_0_0).toLoadRect (harg6.unread xu))) (live i) (carD (k0_pay4 (View.readAt (Elt F) arg6.view (Rect.unit (s := S256x256) ![0, 0] S256x256.size inb_S256x256_S256x256_0_0).toLoadRect (harg6.unread xu))) (ldQ arg3 harg3 xq ![0, 128] inb_S256x512_S256x128_0_128) (ldK arg4 harg4 xk (k0_off3 i) (k0_off3_inb i))) (ldQ arg3 harg3 xq ![0, 128] inb_S256x512_S256x128_0_128) (ldK arg4 harg4 xk (k0_off4 i) (k0_off4_inb i)) := rfl
    rw [h, tu, tq1, tkd1, tkl1]; rfl
  have a1 : body_run.sl.r_31 c i arg3 harg3 arg4 harg4 arg5 harg5 arg6 harg6 xq xk xv xu = startA i (k0_pay4 xu) xq xk xv 1 := by
    have h : body_run.sl.r_31 c i arg3 harg3 arg4 harg4 arg5 harg5 arg6 harg6 xq xk xv xu
        = accL (k0_pay4 (View.readAt (Elt F) arg6.view (Rect.unit (s := S256x256) ![0, 0] S256x256.size inb_S256x256_S256x256_0_0).toLoadRect (harg6.unread xu))) (live i) (carD (k0_pay4 (View.readAt (Elt F) arg6.view (Rect.unit (s := S256x256) ![0, 0] S256x256.size inb_S256x256_S256x256_0_0).toLoadRect (harg6.unread xu))) (ldQ arg3 harg3 xq ![0, 128] inb_S256x512_S256x128_0_128) (ldK arg4 harg4 xk (k0_off3 i) (k0_off3_inb i))) (accD (k0_pay4 (View.readAt (Elt F) arg6.view (Rect.unit (s := S256x256) ![0, 0] S256x256.size inb_S256x256_S256x256_0_0).toLoadRect (harg6.unread xu))) (ldQ arg3 harg3 xq ![0, 128] inb_S256x512_S256x128_0_128) (ldK arg4 harg4 xk (k0_off3 i) (k0_off3_inb i)) (ldK arg5 harg5 xv (k0_off3 i) (k0_off3_inb i))) (ldQ arg3 harg3 xq ![0, 128] inb_S256x512_S256x128_0_128) (ldK arg4 harg4 xk (k0_off4 i) (k0_off4_inb i)) (ldK arg5 harg5 xv (k0_off4 i) (k0_off4_inb i)) := rfl
    rw [h, tu, tq1, tkd1, tkl1, tvd1, tvl1]; rfl
  have c2 : body_run.sl.r_48 c i arg3 harg3 arg4 harg4 arg6 harg6 xq xk xu = startC i (k0_pay4 xu) xq xk 2 := by
    have h : body_run.sl.r_48 c i arg3 harg3 arg4 harg4 arg6 harg6 xq xk xu
        = carL (k0_pay4 (View.readAt (Elt F) arg6.view (Rect.unit (s := S256x256) ![0, 0] S256x256.size inb_S256x256_S256x256_0_0).toLoadRect (harg6.unread xu))) (live i) (carD (k0_pay4 (View.readAt (Elt F) arg6.view (Rect.unit (s := S256x256) ![0, 0] S256x256.size inb_S256x256_S256x256_0_0).toLoadRect (harg6.unread xu))) (ldQ arg3 harg3 xq ![0, 256] inb_S256x512_S256x128_0_256) (ldK arg4 harg4 xk (k0_off5 i) (k0_off5_inb i))) (ldQ arg3 harg3 xq ![0, 256] inb_S256x512_S256x128_0_256) (ldK arg4 harg4 xk (k0_off6 i) (k0_off6_inb i)) := rfl
    rw [h, tu, tq2, tkd2, tkl2]; rfl
  have a2 : body_run.sl.r_47 c i arg3 harg3 arg4 harg4 arg5 harg5 arg6 harg6 xq xk xv xu = startA i (k0_pay4 xu) xq xk xv 2 := by
    have h : body_run.sl.r_47 c i arg3 harg3 arg4 harg4 arg5 harg5 arg6 harg6 xq xk xv xu
        = accL (k0_pay4 (View.readAt (Elt F) arg6.view (Rect.unit (s := S256x256) ![0, 0] S256x256.size inb_S256x256_S256x256_0_0).toLoadRect (harg6.unread xu))) (live i) (carD (k0_pay4 (View.readAt (Elt F) arg6.view (Rect.unit (s := S256x256) ![0, 0] S256x256.size inb_S256x256_S256x256_0_0).toLoadRect (harg6.unread xu))) (ldQ arg3 harg3 xq ![0, 256] inb_S256x512_S256x128_0_256) (ldK arg4 harg4 xk (k0_off5 i) (k0_off5_inb i))) (accD (k0_pay4 (View.readAt (Elt F) arg6.view (Rect.unit (s := S256x256) ![0, 0] S256x256.size inb_S256x256_S256x256_0_0).toLoadRect (harg6.unread xu))) (ldQ arg3 harg3 xq ![0, 256] inb_S256x512_S256x128_0_256) (ldK arg4 harg4 xk (k0_off5 i) (k0_off5_inb i)) (ldK arg5 harg5 xv (k0_off5 i) (k0_off5_inb i))) (ldQ arg3 harg3 xq ![0, 256] inb_S256x512_S256x128_0_256) (ldK arg4 harg4 xk (k0_off6 i) (k0_off6_inb i)) (ldK arg5 harg5 xv (k0_off6 i) (k0_off6_inb i)) := rfl
    rw [h, tu, tq2, tkd2, tkl2, tvd2, tvl2]; rfl
  have c3 : k0_pay79 (body_run.sl.r c arg6 harg6 xu) (body_run.sl.r_56 c i arg3 harg3 arg4 harg4 arg6 harg6 xq xk xu) (body_run.sl.r_60 c i arg3 harg3 arg4 harg4 xq xk) (body_run.sl.r_61 c i arg3 harg3 arg4 harg4 xq xk) (body_run.sl.r_62 c i arg3 harg3 arg4 harg4 xq xk) body_run.sl.cst_13 = startC i (k0_pay4 xu) xq xk 3 := by
    have h : k0_pay79 (body_run.sl.r c arg6 harg6 xu) (body_run.sl.r_56 c i arg3 harg3 arg4 harg4 arg6 harg6 xq xk xu) (body_run.sl.r_60 c i arg3 harg3 arg4 harg4 xq xk) (body_run.sl.r_61 c i arg3 harg3 arg4 harg4 xq xk) (body_run.sl.r_62 c i arg3 harg3 arg4 harg4 xq xk) body_run.sl.cst_13
        = carL (k0_pay4 (View.readAt (Elt F) arg6.view (Rect.unit (s := S256x256) ![0, 0] S256x256.size inb_S256x256_S256x256_0_0).toLoadRect (harg6.unread xu))) (live i) (carD (k0_pay4 (View.readAt (Elt F) arg6.view (Rect.unit (s := S256x256) ![0, 0] S256x256.size inb_S256x256_S256x256_0_0).toLoadRect (harg6.unread xu))) (ldQ arg3 harg3 xq ![0, 384] inb_S256x512_S256x128_0_384) (ldK arg4 harg4 xk (k0_off7 i) (k0_off7_inb i))) (ldQ arg3 harg3 xq ![0, 384] inb_S256x512_S256x128_0_384) (ldK arg4 harg4 xk (k0_off8 i) (k0_off8_inb i)) := rfl
    rw [h, tu, tq3, tkd3, tkl3]; rfl
  have a3 : k0_pay78 (body_run.sl.r c arg6 harg6 xu) (k0_pay6 i) (body_run.sl.r_55 c i arg3 harg3 arg4 harg4 arg5 harg5 arg6 harg6 xq xk xv xu) (body_run.sl.r_56 c i arg3 harg3 arg4 harg4 arg6 harg6 xq xk xu) (body_run.sl.r_57 c i arg5 harg5 xv) (body_run.sl.r_58 c i arg3 harg3 arg4 harg4 xq xk) (body_run.sl.r_59 c i arg3 harg3 arg4 harg4 xq xk) (body_run.sl.r_61 c i arg3 harg3 arg4 harg4 xq xk) (body_run.sl.r_62 c i arg3 harg3 arg4 harg4 xq xk) body_run.sl.cst_13 = startA i (k0_pay4 xu) xq xk xv 3 := by
    have h : k0_pay78 (body_run.sl.r c arg6 harg6 xu) (k0_pay6 i) (body_run.sl.r_55 c i arg3 harg3 arg4 harg4 arg5 harg5 arg6 harg6 xq xk xv xu) (body_run.sl.r_56 c i arg3 harg3 arg4 harg4 arg6 harg6 xq xk xu) (body_run.sl.r_57 c i arg5 harg5 xv) (body_run.sl.r_58 c i arg3 harg3 arg4 harg4 xq xk) (body_run.sl.r_59 c i arg3 harg3 arg4 harg4 xq xk) (body_run.sl.r_61 c i arg3 harg3 arg4 harg4 xq xk) (body_run.sl.r_62 c i arg3 harg3 arg4 harg4 xq xk) body_run.sl.cst_13
        = accL (k0_pay4 (View.readAt (Elt F) arg6.view (Rect.unit (s := S256x256) ![0, 0] S256x256.size inb_S256x256_S256x256_0_0).toLoadRect (harg6.unread xu))) (live i) (carD (k0_pay4 (View.readAt (Elt F) arg6.view (Rect.unit (s := S256x256) ![0, 0] S256x256.size inb_S256x256_S256x256_0_0).toLoadRect (harg6.unread xu))) (ldQ arg3 harg3 xq ![0, 384] inb_S256x512_S256x128_0_384) (ldK arg4 harg4 xk (k0_off7 i) (k0_off7_inb i))) (accD (k0_pay4 (View.readAt (Elt F) arg6.view (Rect.unit (s := S256x256) ![0, 0] S256x256.size inb_S256x256_S256x256_0_0).toLoadRect (harg6.unread xu))) (ldQ arg3 harg3 xq ![0, 384] inb_S256x512_S256x128_0_384) (ldK arg4 harg4 xk (k0_off7 i) (k0_off7_inb i)) (ldK arg5 harg5 xv (k0_off7 i) (k0_off7_inb i))) (ldQ arg3 harg3 xq ![0, 384] inb_S256x512_S256x128_0_384) (ldK arg4 harg4 xk (k0_off8 i) (k0_off8_inb i)) (ldK arg5 harg5 xv (k0_off8 i) (k0_off8_inb i)) := rfl
    rw [h, tu, tq3, tkd3, tkl3, tvd3, tvl3]; rfl
  have hu : body_run.sl.r c arg6 harg6 xu = k0_pay4 xu := congrArg k0_pay4 tu
  have hj : body_run.sl.v380 i = Scalar.subi (BitVec.ofNat 32 (i 2).val) 2#32 := rfl
  have hal : body_run.sl.v401 c i arg3 harg3 arg4 harg4 arg6 harg6 xq xk xu = alive (startC i (k0_pay4 xu) xq xk) := by
    unfold alive
    rw [← c0, ← c1, ← c2, ← c3]
    rfl
  rw [c0, c1, c2, c3, a0, a1, a2, a3, hal, hj, hu]
  iapply (wp_call_spec 𝒱₀ (c : Thread nD τ) none E
    (spec c arg3 harg3 arg4 harg4 arg5 harg5 (k0_pay4 xu) xq xk xv 15 (Scalar.subi (BitVec.ofNat 32 (i 2).val) 2#32)
      (alive (startC i (k0_pay4 xu) xq xk)) (startC i (k0_pay4 xu) xq xk) (startA i (k0_pay4 xu) xq xk xv)) 15
    (fun u hu => nomatch hu)
    (spec_le c i arg3 harg3 arg4 harg4 arg5 harg5 (k0_pay4 xu) xq xk xv E 15 _ _ _ _ (first_toInt i) (by omega)))
  rw [spec_apply]; unfold held
  isplitl [H0 H1 H2]
  · isplitl [H0]; · iexact H0
    isplitl [H1]; · iexact H1
    iexact H2
  iintro ⟨H0, H1, H2⟩
  have hres : wres (k0_pay4 xu) xq xk xv 15 (Scalar.subi (BitVec.ofNat 32 (i 2).val) 2#32)
      (alive (startC i (k0_pay4 xu) xq xk)) (startC i (k0_pay4 xu) xq xk) (startA i (k0_pay4 xu) xq xk xv)
      = loopRes i (k0_pay4 xu) xq xk xv := rfl
  rw [hres]
  clear c0 c1 c2 c3 a0 a1 a2 a3 hal hj hu hres
  generalize loopRes i (k0_pay4 xu) xq xk xv = r
  obtain ⟨r0, r1, r2, r3, r4, r5, r6, r7, r8, r9⟩ := r
  sl_exec
  rw [wp_ret]; imodintro
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; iexact H4

end Cert.KernelIdeal.Sb

end
-- ==== Proof.SbI.Frame.lean ====
/-
  The stick-breaking kernel's run: at every grid point the body leaves its inputs in place and its output block at the
  four stored pieces, so the pipelined region terminates, faults nowhere, and leaves the argument unchanged, the
  semaphore counters at zero, and the result array at what the points wrote back.
-/
module

public import proofs.«01_k».proof.Proof.SbI.Body

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four pieces cover the output block. -/
theorem stores_cover (r : Res F) (y : S256x512.Idx) : ∃ pc ∈ stores r, y ∈ pc.1.set :=
  View.cover_of_tiledL (stores r) S256x128.size (by sl_kernel_rfl) y

/-- The output block from the loop's result: the pieces read back. -/
def blockOut (r : Res F) : Vec F S256x512 .bf16 :=
  outView.read (Elt F) (outView.writes (Elt F) outView.junk (stores r))

/-- The loop's result at point `t`. -/
def resAt (c : Dev nD) (t : Fin (cfg0 (F := F)).N) : Res F :=
  loopRes (grid0.coords t) (k0_pay4 (blockIn m c 3 t)) (blockIn m c 0 t) (blockIn m c 1 t) (blockIn m c 2 t)

/-- The pipeline's proof data: the arrays as the region finds them; each input's block left in place, the output's block
    at the pieces; nothing else held or owed. -/
def dats (_ : Fin 1) (c : Dev nD) : Dat τ (Elt F) Unit ℕ (UR sig nD τ) ℕ (cfg0 (F := F)) c where
  A w := entryV m c (Pipeline.arrRef spec0 w)
  after w t := match w with
    | ⟨0, _⟩ => blockIn m c 0 t
    | ⟨1, _⟩ => blockIn m c 1 t
    | ⟨2, _⟩ => blockIn m c 2 t
    | ⟨3, _⟩ => blockIn m c 3 t
    | ⟨4, _⟩ => blockOut (resAt m c t)
  Φ _ := Pipeline.ΦA spec0 c
  q w := Pipeline.shareOf spec0 w
  owed _ := 0

theorem dats_A (c : Dev nD) (w : Fin (cfg0 (F := F)).W) : (dats m 0 c).A w = entryV m c (Pipeline.arrRef spec0 w) := by
  dsimp only [dats]

theorem after_0 (c : Dev nD) (t : Fin (cfg0 (F := F)).N) : (dats m 0 c).after 0 t = blockIn m c 0 t := rfl
theorem after_1 (c : Dev nD) (t : Fin (cfg0 (F := F)).N) : (dats m 0 c).after 1 t = blockIn m c 1 t := rfl
theorem after_2 (c : Dev nD) (t : Fin (cfg0 (F := F)).N) : (dats m 0 c).after 2 t = blockIn m c 2 t := rfl
theorem after_3 (c : Dev nD) (t : Fin (cfg0 (F := F)).N) : (dats m 0 c).after 3 t = blockIn m c 3 t := rfl
theorem after_4 (c : Dev nD) (t : Fin (cfg0 (F := F)).N) : (dats m 0 c).after 4 t = blockOut (resAt m c t) := rfl

theorem before_0 (c : Dev nD) (t : Fin (cfg0 (F := F)).N) (d) : (dats m 0 c).before 0 t d = blockIn m c 0 t :=
  before0_of m (dats m 0 c) (dats_A m c 0) (after_0 m c) t d
theorem before_1 (c : Dev nD) (t : Fin (cfg0 (F := F)).N) (d) : (dats m 0 c).before 1 t d = blockIn m c 1 t :=
  before1_of m (dats m 0 c) (dats_A m c 1) (after_1 m c) t d
theorem before_2 (c : Dev nD) (t : Fin (cfg0 (F := F)).N) (d) : (dats m 0 c).before 2 t d = blockIn m c 2 t :=
  before2_of m (dats m 0 c) (dats_A m c 2) (after_2 m c) t d
theorem before_3 (c : Dev nD) (t : Fin (cfg0 (F := F)).N) (d) : (dats m 0 c).before 3 t d = blockIn m c 3 t :=
  before3_of m (dats m 0 c) (dats_A m c 3) (after_3 m c) t d

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (stgQ (F := F) t) fullShare ((dats m 0 c).before 0 t d))
    ∗ (∃ d, owns (c : Thread nD τ) (stgK (F := F) t) fullShare ((dats m 0 c).before 1 t d))
    ∗ (∃ d, owns (c : Thread nD τ) (stgV (F := F) t) fullShare ((dats m 0 c).before 2 t d))
    ∗ (∃ d, owns (c : Thread nD τ) (stgU (F := F) t) fullShare ((dats m 0 c).before 3 t d))
    ∗ (∃ d, owns (c : Thread nD τ) (stgO (F := F) t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (stgQ (F := F) t) fullShare ((dats m 0 c).after 0 t)
    ∗ owns (c : Thread nD τ) (stgK (F := F) t) fullShare ((dats m 0 c).after 1 t)
    ∗ owns (c : Thread nD τ) (stgV (F := F) t) fullShare ((dats m 0 c).after 2 t)
    ∗ owns (c : Thread nD τ) (stgU (F := F) t) fullShare ((dats m 0 c).after 3 t)
    ∗ owns (c : Thread nD τ) (stgO (F := F) t) fullShare ((dats m 0 c).after 4 t))

/-- The body at any point, from `body_run`. -/
theorem body_at (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold blockOut resAt
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (blockIn m c 0 t) (blockIn m c 1 t) (blockIn m c 2 t) (blockIn m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (stores_cover _)

/-- The body table's row at point `t` is the body there. -/
theorem row (t : Fin (cfg0 (F := F)).N) :
    defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) 𝒱₀ () Set.univ := fun t => by
  rw [bigSep_W0, bigSep_W0, row]
  exact triple_restated (body_at m c t) rfl .rfl fun _ => .rfl

set_option backward.isDefEq.respectTransparency.types false in
/-- The launch: every fair execution terminates with the arrays at what the pipeline computes and the counters at zero. -/
theorem run_quiescent : θ_run defs (onTc (τ := τ) (main (F := F))) (s₀ m ρ)
    (fun r => (Pipeline.FramePost cfgs (dats m) 0 (entryV m)) r ∧ r.2.sem = fun _ => 0) :=
  Pipeline.θ_run_frame_shared (Q' := _) cfgs (dats m) (0 : Fin 1) launch₀0 defs₀ 𝒱₀ m ρ main
    (hbody := fun c => (obligation m c).loose) (hq := fun _ _ _ => rfl)
    (howed := fun _ _ => rfl) (V := entryV m) (hmain := main_prefix m) (hA := dats_A m) (hΦ := fun _ _ => rfl)

/-- The argument after the run is as launched: an input window stages it and writes nothing back. -/
theorem kept (r : PUnit × MemSt nD τ sig (Elt F)) (h : Pipeline.FramePost cfgs (dats m) 0 (entryV m) r) (c : Dev nD) :
    r.2.mem ((c : Thread nD τ).loc main_arg0) = m ((c : Thread nD τ).loc main_arg0) :=
  ((h c).1 2).trans (((dats m 0 c).arrAt_in 2 rfl _).trans ((dats_A m c 2).trans (entryV_arg0 m c)))

/-- The frame: the argument unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => kept m r h.1 c, h.2⟩) (run_quiescent m ρ)

/-- The run with the result array named: what the points' write-backs leave of it. -/
theorem run_result : θ_run defs (onTc (τ := τ) (main (F := F))) ⟨m, fun _ => 0, ρ⟩ fun r => ∀ c : Dev nD,
      r.2.mem ((c : Thread nD τ).loc main_v7) = (dats m 0 c).arrAt 4 (cfg0 (F := F)).N
      ∧ r.2.mem ((c : Thread nD τ).loc main_arg0) = m ((c : Thread nD τ).loc main_arg0) :=
  (θ_run defs _ _).mono (fun r h c => ⟨(h.1 c).1 4, kept m r h.1 c⟩) (run_quiescent m ρ)

end Cert.KernelIdeal.Sb

end
-- ==== Proof.Math.lean ====
/-
  Stick-breaking attention on the real numbers, one query against 4096 keys. Key `s` of score `z s` takes `soft (z s)`
  off the (logarithm of the) stick if it comes before the query's position `T`; `tail T z a` is what the keys from `a` on
  take off, and `total T z v a` the keys' values from `a` on, each weighted by its share of what the later keys left.
-/
module

public import Mathlib.Analysis.SpecialFunctions.Log.Basic
public import Mathlib.Algebra.BigOperators.Intervals

@[expose] public section

noncomputable section

namespace Cert.Stick

open Finset

/-- The softplus `log (1 + exp x)`, written so that neither term overflows. -/
def soft (x : ℝ) : ℝ := max x 0 + Real.log (1 + Real.exp (-|x|))

/-- What key `s` takes off the stick. -/
def gone (T : ℕ) (z : ℕ → ℝ) (s : ℕ) : ℝ := if s < T then soft (z s) else 0

/-- What the keys from `a` on take off. -/
def tail (T : ℕ) (z : ℕ → ℝ) (a : ℕ) : ℝ := ∑ s ∈ Ico a 4096, gone T z s

/-- The weight of key `s`. -/
def weight (T : ℕ) (z : ℕ → ℝ) (s : ℕ) : ℝ :=
  if s < T then Real.exp ((z s - soft (z s)) - tail T z (s + 1)) else 0

/-- The weighted values of the keys from `a` on. -/
def total (T : ℕ) (z v : ℕ → ℝ) (a : ℕ) : ℝ := ∑ s ∈ Ico a 4096, weight T z s * v s

variable {T : ℕ} {z v : ℕ → ℝ}

theorem gone_lt {s : ℕ} (h : s < T) : gone T z s = soft (z s) := if_pos h
theorem gone_ge {s : ℕ} (h : T ≤ s) : gone T z s = 0 := if_neg (Nat.not_lt.mpr h)

/-- Keys not before the query take nothing off, -/
theorem tail_end {a : ℕ} (h : T ≤ a) : tail T z a = 0 :=
  sum_eq_zero fun s hs => gone_ge (h.trans (mem_Ico.mp hs).1)

/-- and add nothing. -/
theorem total_end {a : ℕ} (h : T ≤ a) : total T z v a = 0 :=
  sum_eq_zero fun s hs => by
    rw [weight, if_neg (Nat.not_lt.mpr (h.trans (mem_Ico.mp hs).1)), zero_mul]

/-- A sum over 256 consecutive keys, as a sum over the places of a tile. -/
theorem sum_tile (f : ℕ → ℝ) (a : ℕ) : ∑ s ∈ Ico a (a + 256), f s = ∑ s : Fin 256, f (a + s.val) := by
  rw [sum_Ico_eq_sum_range, Nat.add_sub_cancel_left, ← Fin.sum_univ_eq_sum_range (fun s => f (a + s))]

/-- What the keys after place `c` of the tile at `a` take off: the tile's later keys, and those after the tile. -/
theorem tail_in {a : ℕ} (ha : a + 256 ≤ 4096) (c : Fin 256) :
    tail T z (a + c.val + 1) = (∑ s : Fin 256, if c.val < s.val then gone T z (a + s.val) else 0) + tail T z (a + 256) := by
  have hc := c.isLt
  have h : ∑ s : Fin 256, (if c.val < s.val then gone T z (a + s.val) else 0) = ∑ s ∈ Ico (a + c.val + 1) (a + 256), gone T z s := by
    rw [← sum_tile (fun s => if a + c.val < s then gone T z s else 0) a |>.trans
      (sum_congr rfl fun s _ => by simp only [Nat.add_lt_add_iff_left]), ← sum_filter]
    congr 1
    ext s
    simp only [mem_filter, mem_Ico]
    omega
  rw [h, tail, tail, sum_Ico_consecutive _ (by omega) ha]

/-- What the keys from `a` on take off, a tile at a time. -/
theorem tail_block {a : ℕ} (ha : a + 256 ≤ 4096) :
    tail T z a = tail T z (a + 256) + ((∑ s : Fin 256, if 0 < s.val then gone T z (a + s.val) else 0) + gone T z a) := by
  have h := tail_in (T := T) (z := z) ha 0
  have h2 : tail T z a = gone T z a + tail T z (a + 1) := by
    rw [tail, tail, sum_eq_sum_Ico_succ_bot (by omega)]
  rw [h2]
  simp only [Fin.val_zero, add_zero] at h
  rw [h]; ring

/-- The weighted values from `a` on, a tile at a time. -/
theorem total_block {a : ℕ} (ha : a + 256 ≤ 4096) :
    total T z v a = total T z v (a + 256) + ∑ c : Fin 256, weight T z (a + c.val) * v (a + c.val) := by
  rw [← sum_tile (fun s => weight T z s * v s) a, total, total,
    ← sum_Ico_consecutive _ (by omega : a ≤ a + 256) ha, add_comm]

end Cert.Stick

end
-- ==== Proof.Coe.lean ====
/-
  Extended reals that are real: sums, maxima and the softplus of such numbers are real, and the constants that the
  programs name by their words.
-/
module

public import proofs.«01_k».proof.Proof.Math
public import Idealize.ShloMosaic.Lib.Pointwise

@[expose] public section

noncomputable section

namespace Cert.Stick

open Idealize.ShloMosaic

/-- The sum of real numbers, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of real numbers. -/
theorem coe_max (x y : ℝ) : max (x : EReal) (y : EReal) = ((max x y : ℝ) : EReal) :=
  (EReal.coe_strictMono.monotone.map_max).symm

/-- The softplus as the kernel writes it. -/
theorem soft_coe (x : ℝ) :
    max (x : EReal) 0 + Ideal.log (1 + Ideal.exp (0 - max (x : EReal) (-(x : EReal)))) = ((soft x : ℝ) : EReal) := by
  have h1 : max (x : EReal) (-(x : EReal)) = ((|x| : ℝ) : EReal) := by
    rw [← EReal.coe_neg, coe_max, abs_eq_max_neg]
  have h2 : (0 : EReal) - ((|x| : ℝ) : EReal) = ((-|x| : ℝ) : EReal) := by
    rw [← EReal.coe_zero, ← EReal.coe_sub, zero_sub]
  have h3 : ¬ (1 + Real.exp (-|x|) ≤ 0) := by
    have := Real.exp_pos (-|x|)
    linarith
  rw [h1, h2, Ideal.exp_coe, ← EReal.coe_one, ← EReal.coe_add, Ideal.log_coe, if_neg h3, ← EReal.coe_zero, coe_max,
    ← EReal.coe_add]
  rfl

/-- The scale of the scores, a real number. -/
def sigma : ℝ := (Ideal.ofBits .f32 0x3DB504F3#32).toReal
theorem sigma_coe : Ideal.ofBits .f32 0x3DB504F3#32 = ((sigma : ℝ) : EReal) := by
  rw [sigma, EReal.coe_toReal]
  · simp only [Ideal.ofBits, Ideal.ieee]
    rw [if_neg (by decide), if_neg (by decide)]
    exact EReal.coe_ne_top _
  · simp only [Ideal.ofBits, Ideal.ieee]
    rw [if_neg (by decide), if_neg (by decide)]
    exact EReal.coe_ne_bot _

/-- The word of infinity. -/
theorem inf_top : Ideal.ofBits .f32 0x7F800000#32 = ⊤ := by
  simp only [Ideal.ofBits, Ideal.ieee]
  rw [if_pos (by decide), if_pos (by decide), if_neg (by decide)]

end Cert.Stick

end
-- ==== Proof.SbI.Tile.lean ====
/-
  One tile of the kernel on real numbers. Over tiles of real numbers each of the kernel's pieces is a real number at every
  index: the scores are the scaled products, what a key takes off is the softplus of its score, and the carry and the
  accumulator go from `tail`, `total` at the tile's end to `tail`, `total` at its start.
-/
module

public import proofs.«01_k».proof.Proof.SbI.Blocks
public import proofs.«01_k».proof.Proof.Coe

@[expose] public section

set_option maxRecDepth 16384

noncomputable section

namespace Cert.KernelIdeal.Sb

open Cert.KernelIdeal Cert.KernelIdeal.Gen
open Idealize.ShloMosaic Idealize.ShloMosaic.TcCoe
open Cert.Stick (gone tail total weight sigma coe_sum)

/-! ### The pieces at an index -/

theorem tile_at (rows cols : ℕ) [NeZero rows] [NeZero cols] (X : Vec Ideal ⟨2, ![rows, cols]⟩ .bf16) (j h : ℕ) (r : Fin 256) (d : Fin 128) :
   tile rows cols X j h (ix2 r d) = X (ix2 (Fin.ofNat rows (256 * j + r.val)) (Fin.ofNat cols (128 * h + d.val))) := by
  unfold tile
  congr 1

/-- Of real queries and keys the scores are the scaled products. -/
theorem scores_at {q k : Vec Ideal S256x128 .bf16} {r c : Fin 256} {qr kr : Fin 128 → ℝ}
    (hq : ∀ d, q (ix2 r d) = ((qr d : ℝ) : EReal)) (hk : ∀ d, k (ix2 c d) = ((kr d : ℝ) : EReal)) :
    scores q k (ix2 r c) = (((∑ d, qr d * kr d) * sigma : ℝ) : EReal) := by
  pointwise [scores]
  simp only [hq, hk, ← EReal.coe_mul, coe_sum, Stick.sigma_coe]

/-- Of a real score the softplus. -/
theorem soft_at {z : FVec Ideal S256x256 .f32} {r c : Fin 256} {x : ℝ} (hz : z (ix2 r c) = ((x : ℝ) : EReal)) :
    soft z (ix2 r c) = ((Stick.soft x : ℝ) : EReal) := by
  pointwise [soft]
  rw [hz]
  exact Stick.soft_coe x

/-- The triangle: one where the row is after the column. -/
def IsTri (u : FVec Ideal S256x256 .bf16) : Prop :=
  ∀ s c : Fin 256, u (ix2 s c) = (((if c.val < s.val then 1 else 0 : ℝ)) : EReal)

/-- What the later keys of the tile take off. -/
theorem later_at {u : FVec Ideal S256x256 .bf16} (hu : IsTri u) {d : FVec Ideal S256x256 .f32} {r : Fin 256} {dr : Fin 256 → ℝ}
    (hd : ∀ s, d (ix2 r s) = ((dr s : ℝ) : EReal)) (c : Fin 256) :
    later u d (ix2 r c) = ((∑ s : Fin 256, if c.val < s.val then dr s else 0 : ℝ) : EReal) := by
  pointwise [later]
  simp only [hd, hu _ _, ← EReal.coe_sub, sub_self, ← EReal.coe_mul, zero_mul, coe_sum, Finset.sum_const_zero, ← EReal.coe_add,
    add_zero, mul_ite, mul_one, mul_zero, ite_self]

/-- The weight of a key. -/
theorem weights_at {z lat : FVec Ideal S256x256 .f32} {car : FVec Ideal S256x128 .f32} {r c : Fin 256} {x l t : ℝ}
    (hz : z (ix2 r c) = ((x : ℝ) : EReal)) (hl : lat (ix2 r c) = ((l : ℝ) : EReal)) (hc : ∀ e, car (ix2 r e) = ((t : ℝ) : EReal)) :
    weights z lat car (ix2 r c) = ((Real.exp ((x - Stick.soft x) - (l + t)) : ℝ) : EReal) := by
  pointwise [weights]
  rw [soft_at hz, hz, hl]
  simp only [hc, dite_eq_ite, ite_self]
  rw [← EReal.coe_sub, ← EReal.coe_add, ← EReal.coe_sub, Ideal.exp_coe]

/-- What a tile adds to the accumulator. -/
theorem accum_at {acc : FVec Ideal S256x128 .f32} {w : FVec Ideal S256x256 .f32} {v : Vec Ideal S256x128 .bf16} {r : Fin 256} {e : Fin 128}
    {a : ℝ} {wr vr : Fin 256 → ℝ} (ha : acc (ix2 r e) = ((a : ℝ) : EReal)) (hw : ∀ c, w (ix2 r c) = ((wr c : ℝ) : EReal))
    (hv : ∀ c, v (ix2 c e) = ((vr c : ℝ) : EReal)) :
    accum acc w v (ix2 r e) = ((a + ∑ c, wr c * vr c : ℝ) : EReal) := by
  pointwise [accum]
  simp only [ha, hw, hv, ← EReal.coe_mul, coe_sum, ← EReal.coe_add]

/-- What a tile adds to the carry. -/
theorem carry_at {car : FVec Ideal S256x128 .f32} {lat d : FVec Ideal S256x256 .f32} {r : Fin 256} {e : Fin 128} {t l x : ℝ}
    (hc : car (ix2 r e) = ((t : ℝ) : EReal)) (hl : lat (ix2 r 0) = ((l : ℝ) : EReal)) (hd : d (ix2 r 0) = ((x : ℝ) : EReal)) :
    carry car lat d (ix2 r e) = ((t + (l + x) : ℝ) : EReal) := by
  pointwise [carry]
  rw [hc, hl, hd, ← EReal.coe_add, ← EReal.coe_add]

theorem zeros_at (r : Fin 256) (e : Fin 128) : zeros (F := Ideal) (ix2 r e) = ((0 : ℝ) : EReal) := by
  pointwise [zeros]
  rfl

/-- The mask of the diagonal tile. -/
theorem before_at (r c : Fin 256) : before (ix2 r c) = if c.val < r.val then 1#1 else 0#1 := by
  pointwise [before]
  revert r c
  intro r c
  have hr := r.isLt
  have hc := c.isLt
  have h1 : (BitVec.ofNat 32 c.val).toInt = c.val := by
    rw [BitVec.toInt_eq_toNat_of_lt] <;> rw [BitVec.toNat_ofNat] <;> omega
  have h2 : (BitVec.ofNat 32 r.val).toInt = r.val := by
    rw [BitVec.toInt_eq_toNat_of_lt] <;> rw [BitVec.toNat_ofNat] <;> omega
  simp only [IntOp.cmpi, BitVec.slt, h1, h2, Nat.cast_lt]
  by_cases h : c.val < r.val
  · rw [if_pos h, decide_eq_true h]; rfl
  · rw [if_neg h, decide_eq_false h]; rfl

/-! ### A tile's step -/

/-- The carry of row `r` is `t r` in every lane, -/
def CarIs (car : FVec Ideal S256x128 .f32) (t : Fin 256 → ℝ) : Prop := ∀ r e, car (ix2 r e) = ((t r : ℝ) : EReal)
/-- the accumulator's entry `(r, e)` is `a r e`. -/
def AccIs (acc : FVec Ideal S256x128 .f32) (a : Fin 256 → Fin 128 → ℝ) : Prop := ∀ r e, acc (ix2 r e) = ((a r e : ℝ) : EReal)

/-- The drops of the tile at `a` are those of the keys `a`, …, `a + 255` before `T r`. -/
def DropIs (d : FVec Ideal S256x256 .f32) (T : Fin 256 → ℕ) (z : Fin 256 → ℕ → ℝ) (a : ℕ) : Prop :=
  ∀ r s, d (ix2 r s) = ((gone (T r) (z r) (a + s.val) : ℝ) : EReal)

/-- The scores of the tile at `a`. -/
def ScoreIs (x : FVec Ideal S256x256 .f32) (z : Fin 256 → ℕ → ℝ) (a : ℕ) : Prop :=
  ∀ r s, x (ix2 r s) = ((z r (a + s.val) : ℝ) : EReal)

/-- The values of the tile at `a`. -/
def ValIs (v : Vec Ideal S256x128 .bf16) (y : Fin 128 → ℕ → ℝ) (a : ℕ) : Prop :=
  ∀ s e, v (ix2 s e) = ((y e (a + s.val) : ℝ) : EReal)

variable {u : FVec Ideal S256x256 .bf16} (hu : IsTri u) {T : Fin 256 → ℕ} {z : Fin 256 → ℕ → ℝ} {y : Fin 128 → ℕ → ℝ}
  {d x w : FVec Ideal S256x256 .f32} {car acc : FVec Ideal S256x128 .f32} {v : Vec Ideal S256x128 .bf16} {a : ℕ}

include hu in
/-- The carry goes from the tile's end to its start. -/
theorem carry_step (ha : a + 256 ≤ 4096) (hd : DropIs d T z a) (hc : CarIs car fun r => tail (T r) (z r) (a + 256)) :
    CarIs (carry car (later u d) d) fun r => tail (T r) (z r) a := by
  intro r e
  rw [carry_at (hc r e) (later_at hu (hd r) 0) (hd r 0)]
  exact congrArg _ (Stick.tail_block ha).symm

/-- The accumulator goes from the tile's end to its start. -/
theorem accum_step (ha : a + 256 ≤ 4096) (hv : ValIs v y a) (hw : ∀ r c, w (ix2 r c) = ((weight (T r) (z r) (a + c.val) : ℝ) : EReal))
    (hc : AccIs acc fun r e => total (T r) (z r) (y e) (a + 256)) :
    AccIs (accum acc w v) fun r e => total (T r) (z r) (y e) a := by
  intro r e
  rw [accum_at (hc r e) (hw r) (fun c => hv c e)]
  exact congrArg _ (Stick.total_block ha).symm

include hu in
/-- The weight of a key, before it is masked. -/
theorem weights_step (ha : a + 256 ≤ 4096) (hx : ScoreIs x z a) (hd : DropIs d T z a)
    (hc : CarIs car fun r => tail (T r) (z r) (a + 256)) (r c : Fin 256) :
    weights x (later u d) car (ix2 r c)
      = ((Real.exp ((z r (a + c.val) - Stick.soft (z r (a + c.val))) - tail (T r) (z r) (a + c.val + 1)) : ℝ) : EReal) := by
  rw [weights_at (hx r c) (later_at hu (hd r) c) (hc r), Stick.tail_in ha]

/-! ### The three kinds of tile -/

variable {q k : Vec Ideal S256x128 .bf16}

theorem soft_drop (hx : ScoreIs x z a) (hT : ∀ r, a + 256 ≤ T r) : DropIs (soft x) T z a := fun r s => by
  have h := hT r
  rw [soft_at (hx r s), Stick.gone_lt (by omega)]

include hu in
/-- A tile of the loop. -/
theorem loop_tile (hT : ∀ r, a + 256 ≤ T r) (ha : a + 256 ≤ 4096) (hx : ScoreIs (scores q k) z a) (hv : ValIs v y a)
    (hc : CarIs car fun r => tail (T r) (z r) (a + 256)) (hacc : AccIs acc fun r e => total (T r) (z r) (y e) (a + 256)) :
    CarIs (carW u car q k) (fun r => tail (T r) (z r) a) ∧ AccIs (accW u car acc q k v) (fun r e => total (T r) (z r) (y e) a) := by
  have hd := soft_drop hx hT
  refine ⟨carry_step hu ha hd hc, accum_step ha hv (fun r c => ?_) hacc⟩
  have h := hT r
  rw [weights_step hu ha hx hd hc, weight, if_pos (by omega)]

include hu in
/-- The diagonal tile, from nothing. -/
theorem diag_tile (hT : ∀ r, T r = a + r.val) (ha : a + 256 ≤ 4096) (hx : ScoreIs (scores q k) z a) (hv : ValIs v y a) :
    CarIs (carD u q k) (fun r => tail (T r) (z r) a) ∧ AccIs (accD u q k v) (fun r e => total (T r) (z r) (y e) a) := by
  have hd : DropIs (dropD q k) T z a := fun r s => by
    pointwise [dropD]
    rw [before_at, soft_at (hx r s), gone, hT]
    simp only [Nat.add_lt_add_iff_left]
    split <;> rfl
  have hend : ∀ r, T r ≤ a + 256 := fun r => by have h := hT r; omega
  have hc : CarIs zeros fun r => tail (T r) (z r) (a + 256) := fun r e =>
    (zeros_at r e).trans (congrArg _ (Stick.tail_end (hend r)).symm)
  have hacc : AccIs zeros fun r e => total (T r) (z r) (y e) (a + 256) := fun r e =>
    (zeros_at r e).trans (congrArg _ (Stick.total_end (hend r)).symm)
  refine ⟨carry_step hu ha hd hc, accum_step ha hv (fun r c => ?_) hacc⟩
  pointwise
  rw [before_at, weights_step hu ha hx hd hc, weight, hT]
  simp only [Nat.add_lt_add_iff_left]
  split <;> rfl

include hu in
/-- The tile before the diagonal one, where there is one. -/
theorem live_tile (hT : ∀ r, a + 256 ≤ T r) (ha : a + 256 ≤ 4096) (hx : ScoreIs (scores q k) z a) (hv : ValIs v y a)
    (hc : CarIs car fun r => tail (T r) (z r) (a + 256)) (hacc : AccIs acc fun r e => total (T r) (z r) (y e) (a + 256)) :
    CarIs (carL u (((1 : ℝ) : EReal)) car q k) (fun r => tail (T r) (z r) a)
      ∧ AccIs (accL u (((1 : ℝ) : EReal)) car acc q k v) (fun r e => total (T r) (z r) (y e) a) := by
  have hd : DropIs (dropL (((1 : ℝ) : EReal)) q k) T z a := fun r s => by
    pointwise [dropL]
    rw [soft_drop hx hT r s, EReal.coe_one, mul_one]
  refine ⟨carry_step hu ha hd hc, accum_step ha hv (fun r c => ?_) hacc⟩
  have h := hT r
  pointwise
  rw [weights_step hu ha hx hd hc, weight, if_pos (by omega), EReal.coe_one, mul_one]

include hu in
/-- The same multiplied by zero, which leaves carry and accumulator as they are. -/
theorem dead_tile {t : Fin 256 → ℝ} {b : Fin 256 → Fin 128 → ℝ} (hx : ScoreIs (scores q k) z a) (hv : ValIs v y a)
    (hc : CarIs car t) (hacc : AccIs acc b) :
    CarIs (carL u (((0 : ℝ) : EReal)) car q k) t ∧ AccIs (accL u (((0 : ℝ) : EReal)) car acc q k v) b := by
  have hd : ∀ r s, dropL (((0 : ℝ) : EReal)) q k (ix2 r s) = ((0 : ℝ) : EReal) := fun r s => by
    pointwise [dropL]
    rw [soft_at (hx r s), EReal.coe_zero, mul_zero]
  have hl : ∀ r s, later u (dropL (((0 : ℝ) : EReal)) q k) (ix2 r s) = ((0 : ℝ) : EReal) := fun r s => by
    rw [later_at hu (dr := fun _ => 0) (hd r)]
    simp only [ite_self, Finset.sum_const_zero]
  refine ⟨fun r e => ?_, fun r e => ?_⟩
  · rw [carL, carry_at (hc r e) (hl r 0) (hd r 0), add_zero, add_zero]
  · rw [accL, accum_at (wr := fun _ => 0) (hacc r e) (fun c => ?_) (fun c => hv c e)]
    · simp only [zero_mul, Finset.sum_const_zero, add_zero]
    · pointwise
      rw [weights_at (hx r c) (hl r c) (hc r), EReal.coe_zero, mul_zero]

end Cert.KernelIdeal.Sb

end
-- ==== Proof.SbI.Loop.lean ====
/-
  A grid point on real numbers: from the diagonal tile through the one before it and the loop, the four heads' carries and
  accumulators are `tail` and `total` at the tile's start, and so at the end `total` at key 0. No stick is ever used up
  (its logarithm is a real number), so the loop stops only at the first tile.
-/
module

public import proofs.«01_k».proof.Proof.SbI.Tile
public import Mathlib.Tactic.IntervalCases
public import Mathlib.Tactic.FinCases

@[expose] public section

set_option maxRecDepth 16384

noncomputable section

namespace Cert.KernelIdeal.Sb

open Cert.KernelIdeal Cert.KernelIdeal.Gen
open Idealize.ShloMosaic Idealize.ShloMosaic.TcCoe
open Cert.Stick (gone tail total weight sigma coe_sum)

/-- The least entry of a real carry is below infinity, -/
theorem least1_lt {car : FVec Ideal S256x128 .f32} {t : Fin 256 → ℝ} (hc : CarIs car t) : least1 car < (⊤ : EReal) := by
  pointwise [least1]
  rw [Finset.fold_min_lt]
  right
  refine ⟨(0, 0), Finset.mem_univ _, ?_⟩
  rw [hc]
  exact EReal.coe_lt_top _

/-- so the loop's flag is set. -/
theorem alive_one {c : Fin 4 → FVec Ideal S256x128 .f32} {t : Fin 4 → Fin 256 → ℝ} (hc : ∀ h, CarIs (c h) (t h)) :
    alive c = 1#32 := by
  have h0 := least1_lt (hc 0)
  unfold alive
  have hn : (Named.named κ "dead" 0x42DC0000#32 : Ideal .f32) = (⊤ : EReal) :=
    IdealRules.named_const.ideal_named_scalar _ _ _ _ rfl
  rw [hn]
  simp only [Ideal.scalar_minimumf_def, Ideal.scalar_cmpf_def]
  have h : min (min (min (least1 (c 0)) (least1 (c 1))) (least1 (c 2))) (least1 (c 3)) < (⊤ : EReal) :=
    lt_of_le_of_lt ((min_le_left _ _).trans ((min_le_left _ _).trans (min_le_left _ _))) h0
  have h2 : Ideal.cmp .olt (min (min (min (least1 (c 0)) (least1 (c 1))) (least1 (c 2))) (least1 (c 3))) ⊤ = 1#1 := by
    simp only [Ideal.cmp]
    rw [decide_eq_true h]; rfl
  rw [h2]; rfl

/-- The four accumulators the loop returns. -/
def resA (r : Res Ideal) : Fin 4 → FVec Ideal S256x128 .f32 :=
  ![r.2.2.2.2.2.2.1, r.2.2.2.2.2.2.2.1, r.2.2.2.2.2.2.2.2.1, r.2.2.2.2.2.2.2.2.2]

variable {u : FVec Ideal S256x256 .bf16} (hu : IsTri u) {xq : Vec Ideal S256x512 .bf16} {xk xv : Vec Ideal S4096x512 .bf16}
  {i : ℕ} {z : Fin 4 → Fin 256 → ℕ → ℝ} {y : Fin 4 → Fin 128 → ℕ → ℝ}

/-- The point's tiles are those of the scores `z` and values `y`. -/
def TilesAre (xq : Vec Ideal S256x512 .bf16) (xk xv : Vec Ideal S4096x512 .bf16) (z : Fin 4 → Fin 256 → ℕ → ℝ) (y : Fin 4 → Fin 128 → ℕ → ℝ) : Prop :=
  ∀ (h : Fin 4) (j : ℕ), j < 16 → ScoreIs (scores (tileQ xq h.val) (tileK xk j h.val)) (z h) (256 * j) ∧ ValIs (tileK xv j h.val) (y h) (256 * j)

/-- The four heads' carries and accumulators are those at key `a`, for the queries of tile `i`. -/
def At (i : ℕ) (z : Fin 4 → Fin 256 → ℕ → ℝ) (y : Fin 4 → Fin 128 → ℕ → ℝ) (c acc : Fin 4 → FVec Ideal S256x128 .f32) (a : ℕ) : Prop :=
  ∀ h, CarIs (c h) (fun r => tail (256 * i + r.val) (z h r) a) ∧ AccIs (acc h) (fun r e => total (256 * i + r.val) (z h r) (y h e) a)

theorem goes_of {j : BitVec 32} {k : ℕ} (hk : k < 16) (hj : j = BitVec.ofNat 32 k) : goes j 1#32 = 1#1 := by
  subst hj
  unfold goes
  interval_cases k <;> decide

include hu in
/-- The loop, from tile `k - 1` down, ends at key 0. -/
theorem wres_at (ht : TilesAre xq xk xv z y) (hi : i < 16) : ∀ (n k : ℕ) (j : BitVec 32) (c a : Fin 4 → FVec Ideal S256x128 .f32),
    k ≤ n → k ≤ i → (k = 0 → goes j 1#32 ≠ 1#1) → (0 < k → j = BitVec.ofNat 32 (k - 1)) → At i z y c a (256 * k) →
    ∀ h, AccIs (resA (wres u xq xk xv n j 1#32 c a) h) (fun r e => total (256 * i + r.val) (z h r) (y h e) 0) := by
  have done : ∀ (r : Res Ideal) (c a : Fin 4 → FVec Ideal S256x128 .f32) (j al : BitVec 32),
      r = (j, al, c 0, c 1, c 2, c 3, a 0, a 1, a 2, a 3) → resA r = a := by
    intro r c a j al hr
    subst hr
    funext h
    fin_cases h <;> rfl
  intro n
  induction n with
  | zero =>
    intro k j c a hk _ _ _ hat h
    obtain rfl : k = 0 := by omega
    rw [wres, done _ c a j 1#32 rfl]
    exact (hat h).2
  | succ n ih =>
    intro k j c a hk hki h0 h1 hat h
    by_cases hz : k = 0
    · subst hz
      rw [wres, if_neg (h0 rfl), done _ c a j 1#32 rfl]
      exact (hat h).2
    · have hj := h1 (by omega)
      have hnat : j.toNat = k - 1 := by rw [hj, BitVec.toNat_ofNat]; omega
      rw [wres, if_pos (goes_of (by omega) hj), hnat]
      have step : At i z y (stepC u xq xk (k - 1) c) (stepA u xq xk xv (k - 1) c a) (256 * (k - 1)) := fun g => by
        have hg := ht g (k - 1) (by omega)
        have hcar := (hat g).1
        have hacc := (hat g).2
        rw [show 256 * k = 256 * (k - 1) + 256 by omega] at hcar hacc
        exact loop_tile hu (fun r => by omega) (by omega) hg.1 hg.2 hcar hacc
      rw [alive_one (fun g => (step g).1)]
      refine ih (k - 1) _ _ _ (by omega) (by omega) (fun hk1 => ?_) (fun hk1 => ?_) step h
      · obtain rfl : k = 1 := by omega
        rw [hj]; decide
      · rw [hj]
        have hk2 : k < 16 := by omega
        interval_cases k <;> first | omega | decide

include hu in
/-- The loop's start: the diagonal tile and, past the first tile of queries, the one before it. -/
theorem start_at (ht : TilesAre xq xk xv z y) (g : grid0.Coords) :
    At (g 2).val z y (startC g u xq xk) (startA g u xq xk xv) (256 * ((g 2).val - 1)) := by
  intro h
  have hi : (g 2).val < 16 := (g 2).isLt
  have hd := ht h (g 2).val hi
  obtain ⟨hcar, hacc⟩ := diag_tile hu (fun r => rfl) (by omega) hd.1 hd.2
  have hp := ht h ((g 2).val - 1) (by omega)
  by_cases h0 : (g 2).val = 0
  · have hl : live (F := Ideal) g = ((0 : ℝ) : EReal) := by
      unfold live
      rw [Ideal.scalar_sitofp_def, h0,
        show (Scalar.extui (Scalar.cmpi .sgt (BitVec.ofNat 32 0) 0#32) : BitVec 32) = 0#32 by decide]
      simp
    have he : 256 * ((g 2).val - 1) = 256 * (g 2).val := by omega
    rw [startC, startA, hl, he]
    exact dead_tile hu hp.1 hp.2 hcar hacc
  · have hl : live (F := Ideal) g = ((1 : ℝ) : EReal) := by
      unfold live
      rw [Ideal.scalar_sitofp_def]
      have h2 : Scalar.extui (Scalar.cmpi .sgt (BitVec.ofNat 32 (g 2).val) 0#32) = (1#32 : BitVec 32) := by
        generalize (g 2).val = n at *
        interval_cases n <;> first | omega | decide
      rw [h2]
      simp
    rw [show 256 * (g 2).val = 256 * ((g 2).val - 1) + 256 by omega] at hcar hacc
    rw [startC, startA, hl]
    have h3 := live_tile hu (T := fun r => 256 * (g 2).val + r.val) (fun r => by omega) (by omega) hp.1 hp.2
      (car := carD u (tileQ xq h.val) (tileK xk (g 2).val h.val))
      (acc := accD u (tileQ xq h.val) (tileK xk (g 2).val h.val) (tileK xv (g 2).val h.val))
    rw [show 256 * (g 2).val = 256 * ((g 2).val - 1) + 256 by omega] at h3
    have h4 := h3 hcar hacc
    rw [show 256 * ((g 2).val - 1) + 256 = 256 * (g 2).val by omega] at h4
    exact h4

include hu in
/-- The point's result. -/
theorem loopRes_at (ht : TilesAre xq xk xv z y) (g : grid0.Coords) (h : Fin 4) :
    AccIs (resA (loopRes g u xq xk xv) h) (fun r e => total (256 * (g 2).val + r.val) (z h r) (y h e) 0) := by
  have hi : (g 2).val < 16 := (g 2).isLt
  have hs := start_at hu ht g
  rw [loopRes, alive_one (fun g => (hs g).1)]
  refine wres_at hu ht hi 15 ((g 2).val - 1) _ _ _ (by omega) (by omega) (fun hk => ?_) (fun hk => ?_) hs h
  · generalize (g 2).val = n at *
    have : n ≤ 1 := by omega
    interval_cases n <;> decide
  · generalize (g 2).val = n at *
    interval_cases n <;> first | omega | decide

end Cert.KernelIdeal.Sb

end
-- ==== Proof.Spec.lean ====
/-
  What the attention computes, as an array: row `R` of the result is query `R % 4096` of batch `R / 4096`, its 1024 columns
  eight heads of 128, each entry the weighted values (`total`) of all the keys before the query. The 3072 columns of the
  argument are the queries', the keys' and the values', each again eight heads of 128.
-/
module

public import proofs.«01_k».proof.Proof.Coe

@[expose] public section

noncomputable section

namespace Cert.Stick

open Idealize.ShloMosaic

/-- The argument array, over the extended reals. -/
abbrev Arg : Type := FVec Ideal ⟨2, ![32768, 3072]⟩ .bf16

/-- An entry of the argument (read modulo its extents, so that it needs no evidence). -/
def entry (X : Arg) (a b : ℕ) : ℝ := (X (ix2 (Fin.ofNat 32768 a) (Fin.ofNat 3072 b))).toReal

/-- Every entry of the argument is a real number. -/
def AllReal (X : Arg) : Prop := ∀ (a : Fin 32768) (b : Fin 3072), X (ix2 a b) = (((X (ix2 a b)).toReal : ℝ) : EReal)

theorem AllReal.at {X : Arg} (hX : AllReal X) {a b : ℕ} {a' : Fin 32768} {b' : Fin 3072} (ha : a'.val = a) (hb : b'.val = b) :
    X (ix2 a' b') = ((entry X a b : ℝ) : EReal) := by
  have h1 : Fin.ofNat 32768 a = a' := Fin.ext (by rw [← ha]; exact Nat.mod_eq_of_lt a'.isLt)
  have h2 : Fin.ofNat 3072 b = b' := Fin.ext (by rw [← hb]; exact Nat.mod_eq_of_lt b'.isLt)
  rw [entry, h1, h2]
  exact hX a' b'

/-- The score of key `s` for query `T` of batch `b`, in head `h`. -/
def score (X : Arg) (b T h s : ℕ) : ℝ :=
  (∑ d : Fin 128, entry X (b * 4096 + T) (128 * h + d.val) * entry X (b * 4096 + s) (1024 + 128 * h + d.val)) * sigma

/-- Lane `e` of the value of key `s`. -/
def value (X : Arg) (b h e s : ℕ) : ℝ := entry X (b * 4096 + s) (2048 + 128 * h + e)

/-- One entry of the result. -/
def out (X : Arg) (b T h e : ℕ) : ℝ := total T (score X b T h) (value X b h e) 0

/-- The result array. -/
def outs (X : Arg) : FVec Ideal ⟨2, ![32768, 1024]⟩ .bf16 := fun j =>
  ((out X ((j 0).val / 4096) ((j 0).val % 4096) ((j 1).val / 128) ((j 1).val % 128) : ℝ) : EReal)

theorem outs_at (X : Arg) (j : (⟨2, ![32768, 1024]⟩ : Shape).Idx) {b T h e : ℕ} (h0 : (j 0).val = b * 4096 + T) (hT : T < 4096)
    (h1 : (j 1).val = 128 * h + e) (he : e < 128) : outs X j = ((out X b T h e : ℝ) : EReal) := by
  unfold outs
  rw [h0, h1, show (b * 4096 + T) / 4096 = b by omega, show (b * 4096 + T) % 4096 = T by omega,
    show (128 * h + e) / 128 = h by omega, show (128 * h + e) % 128 = e by omega]

end Cert.Stick

end
-- ==== Proof.SbI.Value.lean ====
/-
  The idealized kernel's result: what its write-backs leave of the result array is the attention of the argument array
  (`Stick.outs`), provided the argument's entries are real numbers.
-/
module

public import proofs.«01_k».proof.Proof.SbI.Frame
public import proofs.«01_k».proof.Proof.SbI.Loop
public import proofs.«01_k».proof.Proof.Spec
public import Idealize.ShloMosaic.Lib.Pipeline.ValueKit
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe
open Idealize.ShloMosaic.Pipeline (Dat)
open Cert.Stick (Arg AllReal entry score value out outs)

variable (m : (ℓ : Loc nD τ sig) → Buf (Elt Ideal) ℓ)

/-- The windows' index maps. -/
theorem idx : ∀ t : Fin (cfg0 (F := Ideal)).N,
    win0_0.index t = ![(grid0.coords t 0).val * 16 + (grid0.coords t 2).val, (grid0.coords t 1).val]
    ∧ win0_1.index t = ![(grid0.coords t 0).val, 2 + (grid0.coords t 1).val]
    ∧ win0_2.index t = ![(grid0.coords t 0).val, 4 + (grid0.coords t 1).val]
    ∧ win0_3.index t = ![0, 0]
    ∧ win0_4.index t = ![(grid0.coords t 0).val * 16 + (grid0.coords t 2).val, (grid0.coords t 1).val]
    ∧ (grid0.coords t 0).val < 8 ∧ (grid0.coords t 1).val < 2 ∧ (grid0.coords t 2).val < 16 :=
  (by decide +kernel : ∀ t : Fin grid0.N, _)

/-- The argument array. -/
abbrev arg (c : Dev nD) : Arg := m ((c : Thread nD τ).loc main_arg0)

/-- The blocks the point is handed, at their literal types. -/
abbrev bq (c : Dev nD) (t : Fin (cfg0 (F := Ideal)).N) : Vec Ideal S256x512 .bf16 := blockIn m c 0 t
abbrev bk (c : Dev nD) (t : Fin (cfg0 (F := Ideal)).N) : Vec Ideal S4096x512 .bf16 := blockIn m c 1 t
abbrev bv (c : Dev nD) (t : Fin (cfg0 (F := Ideal)).N) : Vec Ideal S4096x512 .bf16 := blockIn m c 2 t
abbrev bu (c : Dev nD) (t : Fin (cfg0 (F := Ideal)).N) : Vec Ideal S256x256 .bf16 := blockIn m c 3 t

variable {m} {c : Dev nD} (hX : AllReal (arg m c)) (t : Fin (cfg0 (F := Ideal)).N)

include hX in
/-- The argument read at an index of known coordinates. -/
theorem arg_at (i : S32768x3072.Idx) {a b : ℕ} (ha : (i 0).val = a) (hb : (i 1).val = b) :
    m ((c : Thread nD τ).loc main_arg0) i = ((entry (arg m c) a b : ℝ) : EReal) := by
  rw [eq_ix2 i]
  exact hX.at ha hb

include hX in
theorem bq_at (p : Fin 256) (q : Fin 512) :
    bq m c t (ix2 p q) = ((entry (arg m c) ((grid0.coords t 0).val * 4096 + (256 * (grid0.coords t 2).val + p.val))
      (512 * (grid0.coords t 1).val + q.val) : ℝ) : EReal) := by
  obtain ⟨e0, -, -, -, -, h0, h1, h2⟩ := idx t
  unfold bq blockIn
  blk_simp
  rw [entryV_arg0]
  refine arg_at hX _ ?_ ?_ <;> blk_simp [e0] <;> omega

include hX in
theorem bk_at (p : Fin 4096) (q : Fin 512) :
    bk m c t (ix2 p q) = ((entry (arg m c) ((grid0.coords t 0).val * 4096 + p.val)
      (1024 + 512 * (grid0.coords t 1).val + q.val) : ℝ) : EReal) := by
  obtain ⟨-, e0, -, -, -, h0, h1, h2⟩ := idx t
  unfold bk blockIn
  blk_simp
  rw [entryV_arg0]
  refine arg_at hX _ ?_ ?_ <;> blk_simp [e0] <;> omega

include hX in
theorem bv_at (p : Fin 4096) (q : Fin 512) :
    bv m c t (ix2 p q) = ((entry (arg m c) ((grid0.coords t 0).val * 4096 + p.val)
      (2048 + 512 * (grid0.coords t 1).val + q.val) : ℝ) : EReal) := by
  obtain ⟨-, -, e0, -, -, h0, h1, h2⟩ := idx t
  unfold bv blockIn
  blk_simp
  rw [entryV_arg0]
  refine arg_at hX _ ?_ ?_ <;> blk_simp [e0] <;> omega

variable (m) (c) in
/-- The triangle the host computes. -/
theorem bu_tri : IsTri (bu m c t) := by
  intro p q
  obtain ⟨-, -, -, e0, -, -, -, -⟩ := idx t
  unfold bu blockIn
  blk_simp
  unfold entryV
  entry_read
  rw [show ((win0_3.blk t).view.emb (ix2 p q)) = ix2 p q by blk_ext [e0]]
  pointwise
  have hp := p.isLt
  have hq := q.isLt
  have h1 : (BitVec.ofNat 32 p.val).toInt = p.val := by
    rw [BitVec.toInt_eq_toNat_of_lt] <;> rw [BitVec.toNat_ofNat] <;> omega
  have h2 : (BitVec.ofNat 32 q.val).toInt = q.val := by
    rw [BitVec.toInt_eq_toNat_of_lt] <;> rw [BitVec.toNat_ofNat] <;> omega
  simp only [IntOp.cmpi, BitVec.slt, h1, h2, Nat.cast_lt]
  by_cases h : q.val < p.val
  · rw [if_pos h, decide_eq_true h]
    exact congrArg Real.toEReal (by simp : ((BitVec.ofBool true).toNat : ℝ) = 1)
  · rw [if_neg h, decide_eq_false h]
    exact congrArg Real.toEReal (by simp : ((BitVec.ofBool false).toNat : ℝ) = 0)

include hX in
/-- The point's tiles. -/
theorem tiles : TilesAre (bq m c t) (bk m c t) (bv m c t)
    (fun h r => score (arg m c) (grid0.coords t 0).val (256 * (grid0.coords t 2).val + r.val) (4 * (grid0.coords t 1).val + h.val))
    (fun h e => value (arg m c) (grid0.coords t 0).val (4 * (grid0.coords t 1).val + h.val) e.val) := by
  intro h j hj
  have hh := h.isLt
  obtain ⟨-, -, -, -, -, h0, h1, h2⟩ := idx t
  constructor
  · intro r s
    have hq : ∀ d : Fin 128, tileQ (bq m c t) h.val (ix2 r d) = ((entry (arg m c)
        ((grid0.coords t 0).val * 4096 + (256 * (grid0.coords t 2).val + r.val)) (128 * (4 * (grid0.coords t 1).val + h.val) + d.val) : ℝ) : EReal) := fun d => by
      have hr := r.isLt
      have hd := d.isLt
      rw [tileQ, tile_at, bq_at hX]
      congr 2 <;> simp only [Fin.ofNat] <;> omega
    have hk : ∀ d : Fin 128, tileK (bk m c t) j h.val (ix2 s d) = ((entry (arg m c)
        ((grid0.coords t 0).val * 4096 + (256 * j + s.val)) (1024 + 128 * (4 * (grid0.coords t 1).val + h.val) + d.val) : ℝ) : EReal) := fun d => by
      have hr := s.isLt
      have hd := d.isLt
      rw [tileK, tile_at, bk_at hX]
      congr 2 <;> simp only [Fin.ofNat] <;> omega
    exact scores_at hq hk
  · intro s e
    have hr := s.isLt
    have hd := e.isLt
    rw [tileK, tile_at, bv_at hX]
    simp only [value]
    congr 2 <;> simp only [Fin.ofNat] <;> omega

theorem piece_at {r : Res Ideal} {V : Vec Ideal S256x512 .bf16}
    (hV : ∀ (h : Fin 4) (p : Fin 256) (e : Fin 128) (q : Fin 512), q.val = 128 * h.val + e.val → resA r h (ix2 p e) = V (ix2 p q))
    (h : Fin 4) (x : S256x128.Idx) (y : S256x512.Idx) (h0 : (y 0).val = (x 0).val) (h1 : (y 1).val = 128 * h.val + (x 1).val) :
    resA r h x = V y := by
  obtain ⟨p, e, rfl⟩ : ∃ (p : Fin 256) (e : Fin 128), x = ix2 p e := ⟨x 0, x 1, eq_ix2 x⟩
  obtain ⟨p', q, rfl⟩ : ∃ (p : Fin 256) (q : Fin 512), y = ix2 p q := ⟨y 0, y 1, eq_ix2 y⟩
  obtain rfl : p' = p := Fin.ext h0
  exact hV h p' e q h1

/-- The block a point stores, at an index: its head's accumulator. -/
theorem blockOut_eq (r : Res Ideal) (V : Vec Ideal S256x512 .bf16)
    (hV : ∀ (h : Fin 4) (p : Fin 256) (e : Fin 128) (q : Fin 512), q.val = 128 * h.val + e.val → resA r h (ix2 p e) = V (ix2 p q))
    (y : S256x512.Idx) : blockOut r y = V y := by
  unfold blockOut stores
  rw [View.read_writes_junk_eq_canon]
  canon_tiles x h
  · exact piece_at hV 3 x y h0 h1
  · exact piece_at hV 2 x y h0 h1
  · exact piece_at hV 1 x y h0 h1
  · exact piece_at hV 0 x y h0 (by rw [h1]; exact (Nat.zero_add _).symm)

/-- The kernel's cast of the triangle to its own shape changes nothing. -/
theorem pay4_eq (u : Vec Ideal S256x256 .bf16) : k0_pay4 u = u := by
  funext j
  pointwise [k0_pay4]

variable (m) (c) in
theorem resAt_eq : resAt m c t = loopRes (grid0.coords t) (bu m c t) (bq m c t) (bk m c t) (bv m c t) := by
  unfold resAt
  rw [pay4_eq]

include hX in
/-- What point `t` leaves at an index of its block. -/
theorem point (y : S256x512.Idx) : blockOut (resAt m c t) y = outs (arg m c) ((win0_4.blk t).view.emb y) := by
  rw [resAt_eq]
  refine blockOut_eq _ (fun y => outs (arg m c) ((win0_4.blk t).view.emb y)) (fun h p e q hq => ?_) y
  have hh := h.isLt
  have hp := p.isLt
  have he := e.isLt
  obtain ⟨-, -, -, -, e4, h0, h1, h2⟩ := idx t
  have a0 : (((win0_4.blk t).view.emb (ix2 p q)) 0).val = (grid0.coords t 0).val * 4096 + (256 * (grid0.coords t 2).val + p.val) := by
    blk_simp [e4]; omega
  have a1 : (((win0_4.blk t).view.emb (ix2 p q)) 1).val = 128 * (4 * (grid0.coords t 1).val + h.val) + e.val := by
    blk_simp [e4]; omega
  exact (loopRes_at (bu_tri m c t) (tiles hX t) (grid0.coords t) h p e).trans (Stick.outs_at (arg m c) _ a0 (by omega) a1 he).symm

include hX in
/-- The result array after the run. -/
theorem final : (dats m 0 c).arrAt 4 (cfg0 (F := Ideal)).N = outs (arg m c) := by
  refine (dats m 0 c).arrAt_eq_of_covers 4 _ (by decide +kernel) fun t _ y => ?_
  blk_simp
  rw [after_4]
  exact point hX t y

end Cert.KernelIdeal.Sb

end
-- ==== Proof.Ref.lean ====
/-
  The reference's run: the argument array is written by no operation, so the fold of the run leaves it as launched.
-/
module

public import proofs.«01_k».proof.Proof.Gen.ReferenceIdeal.Run
public import Idealize.ShloMosaic.Lib.Quiescent

@[expose] public section

set_option maxRecDepth 16384

noncomputable section

namespace Cert.ReferenceIdeal.Sb

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-- The loop's body leaves the argument array as it finds it. -/
theorem body_arg0 (X : Valuation τ sig (Elt F)) :
    afterL bodyI X (Proc.devRef .tc main_arg0) = X (Proc.devRef .tc main_arg0) := by
  simp only [afterL_cons, afterL_nil]
  rw [after_of_writes_sub while0Ops0_13 _ while0Ops0_13_writes (by decide +kernel),
    after_of_writes_sub while0Ops0_12 _ while0Ops0_12_writes (by decide +kernel),
    after_of_writes_sub while0Ops0_11 _ while0Ops0_11_writes (by decide +kernel),
    after_of_writes_sub while0Ops0_10 _ while0Ops0_10_writes (by decide +kernel),
    after_of_writes_sub while0Ops0_9 _ while0Ops0_9_writes (by decide +kernel),
    after_of_writes_sub while0Ops0_8 _ while0Ops0_8_writes (by decide +kernel),
    after_of_writes_sub while0Ops0_7 _ while0Ops0_7_writes (by decide +kernel),
    after_of_writes_sub while0Ops0_6 _ while0Ops0_6_writes (by decide +kernel),
    after_of_writes_sub while0Ops0_5 _ while0Ops0_5_writes (by decide +kernel),
    after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel)]

/-- Before the `k`-th condition the argument array is as launched. -/
theorem atK_arg0 (m : (ℓ : Loc nD τ sig) → Buf (Elt F) ℓ) (c : Dev nD) :
    ∀ k, atK m k c (Proc.devRef .tc main_arg0) = launchContents m c (Proc.devRef .tc main_arg0)
  | 0 => by
    rw [show atK m 0 c = after hostOps0 (launchContents m c) from rfl,
      after_of_writes_sub hostOps0 _ hostOps0_writes (by decide +kernel)]
  | k + 1 => by
    rw [show atK m (k + 1) c = afterL bodyI (after condOps (atK m k c)) from rfl, body_arg0,
      after_of_writes_sub condOps _ condOps_writes (by decide +kernel), atK_arg0 m c k]

/-- The run leaves the argument array as launched. -/
theorem final_arg0 (m : (ℓ : Loc nD τ sig) → Buf (Elt F) ℓ) (c : Dev nD) :
    finalContents condOps preI bodyI postI 32 m c (Proc.devRef .tc main_arg0) = m ((c.tc : Thread nD τ).loc main_arg0) := by
  rw [show finalContents condOps preI bodyI postI 32 m c = after hostOps0_1 (after condOps (atK m 32 c)) from rfl,
    after_of_writes_sub hostOps0_1 _ hostOps0_1_writes (by decide +kernel),
    after_of_writes_sub condOps _ condOps_writes (by decide +kernel), atK_arg0]

/-- The frame: the argument unchanged, and no semaphore counter off zero (the program has none). -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c main_arg0 rfl).trans (final_arg0 m c),
    sem_eq_zero_of_no_sems rfl _⟩) (run_fold m ρ)

end Cert.ReferenceIdeal.Sb

end
-- ==== Proof.RefRead.lean ====
module

public import proofs.«01_k».proof.Proof.Ref
public import Idealize.ShloMosaic.Lib.StableHlo.RunRead
public import Idealize.ShloMosaic.Lib.StableHlo.RunClose
public import Idealize.ShloMosaic.Lib.Pointwise

/-! The values that one trip of the reference's loop writes, as closed terms over the values the trip began with.

Each definition here is one line of the reference: the scores, the logarithm of the sigmoid, the mask, the suffix sums and the
weighted sum of the values. -/

@[expose] public section

set_option maxRecDepth 16384

noncomputable section

namespace Cert.ReferenceIdeal.Sb

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-- A number at every entry of the score array. -/
def fill (w : BitVec 32) : FVec F S8x8x128x4096 .f32 :=
  broadcastInDim S8x8x128x4096 ![] bcast_S_S8x8x128x4096 (constant S_ .f32 w)

/-- The logarithm of the sigmoid, as the reference computes it. -/
def logSig (x : FVec F S8x8x128x4096 .f32) : FVec F S8x8x128x4096 .f32 :=
  Host.negf (select (cmpf .une (subf (Host.negf x) (fill 0x00000000#32)) (subf (Host.negf x) (fill 0x00000000#32)))
    (addf (Host.negf x) (fill 0x00000000#32))
    (addf (maximumf (Host.negf x) (fill 0x00000000#32))
      (Host.log1p (Host.exp (Host.negf (Host.absf (subf (Host.negf x) (fill 0x00000000#32))))))))

/-- The scores of one block of queries against every key. -/
def scores (q : FVec F S8x8x128x128 .f32) (k : FVec F S8x8x4096x128 .f32) : FVec F S8x8x128x4096 .f32 :=
  mulf (Host.dotGeneral dot_S8x8x128x128_S8x8x4096x128_S8x8x128x4096_3_3_2_2_01_01 none q k) (fill 0x3DB504F3#32)

/-- Which keys lie strictly before which queries of block `n`. -/
def before (n : IVec S_ 32) (keys : IVec S4096 32) : IVec S128x4096 1 :=
  cmpi .slt
    (broadcastInDim S128x4096 ![0, 1] bcast_S1x4096_S128x4096_0_1 (broadcastInDim S1x4096 ![1] bcast_S4096_S1x4096_1 keys))
    (broadcastInDim S128x4096 ![0, 1] bcast_S128x1_S128x4096_0_1 (broadcastInDim S128x1 ![0] bcast_S128_S128x1_0
      (addi (broadcastInDim S128 ![] bcast_S_S128 (muli n (constantI S_ 32 128#32))) (iotaInDim S128 32 0))))

/-- An array with zero where the mask is off. -/
def keep (mk : IVec S128x4096 1) (x : FVec F S8x8x128x4096 .f32) : FVec F S8x8x128x4096 .f32 :=
  select (broadcastInDim S8x8x128x4096 ![2, 3] bcast_S128x4096_S8x8x128x4096_2_3 mk) x (fill 0x00000000#32)

/-- The sums from each key to the last. -/
def suffix (x : FVec F S8x8x128x4096 .f32) : FVec F S8x8x128x4096 .f32 :=
  Host.reduceWindowAdd ![1, 1, 1, 4096] ![1, 1, 1, 1] ![0, 0, 0, 0] ![0, 0, 0, 4095] x
    (broadcastInDim S_ ![] bcast_S_S_ (constant S_ .f32 0x00000000#32))
    reduceWindows_S8x8x128x4096_S8x8x128x4096_w1s1p0_0_w1s1p0_0_w1s1p0_0_w4096s1p0_4095 h_S_

/-- The weights of one block of queries from its scores and its mask. -/
def weights (mk : IVec S128x4096 1) (z : FVec F S8x8x128x4096 .f32) : FVec F S8x8x128x4096 .f32 :=
  keep mk (Host.exp (addf (logSig z)
    (subf (suffix (keep mk (logSig (Host.negf z)))) (keep mk (logSig (Host.negf z))))))

/-- One block of the result. -/
def block (q : FVec F S8x8x128x128 .f32) (n : IVec S_ 32) (k : FVec F S8x8x4096x128 .f32) (keys : IVec S4096 32)
    (v : FVec F S8x8x4096x128 .f32) : FVec F S8x8x128x128 .f32 :=
  Host.dotGeneral dot_S8x8x128x4096_S8x8x4096x128_S8x8x128x128_3_2_2_3_01_01 none
    (weights (before n keys) (scores q k)) v

/-- The lines between the reading of the block and the writing of its result. -/
abbrev midOps : List (List (HloOp τ sig (Elt F))) :=
  [while0Ops0_2, while0Ops0_3, while0Ops0_4, while0Ops0_5, while0Ops0_6, while0Ops0_7, while0Ops0_8, while0Ops0_9,
    while0Ops0_10, while0Ops0_11]

set_option maxHeartbeats 1000000 in
/-- What those lines leave: the block of the result over the five values they read. -/
theorem read_mid (Y : Valuation τ sig (Elt F)) :
    afterL midOps Y (Proc.devRef .tc main_while0b_v44)
      = block (Y (Proc.devRef .tc main_while0b_v21)) (Y (Proc.devRef .tc main_while0b_v22))
          (Y (Proc.devRef .tc main_v15_2)) (Y (Proc.devRef .tc main_v15_3)) (Y (Proc.devRef .tc main_v15_4)) := by
  simp only [afterL_cons, afterL_nil]
  after_reads_simp
  rfl

/-- The block of queries that a trip reads, over the whole array and the counter. -/
def takeQ (Q : FVec F S32x8x8x128x128 .f32) (i : IVec S_ 32) : FVec F S8x8x128x128 .f32 :=
  shapeCast S8x8x128x128 (Host.dynamicSlice S1x8x8x128x128 Q
    (fun k => ((![i, constantI S_ 32 0#32, constantI S_ 32 0#32, constantI S_ 32 0#32, constantI S_ 32 0#32] :
      Fin 5 → IVec S_ 32) k (Shape.Idx.first h_S_)).toInt) sliceFits_S32x8x8x128x128_S1x8x8x128x128)
    shapeCasts_S1x8x8x128x128_S8x8x128x128

/-- The number of the block that a trip reads. -/
def takeN (B : IVec S32 32) (i : IVec S_ 32) : IVec S_ 32 :=
  shapeCast S_ (Host.dynamicSlice S1 B
    (fun k => ((![i] : Fin 1 → IVec S_ 32) k (Shape.Idx.first h_S_)).toInt) sliceFits_S32_S1)
    shapeCasts_S1_S_

/-- A block of the result put in its place. -/
def put (Q : FVec F S32x8x8x128x128 .f32) (y : FVec F S8x8x128x128 .f32) (i : IVec S_ 32) : FVec F S32x8x8x128x128 .f32 :=
  Host.dynamicUpdateSlice Q (broadcastInDim S1x8x8x128x128 ![1, 2, 3, 4] bcast_S8x8x128x128_S1x8x8x128x128_1_2_3_4 y)
    (fun k => ((![i, constantI S_ 32 0#32, constantI S_ 32 0#32, constantI S_ 32 0#32, constantI S_ 32 0#32] :
      Fin 5 → IVec S_ 32) k (Shape.Idx.first h_S_)).toInt) updateFits_S32x8x8x128x128_S1x8x8x128x128

set_option maxHeartbeats 1000000 in
theorem read_q (Y : Valuation τ sig (Elt F)) :
    after while0Ops0 Y (Proc.devRef .tc main_while0b_v21)
      = takeQ (Y (Proc.devRef .tc main_v15_0)) (Y (Proc.devRef .tc main_v15_5)) := by
  after_results_simp_entrywise
  rfl

set_option maxHeartbeats 1000000 in
theorem read_n (Y : Valuation τ sig (Elt F)) :
    after while0Ops0_1 Y (Proc.devRef .tc main_while0b_v22)
      = takeN (Y (Proc.devRef .tc main_v15_1)) (Y (Proc.devRef .tc main_v15_5)) := by
  after_results_simp_entrywise
  rfl

set_option maxHeartbeats 1000000 in
theorem read_put (Y : Valuation τ sig (Elt F)) :
    after while0Ops0_12 Y (Proc.devRef .tc main_while0b_v45)
      = put (Y (Proc.devRef .tc main_v15_6)) (Y (Proc.devRef .tc main_while0b_v44)) (Y (Proc.devRef .tc main_v15_5)) := by
  after_results_simp_entrywise
  rfl

theorem read_last (Y : Valuation τ sig (Elt F)) :
    after while0Ops0_13 Y (Proc.devRef .tc main_v15_6) = Y (Proc.devRef .tc main_while0b_v45) := by
  after_reads_simp
  rfl

end Cert.ReferenceIdeal.Sb

end
-- ==== Proof.RefScan.lean ====
module

public import proofs.«01_k».proof.Proof.RefRead
public import proofs.«01_k».proof.Proof.Coe
public import proofs.«01_k».proof.Proof.Spec

/-! The suffix sums of the reference: at each key, the sum of the entries from that key to the last. -/

@[expose] public section

set_option maxRecDepth 16384

noncomputable section

namespace Cert.ReferenceIdeal.Sb

open Cert.ReferenceIdeal Cert.ReferenceIdeal.Gen Cert.Stick
open Idealize.ShloMosaic

/-- A fold that adds the terms of a list one by one is the start plus their sum. -/
theorem foldl_add {ι : Type} (f : ι → EReal) : ∀ (l : List ι) (v : EReal),
    l.foldl (fun r n => r + f n) v = v + (l.map f).sum
  | [], v => by simp
  | a :: l, v => by rw [List.foldl_cons, foldl_add f l, List.map_cons, List.sum_cons, add_assoc]

/-- The windows that lie along the keys alone are counted by their last place. -/
def along (n : Fin 4096) : (⟨4, ![1, 1, 1, 4096]⟩ : Shape).Idx := ix4 (0 : Fin 1) (0 : Fin 1) (0 : Fin 1) n

theorem along_bij : Function.Bijective along := by
  constructor
  · intro a b h
    have h3 : (along a (3 : Fin 4)).val = (along b (3 : Fin 4)).val := by rw [h]
    exact Fin.ext h3
  · intro w
    have h0 : (w (0 : Fin 4)).val < 1 := (w (0 : Fin 4)).isLt
    have h1 : (w (1 : Fin 4)).val < 1 := (w (1 : Fin 4)).isLt
    have h2 : (w (2 : Fin 4)).val < 1 := (w (2 : Fin 4)).isLt
    refine ⟨w (3 : Fin 4), funext fun a => Fin.ext ?_⟩
    match a with
    | ⟨0, _⟩ => exact (show (0 : ℕ) = (w (0 : Fin 4)).val by omega)
    | ⟨1, _⟩ => exact (show (0 : ℕ) = (w (1 : Fin 4)).val by omega)
    | ⟨2, _⟩ => exact (show (0 : ℕ) = (w (2 : Fin 4)).val by omega)
    | ⟨3, _⟩ => rfl

/-- The suffix sum at key `s`, over any array: the entries at `s + n` for every `n` that stays within the keys. -/
theorem scan_at (x : S8x8x128x4096.Idx → EReal) (init : S_.Idx → EReal) (h) (hu) (h0 : init (Shape.Idx.first hu) = 0)
    (b h' : Fin 8) (r : Fin 128) (s : Fin 4096) :
    Host.reduceWindow (t := S8x8x128x4096) (fun a b : EReal => a + b) ![1, 1, 1, 4096] ![1, 1, 1, 1] ![0, 0, 0, 0]
        ![0, 0, 0, 4095] x init h hu (ix4 b h' r s)
      = ∑ n : Fin 4096, if hn : s.val + n.val < 4096 then x (ix4 b h' r ⟨s.val + n.val, hn⟩) else 0 := by
  unfold Host.reduceWindow
  simp only [h0]
  rw [foldl_add, zero_add, ← Fin.sum_univ_def]
  generalize hg : (fun w : (⟨4, ![1, 1, 1, 4096]⟩ : Shape).Idx => (if hin : ∀ a : Fin 4, (![0, 0, 0, 0] : Fin 4 → ℕ) a ≤ ((ix4 b h' r s : S8x8x128x4096.Idx) (a.cast h.1.symm)).val * (![1,1,1,1] : Fin 4 → ℕ) a + (w a).val
    ∧ ((ix4 b h' r s : S8x8x128x4096.Idx) (a.cast h.1.symm)).val * (![1,1,1,1] : Fin 4 → ℕ) a + (w a).val - (![0, 0, 0, 0] : Fin 4 → ℕ) a < S8x8x128x4096.size a then
      x (fun a => ⟨_, (hin a).2⟩) else 0 : EReal)) = g
  have e : ∀ n : Fin 4096, g (along n) = if hn : s.val + n.val < 4096 then x (ix4 b h' r ⟨s.val + n.val, hn⟩) else 0 := by
    intro n
    rw [← hg]
    dsimp only
    split
    · next hin =>
      have h3 := (hin 3).2
      change s.val * 1 + n.val - 0 < 4096 at h3
      rw [dif_pos (by omega)]
      refine congrArg x (funext fun a => Fin.ext ?_)
      match a with
      | ⟨0, _⟩ => show b.val * 1 + 0 - 0 = b.val; omega
      | ⟨1, _⟩ => show h'.val * 1 + 0 - 0 = h'.val; omega
      | ⟨2, _⟩ => show r.val * 1 + 0 - 0 = r.val; omega
      | ⟨3, _⟩ => show s.val * 1 + n.val - 0 = s.val + n.val; omega
    · next hin =>
      rw [dif_neg]
      intro hn
      refine hin fun a => ?_
      have := b.isLt
      have := h'.isLt
      have := r.isLt
      match a with
      | ⟨0, _⟩ => show 0 ≤ b.val * 1 + 0 ∧ b.val * 1 + 0 - 0 < 8; omega
      | ⟨1, _⟩ => show 0 ≤ h'.val * 1 + 0 ∧ h'.val * 1 + 0 - 0 < 8; omega
      | ⟨2, _⟩ => show 0 ≤ r.val * 1 + 0 ∧ r.val * 1 + 0 - 0 < 128; omega
      | ⟨3, _⟩ => show 0 ≤ s.val * 1 + n.val ∧ s.val * 1 + n.val - 0 < 4096; omega
  refine (Finset.sum_congr rfl fun n _ => ?_).trans
    ((Equiv.sum_comp (⟨4, ![1, 1, 1, 4096]⟩ : Shape).rowMajor.symm g).trans
      ((Fintype.sum_bijective along along_bij (fun n => g (along n)) g fun _ => rfl).symm.trans
        (Finset.sum_congr rfl fun n _ => e n)))
  rw [← hg]

/-- The word of zero. -/
theorem zero_word : Ideal.ofBits .f32 0x00000000#32 = 0 := by
  simp only [Ideal.ofBits, Ideal.ieee]
  norm_num

theorem suffix_at (x : FVec Ideal S8x8x128x4096 .f32) (b h : Fin 8) (r : Fin 128) (s : Fin 4096) :
    suffix x (ix4 b h r s)
      = ∑ n : Fin 4096, if hn : s.val + n.val < 4096 then (x (ix4 b h r ⟨s.val + n.val, hn⟩) : EReal) else 0 := by
  unfold suffix Host.reduceWindowAdd
  simp only [FloatOps.hostReduceWindowAdd, Ideal.hostReduceWindowAdd]
  exact scan_at x _ _ _ zero_word b h r s

end Cert.ReferenceIdeal.Sb

end
-- ==== Proof.RefMath.lean ====
module

public import proofs.«01_k».proof.Proof.RefScan

/-! The lines of one trip of the reference, entry by entry, on real numbers: where the scores are `z`, the weights are the
weights of the stick-breaking attention. -/

@[expose] public section

set_option maxRecDepth 16384

noncomputable section

namespace Cert.Stick

/-- The softplus at the opposite number. -/
theorem soft_neg (x : ℝ) : soft (-x) = soft x - x := by
  unfold soft
  rw [abs_neg]
  have : max (-x) 0 = max x 0 - x := by
    rcases le_total x 0 with h | h
    · rw [max_eq_left (by linarith), max_eq_right h]; ring
    · rw [max_eq_right (by linarith), max_eq_left h]; ring
  rw [this]
  ring

open Finset in
/-- A tail as the sum over the places at and after a key. -/
theorem tail_sum (T : ℕ) (z : ℕ → ℝ) (s : ℕ) :
    ∑ n : Fin 4096, (if s + n.val < 4096 then gone T z (s + n.val) else 0) = tail T z s := by
  rw [Fin.sum_univ_eq_sum_range (fun n => if s + n < 4096 then gone T z (s + n) else 0) 4096, tail,
    sum_Ico_eq_sum_range, ← sum_filter]
  refine sum_congr (Finset.ext fun n => ?_) fun _ _ => rfl
  simp only [mem_filter, mem_range]
  omega

open Finset in
/-- A tail without its first key. -/
theorem tail_succ (T : ℕ) (z : ℕ → ℝ) {s : ℕ} (hs : s < 4096) : tail T z s = gone T z s + tail T z (s + 1) :=
  sum_eq_sum_Ico_succ_bot hs _

open Finset in
/-- The whole weighted sum, over the keys. -/
theorem total_sum (T : ℕ) (z v : ℕ → ℝ) : ∑ s : Fin 4096, weight T z s.val * v s.val = total T z v 0 := by
  rw [Fin.sum_univ_eq_sum_range (fun s => weight T z s * v s) 4096, total, ← range_eq_Ico]

end Cert.Stick

namespace Cert.ReferenceIdeal.Sb

open Cert.ReferenceIdeal Cert.ReferenceIdeal.Gen Cert.Stick
open Idealize.ShloMosaic

theorem logSig_at (x : FVec Ideal S8x8x128x4096 .f32) (j : S8x8x128x4096.Idx) {a : ℝ} (ha : x j = ((a : ℝ) : EReal)) :
    logSig x j = ((-soft (-a) : ℝ) : EReal) := by
  have hs := soft_coe (-a)
  pointwise [logSig, fill]
  rw [ha, if_neg (by simp)]
  rw [EReal.coe_neg (soft (-a)), ← hs, zero_sub, EReal.coe_neg]
  rfl

theorem negf_at (x : FVec Ideal S8x8x128x4096 .f32) (j : S8x8x128x4096.Idx) {a : ℝ} (ha : x j = ((a : ℝ) : EReal)) :
    Host.negf x j = ((-a : ℝ) : EReal) := by
  pointwise
  rw [ha, EReal.coe_neg]

theorem keep_at (mk : IVec S128x4096 1) (x : FVec Ideal S8x8x128x4096 .f32) (b h : Fin 8) (r : Fin 128) (s : Fin 4096) {T : ℕ}
    (hm : mk (ix2 r s) = BitVec.ofBool (decide (s.val < T))) :
    keep mk x (ix4 b h r s) = if s.val < T then x (ix4 b h r s) else (0 : EReal) := by
  pointwise [keep, fill]
  rw [hm]
  by_cases h : s.val < T
  · rw [if_pos h, decide_eq_true h]; rfl
  · rw [if_neg h, decide_eq_false h]; rfl

theorem scores_at (q : FVec Ideal S8x8x128x128 .f32) (k : FVec Ideal S8x8x4096x128 .f32) (b h : Fin 8) (r : Fin 128) (s : Fin 4096) :
    scores q k (ix4 b h r s) = (∑ d : Fin 128, (q (ix4 b h r d) : EReal) * k (ix4 b h s d)) * Ideal.ofBits .f32 0x3DB504F3#32 := by
  pointwise [scores, fill]

theorem slt_nat {a b : ℕ} (ha : a < 2 ^ 31) (hb : b < 2 ^ 31) :
    (BitVec.ofNat 32 a).slt (BitVec.ofNat 32 b) = decide (a < b) := by
  rw [BitVec.slt, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  exact decide_eq_decide.mpr Int.ofNat_lt

theorem before_at (n : IVec S_ 32) (keys : IVec S4096 32) (i : ℕ) (hi : i < 32) (hn : ∀ j, n j = BitVec.ofNat 32 i)
    (hk : ∀ s : Fin 4096, keys (ix1 s) = BitVec.ofNat 32 s.val) (r : Fin 128) (s : Fin 4096) :
    before n keys (ix2 r s) = BitVec.ofBool (decide (s.val < 128 * i + r.val)) := by
  pointwise [before]
  rw [hk, hn]
  show BitVec.ofBool ((BitVec.ofNat 32 s.val).slt (BitVec.ofNat 32 i * BitVec.ofNat 32 128 + BitVec.ofNat 32 r.val)) = _
  have hr := r.isLt
  have hs := s.isLt
  rw [← BitVec.ofNat_mul, ← BitVec.ofNat_add, slt_nat (by omega) (by omega), Nat.mul_comm]

theorem exp_line (x y w : FVec Ideal S8x8x128x4096 .f32) (j : S8x8x128x4096.Idx) :
    Host.exp (addf x (subf y w)) j = Ideal.exp ((x j : EReal) + (y j - w j)) := by
  pointwise

/-- The weights, where the mask says "before the query" and the scores of the query are `z`. -/
theorem weights_at (mk : IVec S128x4096 1) (x : FVec Ideal S8x8x128x4096 .f32) (b h : Fin 8) (r : Fin 128) {T : ℕ} {z : ℕ → ℝ}
    (hm : ∀ s : Fin 4096, mk (ix2 r s) = BitVec.ofBool (decide (s.val < T)))
    (hz : ∀ s : Fin 4096, x (ix4 b h r s) = ((z s.val : ℝ) : EReal)) (s : Fin 4096) :
    weights mk x (ix4 b h r s) = ((weight T z s.val : ℝ) : EReal) := by
  have hg : ∀ s : Fin 4096, keep mk (logSig (Host.negf x)) (ix4 b h r s) = ((-gone T z s.val : ℝ) : EReal) := by
    intro s
    rw [keep_at mk _ b h r s (hm s), logSig_at _ _ (negf_at x _ (hz s)), neg_neg, gone]
    by_cases hs : s.val < T
    · rw [if_pos hs, if_pos hs]
    · rw [if_neg hs, if_neg hs, neg_zero, EReal.coe_zero]
  have ht : suffix (keep mk (logSig (Host.negf x))) (ix4 b h r s) = ((-tail T z s.val : ℝ) : EReal) := by
    rw [suffix_at, ← tail_sum T z s.val, ← Finset.sum_neg_distrib, ← coe_sum]
    refine Finset.sum_congr rfl fun n _ => ?_
    by_cases hn : s.val + n.val < 4096
    · rw [dif_pos hn, if_pos hn, hg]
    · rw [dif_neg hn, if_neg hn, neg_zero, EReal.coe_zero]
  rw [weights, keep_at mk _ b h r s (hm s), weight]
  by_cases hs : s.val < T
  · rw [if_pos hs, if_pos hs]
    rw [exp_line, ht, hg, logSig_at _ _ (hz s), soft_neg, ← EReal.coe_sub, ← EReal.coe_add, Ideal.exp_coe,
      tail_succ T z s.isLt, gone_lt hs]
    exact congrArg (fun t : ℝ => ((Real.exp t : ℝ) : EReal)) (by ring)
  · rw [if_neg hs, if_neg hs, EReal.coe_zero]

/-- One entry of a block: the weighted values. -/
theorem block_at (q : FVec Ideal S8x8x128x128 .f32) (n : IVec S_ 32) (k : FVec Ideal S8x8x4096x128 .f32) (keys : IVec S4096 32)
    (v : FVec Ideal S8x8x4096x128 .f32) (b h : Fin 8) (r e : Fin 128) {i : ℕ} (hi : i < 32) {z w : ℕ → ℝ}
    (hn : ∀ j, n j = BitVec.ofNat 32 i) (hk : ∀ s : Fin 4096, keys (ix1 s) = BitVec.ofNat 32 s.val)
    (hz : ∀ s : Fin 4096, scores q k (ix4 b h r s) = ((z s.val : ℝ) : EReal))
    (hv : ∀ s : Fin 4096, v (ix4 b h s e) = ((w s.val : ℝ) : EReal)) :
    block q n k keys v (ix4 b h r e) = ((total (128 * i + r.val) z w 0 : ℝ) : EReal) := by
  pointwise [block]
  rw [← total_sum, ← coe_sum]
  refine Finset.sum_congr rfl fun s _ => ?_
  rw [weights_at _ _ b h r (fun s => before_at n keys i hi hn hk r s) hz s, hv, ← EReal.coe_mul]

end Cert.ReferenceIdeal.Sb

end
-- ==== Proof.RefState.lean ====
module

public import proofs.«01_k».proof.Proof.RefMath
public import Idealize.ShloMosaic.Lib.DynamicIndex
public import Idealize.ShloMosaic.Lib.Pipeline.Value

/-! What the reference's run holds: the buffers carried through the loop, the block that each trip reads and writes, and the
result. -/

@[expose] public section

set_option maxRecDepth 16384

noncomputable section

namespace Cert.ReferenceIdeal.Sb

open Cert.ReferenceIdeal Cert.ReferenceIdeal.Gen Cert.ReferenceIdeal.Value Cert.Stick
open Idealize.ShloMosaic Idealize.ShloMosaic.TcCoe Idealize.ShloMosaic.StableHlo Idealize.SL.Sem

/-- One third of the argument's columns, cut into heads. -/
def heads (off : Fin 2 → ℕ) (h : S32768x3072.Slices off S32768x1024) (A : Arg) : FVec Ideal S8x8x4096x128 .f32 :=
  transpose S8x8x4096x128 [0, 2, 1, 3] (shapeCast S8x4096x8x128
    (extractStridedSlice S32768x1024 off (extf .f32 A bitsLt_bf16_f32) h) shapeCasts_S32768x1024_S8x4096x8x128)
    transposes_S8x4096x8x128_S8x8x4096x128_0_2_1_3

/-- The queries, cut into blocks. -/
def queries (A : Arg) : FVec Ideal S32x8x8x128x128 .f32 :=
  transpose S32x8x8x128x128 [2, 0, 1, 3, 4] (shapeCast S8x8x32x128x128
    (heads ![0, 0] slices_S32768x3072_S32768x1024_0_0 A) shapeCasts_S8x8x4096x128_S8x8x32x128x128)
    transposes_S8x8x32x128x128_S32x8x8x128x128_2_0_1_3_4

/-- The result, from its blocks. -/
def gather (B : FVec Ideal S32x8x8x128x128 .f32) : FVec Ideal S32768x1024 .bf16 :=
  truncf .bf16 (shapeCast S32768x1024 (transpose S8x4096x8x128 [0, 2, 1, 3] (shapeCast S8x8x4096x128
    (transpose S8x8x32x128x128 [1, 2, 0, 3, 4] B transposes_S32x8x8x128x128_S8x8x32x128x128_1_2_0_3_4)
    shapeCasts_S8x8x32x128x128_S8x8x4096x128) transposes_S8x8x4096x128_S8x4096x8x128_0_2_1_3)
    shapeCasts_S8x4096x8x128_S32768x1024) bitsLt_bf16_f32

section Reads

variable (V : Valuation τ sig (Elt Ideal))

theorem pre_q : after hostOps0 V (Proc.devRef .tc main_v15_0) = queries (V (Proc.devRef .tc main_arg0)) := by
  after_reads_simp
  rfl
theorem pre_n : after hostOps0 V (Proc.devRef .tc main_v15_1) = iotaInDim S32 32 0 := by
  after_reads_simp
  rfl
theorem pre_k : after hostOps0 V (Proc.devRef .tc main_v15_2)
    = heads ![0, 1024] slices_S32768x3072_S32768x1024_0_1024 (V (Proc.devRef .tc main_arg0)) := by
  after_reads_simp
  rfl
theorem pre_s : after hostOps0 V (Proc.devRef .tc main_v15_3) = iotaInDim S4096 32 0 := by
  after_reads_simp
  rfl
theorem pre_v : after hostOps0 V (Proc.devRef .tc main_v15_4)
    = heads ![0, 2048] slices_S32768x3072_S32768x1024_0_2048 (V (Proc.devRef .tc main_arg0)) := by
  after_reads_simp
  rfl
theorem post_v : after hostOps0_1 V (Proc.devRef .tc main_v20) = gather (V (Proc.devRef .tc main_v15_6)) := by
  after_reads_simp
  rfl

theorem step_0 : afterL bodyI (after condOps V) (Proc.devRef .tc main_v15_0) = V (Proc.devRef .tc main_v15_0) := by
  simp only [afterL_cons, afterL_nil]
  after_reads_simp
theorem step_1 : afterL bodyI (after condOps V) (Proc.devRef .tc main_v15_1) = V (Proc.devRef .tc main_v15_1) := by
  simp only [afterL_cons, afterL_nil]
  after_reads_simp
theorem step_2 : afterL bodyI (after condOps V) (Proc.devRef .tc main_v15_2) = V (Proc.devRef .tc main_v15_2) := by
  simp only [afterL_cons, afterL_nil]
  after_reads_simp
theorem step_3 : afterL bodyI (after condOps V) (Proc.devRef .tc main_v15_3) = V (Proc.devRef .tc main_v15_3) := by
  simp only [afterL_cons, afterL_nil]
  after_reads_simp
theorem step_4 : afterL bodyI (after condOps V) (Proc.devRef .tc main_v15_4) = V (Proc.devRef .tc main_v15_4) := by
  simp only [afterL_cons, afterL_nil]
  after_reads_simp

/-- One trip: the block read at the counter, its result put at the counter. -/
theorem step_6 : afterL bodyI (after condOps V) (Proc.devRef .tc main_v15_6)
    = put (F := Ideal) (V (Proc.devRef .tc main_v15_6))
        (block (F := Ideal) (takeQ (F := Ideal) (V (Proc.devRef .tc main_v15_0)) (V (Proc.devRef .tc main_v15_5)))
          (takeN (V (Proc.devRef .tc main_v15_1)) (V (Proc.devRef .tc main_v15_5)))
          (V (Proc.devRef .tc main_v15_2)) (V (Proc.devRef .tc main_v15_3)) (V (Proc.devRef .tc main_v15_4)))
        (V (Proc.devRef .tc main_v15_5)) := by
  have e : afterL bodyI (after condOps V) = after while0Ops0_13 (after while0Ops0_12 (afterL midOps
      (after while0Ops0_1 (after while0Ops0 (after condOps V))))) := by
    simp only [afterL_cons, afterL_nil]
  rw [e, read_last, read_put, read_mid, read_n]
  have h6 : afterL midOps (after while0Ops0_1 (after while0Ops0 (after condOps V))) (Proc.devRef .tc main_v15_6)
      = V (Proc.devRef .tc main_v15_6) := by
    simp only [afterL_cons, afterL_nil]
    after_reads_simp
  have h5 : afterL midOps (after while0Ops0_1 (after while0Ops0 (after condOps V))) (Proc.devRef .tc main_v15_5)
      = V (Proc.devRef .tc main_v15_5) := by
    simp only [afterL_cons, afterL_nil]
    after_reads_simp
  have h21 : after while0Ops0_1 (after while0Ops0 (after condOps V)) (Proc.devRef .tc main_while0b_v21)
      = after while0Ops0 (after condOps V) (Proc.devRef .tc main_while0b_v21) :=
    after_of_writes_sub while0Ops0_1 _ while0Ops0_1_writes (by decide +kernel)
  have h2 : after while0Ops0_1 (after while0Ops0 (after condOps V)) (Proc.devRef .tc main_v15_2)
      = V (Proc.devRef .tc main_v15_2) := by
    after_reads_simp
  have h3 : after while0Ops0_1 (after while0Ops0 (after condOps V)) (Proc.devRef .tc main_v15_3)
      = V (Proc.devRef .tc main_v15_3) := by
    after_reads_simp
  have h4 : after while0Ops0_1 (after while0Ops0 (after condOps V)) (Proc.devRef .tc main_v15_4)
      = V (Proc.devRef .tc main_v15_4) := by
    after_reads_simp
  have h1 : after while0Ops0 (after condOps V) (Proc.devRef .tc main_v15_1) = V (Proc.devRef .tc main_v15_1) := by
    after_reads_simp
  have h5' : after while0Ops0 (after condOps V) (Proc.devRef .tc main_v15_5) = V (Proc.devRef .tc main_v15_5) := by
    after_reads_simp
  have h0 : after condOps V (Proc.devRef .tc main_v15_0) = V (Proc.devRef .tc main_v15_0) := by
    after_reads_simp
  have h5'' : after condOps V (Proc.devRef .tc main_v15_5) = V (Proc.devRef .tc main_v15_5) := by
    after_reads_simp
  rw [h6, h5, h21, read_q, h2, h3, h4, h1, h5', h0, h5'']

end Reads

theorem takeQ_at (Q : FVec Ideal S32x8x8x128x128 .f32) (c : IVec S_ 32) (i : Fin 32)
    (hc : (c (Shape.Idx.first h_S_)).toInt = (i.val : ℤ)) (b h : Fin 8) (r d : Fin 128) :
    takeQ Q c (ix4 b h r d) = Q (ix5 i b h r d) := by
  have hi := i.isLt
  have ho : S32x8x8x128x128.Slices ![i.val, 0, 0, 0, 0] S1x8x8x128x128 := ⟨rfl, fun a => by
    match a with
    | ⟨0, _⟩ => show i.val + 1 ≤ 32; omega
    | ⟨1, _⟩ => show 0 + 8 ≤ 8; omega
    | ⟨2, _⟩ => show 0 + 8 ≤ 8; omega
    | ⟨3, _⟩ => show 0 + 128 ≤ 128; omega
    | ⟨4, _⟩ => show 0 + 128 ≤ 128; omega⟩
  unfold takeQ
  rw [Host.dynamicSlice_eq_extractStridedSlice _ _ _ ![i.val, 0, 0, 0, 0] _ ho (fun a => by
    match a with
    | ⟨0, _⟩ => exact hc
    | ⟨1, _⟩ => rfl
    | ⟨2, _⟩ => rfl
    | ⟨3, _⟩ => rfl
    | ⟨4, _⟩ => rfl)]
  pointwise

theorem takeN_at (c : IVec S_ 32) (i : Fin 32) (hc : (c (Shape.Idx.first h_S_)).toInt = (i.val : ℤ)) (j : S_.Idx) :
    takeN (iotaInDim S32 32 0) c j = BitVec.ofNat 32 i.val := by
  have hi := i.isLt
  have ho : S32.Slices ![i.val] S1 := ⟨rfl, fun a => by
    match a with
    | ⟨0, _⟩ => show i.val + 1 ≤ 32; omega⟩
  unfold takeN
  rw [Host.dynamicSlice_eq_extractStridedSlice _ _ _ ![i.val] _ ho (fun a => by
    match a with
    | ⟨0, _⟩ => exact hc)]
  pointwise

theorem put_at (Q : FVec Ideal S32x8x8x128x128 .f32) (y : FVec Ideal S8x8x128x128 .f32) (c : IVec S_ 32) (i t : Fin 32)
    (hc : (c (Shape.Idx.first h_S_)).toInt = (i.val : ℤ)) (b h : Fin 8) (r d : Fin 128) :
    put Q y c (ix5 t b h r d) = if t = i then y (ix4 b h r d) else Q (ix5 t b h r d) := by
  have hi := i.isLt
  have ho : S32x8x8x128x128.Slices ![i.val, 0, 0, 0, 0] S1x8x8x128x128 := ⟨rfl, fun a => by
    match a with
    | ⟨0, _⟩ => show i.val + 1 ≤ 32; omega
    | ⟨1, _⟩ => show 0 + 8 ≤ 8; omega
    | ⟨2, _⟩ => show 0 + 8 ≤ 8; omega
    | ⟨3, _⟩ => show 0 + 128 ≤ 128; omega
    | ⟨4, _⟩ => show 0 + 128 ≤ 128; omega⟩
  unfold put
  rw [Host.dynamicUpdateSlice_eq_updateSlice _ _ _ _ ![i.val, 0, 0, 0, 0] (fun a => by
    match a with
    | ⟨0, _⟩ =>
      show (min (max (c (Shape.Idx.first h_S_)).toInt 0) ((32 - 1 : ℕ) : ℤ)).toNat = i.val
      rw [hc]
      omega
    | ⟨1, _⟩ => rfl
    | ⟨2, _⟩ => rfl
    | ⟨3, _⟩ => rfl
    | ⟨4, _⟩ => rfl) ho]
  pointwise
  by_cases h : t = i
  · rw [dif_pos ⟨by omega, by omega⟩, if_pos h]
  · rw [dif_neg (fun hh => h (Fin.ext (by omega))), if_neg h]

theorem heads_at {A : Arg} (hA : AllReal A) (off : ℕ) (hs) (b h : Fin 8) (T : Fin 4096) (d : Fin 128) :
    heads ![0, off] hs A (ix4 b h T d) = ((entry A (b.val * 4096 + T.val) (off + 128 * h.val + d.val) : ℝ) : EReal) := by
  pointwise [heads]
  exact hA.at (by simp) (by simp; ring)

theorem queries_at {A : Arg} (hA : AllReal A) (i : Fin 32) (b h : Fin 8) (r d : Fin 128) :
    queries A (ix5 i b h r d)
      = ((entry A (b.val * 4096 + (128 * i.val + r.val)) (128 * h.val + d.val) : ℝ) : EReal) := by
  pointwise [queries]
  rw [heads_at hA 0]
  show ((entry A (b.val * 4096 + (i.val * 128 + r.val)) (0 + 128 * h.val + d.val) : ℝ) : EReal) = _
  rw [Nat.mul_comm i.val 128, Nat.zero_add]

theorem gather_at (B : FVec Ideal S32x8x8x128x128 .f32) (R : Fin 32768) (C : Fin 1024) :
    gather B (ix2 R C) = B (ix5 (⟨R.val % 4096 / 128, by omega⟩ : Fin 32) (⟨R.val / 4096, by omega⟩ : Fin 8)
      (⟨C.val / 128, by omega⟩ : Fin 8) (⟨R.val % 4096 % 128, by omega⟩ : Fin 128) (⟨C.val % 128, by omega⟩ : Fin 128)) := by
  pointwise [gather]

section Run

variable (m : (ℓ : Loc nD τ sig) → Buf (Elt Ideal) ℓ) (c : Dev nD)

/-- The argument array of the run, as a function of its index. -/
abbrev arg : Arg := m ((c.tc : Thread nD τ).loc main_arg0)

theorem atK_q : ∀ k, atK m k c (Proc.devRef .tc main_v15_0) = queries (arg m c)
  | 0 => pre_q _
  | k + 1 => (step_0 (atK m k c)).trans (atK_q k)
theorem atK_n : ∀ k, atK m k c (Proc.devRef .tc main_v15_1) = iotaInDim S32 32 0
  | 0 => pre_n _
  | k + 1 => (step_1 (atK m k c)).trans (atK_n k)
theorem atK_k : ∀ k, atK m k c (Proc.devRef .tc main_v15_2)
    = heads ![0, 1024] slices_S32768x3072_S32768x1024_0_1024 (arg m c)
  | 0 => pre_k _
  | k + 1 => (step_2 (atK m k c)).trans (atK_k k)
theorem atK_s : ∀ k, atK m k c (Proc.devRef .tc main_v15_3) = iotaInDim S4096 32 0
  | 0 => pre_s _
  | k + 1 => (step_3 (atK m k c)).trans (atK_s k)
theorem atK_v : ∀ k, atK m k c (Proc.devRef .tc main_v15_4)
    = heads ![0, 2048] slices_S32768x3072_S32768x1024_0_2048 (arg m c)
  | 0 => pre_v _
  | k + 1 => (step_4 (atK m k c)).trans (atK_v k)

/-- The result block that the `i`-th trip computes. -/
theorem trip_at {A : Arg} (hA : AllReal A) (w : IVec S_ 32) (i : Fin 32) (hw : (w (Shape.Idx.first h_S_)).toInt = (i.val : ℤ))
    (b h : Fin 8) (r e : Fin 128) :
    block (takeQ (queries A) w) (takeN (iotaInDim S32 32 0) w) (heads ![0, 1024] slices_S32768x3072_S32768x1024_0_1024 A)
        (iotaInDim S4096 32 0) (heads ![0, 2048] slices_S32768x3072_S32768x1024_0_2048 A) (ix4 b h r e)
      = ((out A b.val (128 * i.val + r.val) h.val e.val : ℝ) : EReal) := by
  refine block_at _ _ _ _ _ b h r e i.isLt (fun j => takeN_at w i hw j) (fun s => by pointwise) (fun s => ?_) (fun s => ?_)
  · rw [scores_at, sigma_coe, score, EReal.coe_mul, ← coe_sum]
    refine congrArg (fun t : EReal => t * ((sigma : ℝ) : EReal)) (Finset.sum_congr rfl fun d _ => ?_)
    rw [takeQ_at _ _ i hw, queries_at hA, heads_at hA, ← EReal.coe_mul]
  · rw [heads_at hA]
    rfl

/-- The counter of the `k`-th trip, read as an integer. -/
theorem iv_int : ∀ k : Fin 32, (Scf.iv 0#32 1#32 k.val).toInt = (k.val : ℤ) := by decide

/-- After `k` trips the blocks before the `k`-th hold the result. -/
theorem atK_out (hA : AllReal (arg m c)) : ∀ k, k ≤ 32 → ∀ (i : Fin 32), i.val < k → ∀ (b h : Fin 8) (r e : Fin 128),
    (atK m k c (Proc.devRef .tc main_v15_6) : FVec Ideal S32x8x8x128x128 .f32) (ix5 i b h r e)
      = ((out (arg m c) b.val (128 * i.val + r.val) h.val e.val : ℝ) : EReal)
  | 0, _, _, hi, _, _, _, _ => absurd hi (Nat.not_lt_zero _)
  | k + 1, hk, i, hi, b, h, r, e => by
    have hw : ((atK m k c (Proc.devRef .tc main_v15_5) : IVec S_ 32) (Shape.Idx.first h_S_)).toInt
        = ((⟨k, by omega⟩ : Fin 32).val : ℤ) := by
      rw [atK_ctr]
      exact iv_int ⟨k, by omega⟩
    have hs := step_6 (atK m k c)
    rw [atK_q, atK_n, atK_k, atK_s, atK_v] at hs
    refine (congrFun hs (ix5 i b h r e)).trans ?_
    refine (put_at _ _ _ ⟨k, by omega⟩ i hw b h r e).trans ?_
    by_cases he : i = ⟨k, by omega⟩
    · rw [if_pos he, trip_at hA _ _ hw, he]
    · rw [if_neg he]
      exact atK_out hA k (by omega) i (by have : i.val ≠ k := fun hh => he (Fin.ext hh); omega) b h r e

/-- The result of the run. -/
theorem final_value (hA : AllReal (arg m c)) :
    finalContents condOps preI bodyI postI 32 m c (Proc.devRef .tc main_v20) = outs (arg m c) := by
  rw [show finalContents condOps preI bodyI postI 32 m c = after hostOps0_1 (after condOps (atK m 32 c)) from rfl, post_v,
    after_of_writes_sub condOps _ condOps_writes (by decide +kernel)]
  funext j
  obtain ⟨R, C, rfl⟩ : ∃ (R : Fin 32768) (C : Fin 1024), j = ix2 R C := ⟨j 0, j 1, eq_ix2 j⟩
  rw [gather_at]
  refine (atK_out m c hA 32 le_rfl _ (by omega) _ _ _ _).trans ?_
  show ((out (arg m c) (R.val / 4096) (128 * (R.val % 4096 / 128) + R.val % 4096 % 128) (C.val / 128) (C.val % 128) : ℝ) : EReal)
    = ((out (arg m c) (R.val / 4096) (R.val % 4096) (C.val / 128) (C.val % 128) : ℝ) : EReal)
  rw [Nat.div_add_mod]

end Run

end Cert.ReferenceIdeal.Sb

end
-- ==== Proof.Real.lean ====
module

public import proofs.«01_k».proof.Pre_finite
public import proofs.«01_k».proof.Proof.Spec
public import Idealize.ShloMosaic.Lib.Pointwise
public import Idealize.ShloMosaic.Lib.StableHlo

/-! The precondition: an array whose entries are less than infinity in absolute value has real entries. -/

@[expose] public section

noncomputable section

namespace Cert.Pre_finite.Sb

open Idealize.ShloMosaic Cert.Stick

/-- The precondition's own side conditions. -/
theorem facts : Cert.Pre_finite.Facts := ⟨by decide, by decide⟩

attribute [local instance] facts

/-- An extended real whose absolute value is less than infinity is real. -/
theorem real_of_lt {x : EReal} (h : max x (-x) < ⊤) : x = ((x.toReal : ℝ) : EReal) := by
  have h1 := max_lt_iff.mp h
  refine (EReal.coe_toReal h1.1.ne ?_).symm
  rintro rfl
  exact absurd h1.2 (by simp)

/-- Where the precondition holds every entry is real. -/
theorem all_real (X : Arg) (h : Cert.Pre_finite.fn (F := Ideal) X = fun _ => 1#1) : AllReal X := by
  intro a b
  have e := congrFun h (ix2 a b)
  pointwise [Cert.Pre_finite.fn] at e
  rw [inf_top] at e
  have hb : ∀ t : Bool, BitVec.ofBool t = 1#1 → t = true := by decide
  have hl := of_decide_eq_true (hb _ e)
  exact real_of_lt hl

end Cert.Pre_finite.Sb

end
-- ==== Proof.Proj.Value.lean ====
/-
  The projection to queries, keys and values: row `R` of the result is token `R % 4096` of batch `R / 4096` times columns
  4096 to 7167 of the projection's weights. The kernel's blocks and the reference's host operations both end with it.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

namespace Cert.Proj

open Idealize.ShloMosaic Idealize.ShloMosaic.TcCoe

/-- One entry of `x @ w[0]`: token `t` of batch `b` times column `n` of the weights. -/
def entry (X : FVec Ideal ⟨3, ![8, 4096, 1024]⟩ .f32) (W : FVec Ideal ⟨3, ![1, 1024, 9216]⟩ .f32) (b t n : ℕ) : EReal :=
  ∑ k : Fin 1024, X (ix3 (Fin.ofNat 8 b) (Fin.ofNat 4096 t) k) * W (ix3 0 k (Fin.ofNat 9216 n))

/-- The projected queries, keys and values, one row per token. -/
def proj (X : FVec Ideal ⟨3, ![8, 4096, 1024]⟩ .f32) (W : FVec Ideal ⟨3, ![1, 1024, 9216]⟩ .f32) : FVec Ideal ⟨2, ![32768, 3072]⟩ .bf16 :=
  fun i => entry X W ((i 0).val / 4096) ((i 0).val % 4096) (4096 + (i 1).val)

section Kernel
open Cert.Kernel2Ideal Cert.Kernel2Ideal.Gen

variable (m : (ℓ : Loc nD τ sig) → Buf (Elt Ideal) ℓ) (c : Dev nD) (t : Fin cfg0.N)

/-- The windows' index maps. -/
theorem idx : ∀ t : Fin cfg0.N,
    win0_0.index t = ![(grid0.coords t 0).val, 0]
    ∧ win0_1.index t = ![0, (grid0.coords t 1).val]
    ∧ win0_2.index t = ![(grid0.coords t 0).val, (grid0.coords t 1).val]
    ∧ (grid0.coords t 0).val < 16 ∧ (grid0.coords t 1).val < 3 :=
  (by decide +kernel : ∀ t : Fin grid0.N, _)

/-- The arrays the region is entered with, at an index. -/
theorem rows_at (p : Fin 32768) (q : Fin 1024) : (V m c main_v0 : FVec Ideal S32768x1024 .f32) (ix2 p q)
    = (m ((c : Thread nD τ).loc main_arg0) : FVec Ideal S8x4096x1024 .f32) (ix3 (Fin.ofNat 8 (p.val / 4096)) (Fin.ofNat 4096 (p.val % 4096)) q) := by
  unfold V
  entry_read
  pointwise
  exact congrArg _ (by congr 1 <;> exact Fin.ext (by simp only [Fin.ofNat]; omega))

theorem cols_at (p : Fin 1024) (q : Fin 3072) : (V m c main_v3 : FVec Ideal S1024x3072 .bf16) (ix2 p q)
    = (m ((c : Thread nD τ).loc main_arg1) : FVec Ideal S1x1024x9216 .f32) (ix3 0 p (Fin.ofNat 9216 (4096 + q.val))) := by
  unfold V
  entry_read
  pointwise
  exact congrArg _ (by congr 1; exact Fin.ext (by simp only [Fin.ofNat]; omega))

/-- The blocks a point is handed. -/
abbrev bx : Vec Ideal S2048x1024 .f32 := iblk m c 0 t
abbrev bw : Vec Ideal S1024x1024 .bf16 := iblk m c 1 t

theorem bx_at (p : Fin 2048) (k : Fin 1024) (R : ℕ) (hR : R = 2048 * (grid0.coords t 0).val + p.val) : bx m c t (ix2 p k)
    = (m ((c : Thread nD τ).loc main_arg0) : FVec Ideal S8x4096x1024 .f32) (ix3 (Fin.ofNat 8 (R / 4096)) (Fin.ofNat 4096 (R % 4096)) k) := by
  obtain ⟨e0, -, -, h0, h1⟩ := idx t
  subst hR
  have hp := p.isLt
  unfold bx iblk
  blk_simp
  rw [show (win0_0.blk t).view.emb (ix2 p k) = ix2 ⟨2048 * (grid0.coords t 0).val + p.val, by omega⟩ k by blk_ext [e0]]
  exact rows_at m c _ k

theorem bw_at (k : Fin 1024) (q : Fin 1024) (C : ℕ) (hC : C = 1024 * (grid0.coords t 1).val + q.val) : bw m c t (ix2 k q)
    = (m ((c : Thread nD τ).loc main_arg1) : FVec Ideal S1x1024x9216 .f32) (ix3 0 k (Fin.ofNat 9216 (4096 + C))) := by
  obtain ⟨-, e0, -, h0, h1⟩ := idx t
  subst hC
  have hp := q.isLt
  unfold bw iblk
  blk_simp
  rw [show (win0_1.blk t).view.emb (ix2 k q) = ix2 k ⟨1024 * (grid0.coords t 1).val + q.val, by omega⟩ by blk_ext [e0]]
  exact cols_at m c k _

/-- What a point writes is its block of the projection. -/
theorem point (y : S2048x1024.Idx) : out0_2 (iblk m c 0 t) (iblk m c 1 t) y
    = proj (m ((c : Thread nD τ).loc main_arg0)) (m ((c : Thread nD τ).loc main_arg1)) ((win0_2.blk t).view.emb y) := by
  unfold out0_2
  frame_out
  pointwise [k0_pay1]
  obtain ⟨-, -, e0, h0, h1⟩ := idx t
  unfold proj entry
  refine Finset.sum_congr rfl fun k _ => congrArg₂ (· * ·) (bx_at m c t (y 0) k _ ?_) (bw_at m c t k (y 1) _ ?_) <;>
    blk_simp [e0] <;> omega

/-- The result array after the run. -/
theorem final : (dats m 0 c).arrAt 2 cfg0.N
    = proj (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Kernel

section Reference
open Cert.Reference2Ideal Cert.Reference2Ideal.Gen

/-- The reference's composed term is the projection. -/
theorem ref_eq (X : FVec Ideal S8x4096x1024 .f32) (W : FVec Ideal S1x1024x9216 .f32) :
    shapeCast S32768x3072 (truncf .bf16 (extractStridedSlice S8x4096x3072 ![0, 0, 4096]
      (Host.dotGeneral dot_S8x4096x1024_S1024x9216_S8x4096x9216_2_0_01_1_n_n none X
        (shapeCast _ W shapeCasts_S1x1024x9216_S1024x9216)) slices_S8x4096x9216_S8x4096x3072_0_0_4096) bitsLt_bf16_f32)
      shapeCasts_S8x4096x3072_S32768x3072 = proj X W := by
  funext i
  pointwise [proj, entry]
  have h0 : (i 0).val < 32768 := (i 0).isLt
  have h1 : (i 1).val < 3072 := (i 1).isLt
  refine Finset.sum_congr rfl fun k _ => congrArg₂ (· * ·) (congrArg X ?_) (congrArg W ?_)
  · congr 1 <;> exact Fin.ext (by simp only [Fin.ofNat]; omega)
  · congr 1; exact Fin.ext (by simp only [Fin.ofNat]; omega)

end Reference

end Cert.Proj

end
-- ==== Proof.MergeI.Frame.lean ====
/-
  The frame of the merge call over the ideal values: the branches weighted by their gates, the output projection and the first layer
  norm, one block of 512 rows a grid point. A point stores the normed rows and, at every fourth row of the word buffer,
  the packed halves of them; the four strided stores cover that buffer.
-/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Mg

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body reads and the one it stores the normed rows through. -/
abbrev rRows : Rect S512x1024 := Rect.unit (s := S512x1024) ![0, 0] S512x1024.size inb_S512x1024_S512x1024_0_0
abbrev rSq : Rect S1024x1024 := Rect.unit (s := S1024x1024) ![0, 0] S1024x1024.size inb_S1024x1024_S1024x1024_0_0
abbrev rLo : Rect S1024x2048 := Rect.unit (s := S1024x2048) ![0, 0] S1024x1024.size inb_S1024x2048_S1024x1024_0_0
abbrev rHi : Rect S1024x2048 := Rect.unit (s := S1024x2048) ![0, 1024] S1024x1024.size inb_S1024x2048_S1024x1024_0_1024
abbrev rRow : Rect S1x1024 := Rect.unit (s := S1x1024) ![0, 0] S1x1024.size inb_S1x1024_S1x1024_0_0

/-- Every fourth row of the word buffer, from rows 0, 1, 2 and 3. -/
abbrev every0 : Rect S2048x2x128 := ⟨(⟨![0, 0, 0], S512x2x128.size, ![4, 1, 1], inb_S2048x2x128_S512x2x128_0_0_0_s_4_1_1⟩ : LoadRect S2048x2x128), spos_4_1_1⟩
abbrev every1 : Rect S2048x2x128 := ⟨(⟨![1, 0, 0], S512x2x128.size, ![4, 1, 1], inb_S2048x2x128_S512x2x128_1_0_0_s_4_1_1⟩ : LoadRect S2048x2x128), spos_4_1_1⟩
abbrev every2 : Rect S2048x2x128 := ⟨(⟨![2, 0, 0], S512x2x128.size, ![4, 1, 1], inb_S2048x2x128_S512x2x128_2_0_0_s_4_1_1⟩ : LoadRect S2048x2x128), spos_4_1_1⟩
abbrev every3 : Rect S2048x2x128 := ⟨(⟨![3, 0, 0], S512x2x128.size, ![4, 1, 1], inb_S2048x2x128_S512x2x128_3_0_0_s_4_1_1⟩ : LoadRect S2048x2x128), spos_4_1_1⟩

/-- The rows of the layer's input the point carries to the residual. -/
abbrev carried (x2 : Vec F S512x1024 .f32) := k0_pay5 (View.ld x2 rRows)

/-- The gated sum of the two branches. -/
abbrev mixed (x0 : Vec F S512x1024 .bf16) (x1 : Vec F S512x1024 .bf16) (x2 : Vec F S512x1024 .f32) (x3 : Vec F S1024x2048 .bf16) (x4 : Vec F S1024x1024 .bf16) (x5 : Vec F S1024x1024 .bf16) :=
  k0_pay6 (View.ld x2 rRows) (View.ld x3 rLo) (View.ld x3 rHi) (View.ld x0 rRows) (View.ld x4 rSq) (View.ld x1 rRows) (View.ld x5 rSq)

/-- The normed rows. -/
abbrev normed (x0 : Vec F S512x1024 .bf16) (x1 : Vec F S512x1024 .bf16) (x2 : Vec F S512x1024 .f32) (x3 : Vec F S1024x2048 .bf16) (x4 : Vec F S1024x1024 .bf16) (x5 : Vec F S1024x1024 .bf16) (x6 : Vec F S1024x1024 .bf16) (x7 : Vec F S1x1024 .f32) (x8 : Vec F S1x1024 .f32) :=
  k0_pay7 (carried x2) (mixed x0 x1 x2 x3 x4 x5) (View.ld x6 rSq) (View.ld x7 rRow) (View.ld x8 rRow)

/-- The normed rows as the point leaves them. -/
def rowsOut (x0 : Vec F S512x1024 .bf16) (x1 : Vec F S512x1024 .bf16) (x2 : Vec F S512x1024 .f32) (x3 : Vec F S1024x2048 .bf16) (x4 : Vec F S1024x1024 .bf16) (x5 : Vec F S1024x1024 .bf16) (x6 : Vec F S1024x1024 .bf16) (x7 : Vec F S1x1024 .f32) (x8 : Vec F S1x1024 .f32) : Vec F S512x1024 .f32 :=
  View.canon [⟨rRows, normed x0 x1 x2 x3 x4 x5 x6 x7 x8⟩]

/-- The one store covers the rows. -/
theorem rows_cover (p : Vec F S512x1024 .f32) (y : S512x1024.Idx) :
    ∃ pc ∈ ([⟨rRows, p⟩] : List (View.Piece (Elt F) S512x1024 .f32)), y ∈ pc.1.set :=
  View.cover_of_tiled [⟨rRows, p⟩] S512x1024.size (by rfl) y

/-- The strided stores, last first. -/
abbrev pieces (p0 p1 p2 p3 : Vec F S512x2x128 .bf16) : List (View.Piece (Elt F) S2048x2x128 .bf16) :=
  [⟨every3, p3⟩, ⟨every2, p2⟩, ⟨every1, p1⟩, ⟨every0, p0⟩]

/-- The words as the point leaves them. -/
def wordsOut (x0 : Vec F S512x1024 .bf16) (x1 : Vec F S512x1024 .bf16) (x2 : Vec F S512x1024 .f32) (x3 : Vec F S1024x2048 .bf16) (x4 : Vec F S1024x1024 .bf16) (x5 : Vec F S1024x1024 .bf16) (x6 : Vec F S1024x1024 .bf16) (x7 : Vec F S1x1024 .f32) (x8 : Vec F S1x1024 .f32) : Vec F S2048x2x128 .bf16 :=
  View.canon (pieces (k0_pay1 (k0_pay8 (carried x2) (mixed x0 x1 x2 x3 x4 x5) (View.ld x6 rSq) (View.ld x7 rRow) (View.ld x8 rRow)) (k0_pay9 (carried x2) (mixed x0 x1 x2 x3 x4 x5) (View.ld x6 rSq) (View.ld x7 rRow) (View.ld x8 rRow))) (k0_pay2 (normed x0 x1 x2 x3 x4 x5 x6 x7 x8)) (k0_pay3 (normed x0 x1 x2 x3 x4 x5 x6 x7 x8)) (k0_pay4 (normed x0 x1 x2 x3 x4 x5 x6 x7 x8)))

/-- A row of the word buffer is one of every fourth, by its residue, so the four stores cover it. -/
theorem words_cover (p0 p1 p2 p3 : Vec F S512x2x128 .bf16) (y : S2048x2x128.Idx) : ∃ pc ∈ pieces p0 p1 p2 p3, y ∈ pc.1.set := by
  have h0 : (y 0 : ℕ) < 2048 := (y 0).isLt
  have h1 : (y 1 : ℕ) < 2 := (y 1).isLt
  have h2 : (y 2 : ℕ) < 128 := (y 2).isLt
  rcases (by omega : (y 0 : ℕ) % 4 = 0 ∨ (y 0 : ℕ) % 4 = 1 ∨ (y 0 : ℕ) % 4 = 2 ∨ (y 0 : ℕ) % 4 = 3) with h | h | h | h
  · refine ⟨⟨every0, p0⟩, by simp, LoadRect.mem_set (s := S2048x2x128) _ |>.mpr fun a => ?_⟩
    match a with
    | ⟨0, _⟩ => exact ⟨(y 0 : ℕ) / 4, show (y 0 : ℕ) / 4 < 512 by omega, show (y 0 : ℕ) = 0 + 4 * ((y 0 : ℕ) / 4) by omega⟩
    | ⟨1, _⟩ => exact ⟨(y 1 : ℕ), h1, show (y 1 : ℕ) = 0 + 1 * (y 1 : ℕ) by omega⟩
    | ⟨2, _⟩ => exact ⟨(y 2 : ℕ), h2, show (y 2 : ℕ) = 0 + 1 * (y 2 : ℕ) by omega⟩
  · refine ⟨⟨every1, p1⟩, by simp, LoadRect.mem_set (s := S2048x2x128) _ |>.mpr fun a => ?_⟩
    match a with
    | ⟨0, _⟩ => exact ⟨(y 0 : ℕ) / 4, show (y 0 : ℕ) / 4 < 512 by omega, show (y 0 : ℕ) = 1 + 4 * ((y 0 : ℕ) / 4) by omega⟩
    | ⟨1, _⟩ => exact ⟨(y 1 : ℕ), h1, show (y 1 : ℕ) = 0 + 1 * (y 1 : ℕ) by omega⟩
    | ⟨2, _⟩ => exact ⟨(y 2 : ℕ), h2, show (y 2 : ℕ) = 0 + 1 * (y 2 : ℕ) by omega⟩
  · refine ⟨⟨every2, p2⟩, by simp, LoadRect.mem_set (s := S2048x2x128) _ |>.mpr fun a => ?_⟩
    match a with
    | ⟨0, _⟩ => exact ⟨(y 0 : ℕ) / 4, show (y 0 : ℕ) / 4 < 512 by omega, show (y 0 : ℕ) = 2 + 4 * ((y 0 : ℕ) / 4) by omega⟩
    | ⟨1, _⟩ => exact ⟨(y 1 : ℕ), h1, show (y 1 : ℕ) = 0 + 1 * (y 1 : ℕ) by omega⟩
    | ⟨2, _⟩ => exact ⟨(y 2 : ℕ), h2, show (y 2 : ℕ) = 0 + 1 * (y 2 : ℕ) by omega⟩
  · refine ⟨⟨every3, p3⟩, by simp, LoadRect.mem_set (s := S2048x2x128) _ |>.mpr fun a => ?_⟩
    match a with
    | ⟨0, _⟩ => exact ⟨(y 0 : ℕ) / 4, show (y 0 : ℕ) / 4 < 512 by omega, show (y 0 : ℕ) = 3 + 4 * ((y 0 : ℕ) / 4) by omega⟩
    | ⟨1, _⟩ => exact ⟨(y 1 : ℕ), h1, show (y 1 : ℕ) = 0 + 1 * (y 1 : ℕ) by omega⟩
    | ⟨2, _⟩ => exact ⟨(y 2 : ℕ), h2, show (y 2 : ℕ) = 0 + 1 * (y 2 : ℕ) by omega⟩

set_option maxHeartbeats 4000000 in
/-- The body on whole staging buffers: the inputs are left as they were, the normed rows and the words are stored. -/
theorem body_runs (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S2048x2x128 .bf16) (harg11 : arg11.IsWhole)
    (x0 : Vec F S512x1024 .bf16) (x1 : Vec F S512x1024 .bf16) (x2 : Vec F S512x1024 .f32) (x3 : Vec F S1024x2048 .bf16) (x4 : Vec F S1024x1024 .bf16) (x5 : Vec F S1024x1024 .bf16) (x6 : Vec F S1024x1024 .bf16) (x7 : Vec F S1x1024 .f32) (x8 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (rowsOut x0 x1 x2 x3 x4 x5 x6 x7 x8) ∗ owns (c : Thread nD τ) arg11 fullShare (wordsOut x0 x1 x2 x3 x4 x5 x6 x7 x8)) -∗ K ⟨⟩))
      ⊢ wp frame (wpE (defs₀ (F := F)) Variants.none c none) E (cc0_merge_ln1 i arg1 harg1 arg2 harg2 arg3 harg3 arg4 harg4 arg5 harg5 arg6 harg6 arg7 harg7 arg8 harg8 arg9 harg9 arg10 harg10 arg11 harg11) K := by
  simp only [cc0_merge_ln1_eq_skeleton]; unfold cc0_merge_ln1_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (rows_cover _)
  iexists _; isplitr
  swap; · iexact H10
  ipureintro
  exact View.read_writes_eq_canon _ _ _ (words_cover _ _ _ _)

variable (m : (ℓ : Loc nD τ sig) → Buf (Elt F) ℓ) (ρ : Dev nD → PrngReg)

/-- The pipeline's proof data: the arrays as the region finds them, the inputs' blocks left in place, the two outputs'
    blocks at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowsOut (iblk m c 0 t) (iblk m c 1 t) (iblk m c 2 t) (iblk m c 3 t) (iblk m c 4 t) (iblk m c 5 t) (iblk m c 6 t) (iblk m c 7 t) (iblk m c 8 t)
    | ⟨10, _⟩ => wordsOut (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem dats_A (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = rowsOut (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t = wordsOut (iblk m c 0 t) (iblk m c 1 t) (iblk m c 2 t) (iblk m c 3 t) (iblk m c 4 t) (iblk m c 5 t) (iblk m c 6 t) (iblk m c 7 t) (iblk m c 8 t) := by dsimp only [dats]

/-- What the body finds in each input window's buffer. -/
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d
theorem before_8 (c : Dev nD) (t : Fin cfg0.N) (d) : (dats m 0 c).before 8 t d = iblk m c 8 t :=
  before0_8_of m (dats m 0 c) (dats_A m c 8) (after_8 m c) t d

/-- What the body is called with at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ owns (c : Thread nD τ) ((cfg0.win 10).stage (cfg0.slots t 10)) fullShare ((dats m 0 c).after 10 t))

/-- The body at any point takes the one to the other. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a point's slots. -/
theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
set_option maxHeartbeats 800000 in
/-- The launch runs to the pipeline's post with the counters at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The frame: every argument unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (dats_A m) ((θ_run defs _ _).mono (fun _ h => h.1) (run_quiescent m ρ)))
    ((θ_run defs _ _).mono (fun _ h => h.2) (run_quiescent m ρ))

/-- The run with the normed rows named: what the points' write-backs leave of them. -/
theorem run_result : θ_run defs (onTc (τ := τ) (main (F := F))) ⟨m, fun _ => 0, ρ⟩ fun r => ∀ c : Dev nD,
      r.2.mem ((c : Thread nD τ).loc main_v14_0) = (dats m 0 c).arrAt 9 cfg0.N :=
  (θ_run defs _ _).mono (fun _ h c => (h.1 c).1 9) (run_quiescent m ρ)

end Cert.Kernel3Ideal.Mg

end
-- ==== Proof.MergeI.Value.lean ====
/-
  The merge: row `R` of the result is token `R % 4096` of batch `R / 4096`. The two branches, each projected and weighted
  by its gate, are summed, projected and added to the scaled input; the sum is normed over its 1024 features. The kernel's
  blocks and the reference's host operations both end with it.
-/
module

public import proofs.«01_k».proof.Proof.MergeI.Frame
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Merge

open Idealize.ShloMosaic Idealize.ShloMosaic.TcCoe

/-- The arrays the merge reads and the one it makes. -/
abbrev Branch := FVec Ideal ⟨2, ![32768, 1024]⟩ .bf16
abbrev Tokens := FVec Ideal ⟨3, ![8, 4096, 1024]⟩ .f32
abbrev InWeights := FVec Ideal ⟨3, ![1, 1024, 9216]⟩ .f32
abbrev Square := FVec Ideal ⟨3, ![1, 1024, 1024]⟩ .f32
abbrev Affine := FVec Ideal ⟨2, ![1, 1024]⟩ .f32
abbrev Rows := FVec Ideal ⟨2, ![32768, 1024]⟩ .f32

/-- The logistic function. -/
def gate (z : EReal) : EReal := Ideal.div 1 (1 + Ideal.exp (-z))

/-- Feature `k` of row `R` of the tokens. -/
def tok (X : Tokens) (R : ℕ) (k : Fin 1024) : EReal := X (ix3 (Fin.ofNat 8 (R / 4096)) (Fin.ofNat 4096 (R % 4096)) k)

/-- Row `R` of the tokens times column `n` of the projection's weights. -/
def logit (X : Tokens) (W : InWeights) (R n : ℕ) : EReal := ∑ k : Fin 1024, tok X R k * W (ix3 0 k (Fin.ofNat 9216 n))

/-- Row `R` of a branch times column `n` of its weights. -/
def branch (O : Branch) (W : Square) (R : ℕ) (n : Fin 1024) : EReal :=
  ∑ k : Fin 1024, O (ix2 (Fin.ofNat 32768 R) k) * W (ix3 0 k n)

/-- The gated sum of the branches. -/
def mixed (H S : Branch) (X : Tokens) (W : InWeights) (WH WS : Square) (R : ℕ) (n : Fin 1024) : EReal :=
  gate (logit X W R (7168 + n.val)) * branch H WH R n + gate (logit X W R (8192 + n.val)) * branch S WS R n

/-- The scaled input plus the projected sum. -/
def residual (H S : Branch) (X : Tokens) (W : InWeights) (WH WS WO : Square) (R : ℕ) (n : Fin 1024) : EReal :=
  Ideal.ofBits .f32 0x3F9837F0#32 * tok X R n + ∑ k : Fin 1024, mixed H S X W WH WS R k * WO (ix3 0 k n)

/-- The mean of 1024 features. -/
def mean (v : Fin 1024 → EReal) : EReal := Ideal.div (∑ k, v k) (Ideal.ofBits .f32 0x44800000#32)

/-- Layer norm of 1024 features. -/
def norm (v g b : Fin 1024 → EReal) (n : Fin 1024) : EReal :=
  (v n - mean v) * Ideal.rsqrt (mean (fun k => (v k - mean v) * (v k - mean v)) + Ideal.ofBits .f32 0x3727C5AC#32) * g n + b n

/-- The merged and normed rows. -/
def rows (H S : Branch) (X : Tokens) (W : InWeights) (WH WS WO : Square) (G B : Affine) : Rows :=
  fun i => norm (residual H S X W WH WS WO (i 0).val) (fun k => G (ix2 0 k)) (fun k => B (ix2 0 k)) (i 1)

section Kernel
open Cert.Kernel3Ideal Cert.Kernel3Ideal.Gen Cert.Kernel3Ideal.Mg

/-- One entry of the gated sum over a point's blocks. -/
theorem mixed_at (v0 : Vec Ideal S512x1024 .f32) (v3 v6 : Vec Ideal S1024x1024 .bf16) (v9 : Vec Ideal S512x1024 .bf16)
    (v10 : Vec Ideal S1024x1024 .bf16) (v13 : Vec Ideal S512x1024 .bf16) (v14 : Vec Ideal S1024x1024 .bf16) (p : Fin 512) (n : Fin 1024) :
    k0_pay6 v0 v3 v6 v9 v10 v13 v14 (ix2 p n)
      = gate (∑ k, v0 (ix2 p k) * v3 (ix2 k n)) * (∑ k, v9 (ix2 p k) * v10 (ix2 k n))
        + gate (∑ k, v0 (ix2 p k) * v6 (ix2 k n)) * (∑ k, v13 (ix2 p k) * v14 (ix2 k n)) := by
  pointwise [k0_pay6, k0_pay5]
  simp only [gate, zero_sub]

/-- One entry of the normed rows over a point's blocks. -/
theorem normed_at (v1 : FVec Ideal S512x1024 .f32) (v34 : FVec Ideal S512x1024 .bf16) (v35 : Vec Ideal S1024x1024 .bf16)
    (v41 v43 : Vec Ideal S1x1024 .f32) (p : Fin 512) (n : Fin 1024) :
    k0_pay7 v1 v34 v35 v41 v43 (ix2 p n)
      = norm (fun k => Ideal.ofBits .f32 0x3F9837F0#32 * v1 (ix2 p k) + ∑ j, v34 (ix2 p j) * v35 (ix2 j k))
          (fun k => v41 (ix2 0 k)) (fun k => v43 (ix2 0 k)) n := by
  pointwise [k0_pay7]
  rfl

/-- The loads read the blocks entry by entry. -/
theorem ld_rows {e} (x : Vec Ideal S512x1024 e) (p : Fin 512) (n : Fin 1024) : View.ld x rRows (ix2 p n) = x (ix2 p n) := by
  pointwise
theorem ld_sq {e} (x : Vec Ideal S1024x1024 e) (p : Fin 1024) (n : Fin 1024) : View.ld x rSq (ix2 p n) = x (ix2 p n) := by
  pointwise
theorem ld_row {e} (x : Vec Ideal S1x1024 e) (n : Fin 1024) : View.ld x rRow (ix2 0 n) = x (ix2 0 n) := by
  pointwise
theorem ld_lo {e} (x : Vec Ideal S1024x2048 e) (k n : Fin 1024) : View.ld x rLo (ix2 k n) = x (ix2 k (Fin.ofNat 2048 n.val)) := by
  pointwise
  exact congrArg _ (by congr 1; exact Fin.ext (by simp only [Fin.ofNat]; omega))
theorem ld_hi {e} (x : Vec Ideal S1024x2048 e) (k n : Fin 1024) : View.ld x rHi (ix2 k n) = x (ix2 k (Fin.ofNat 2048 (1024 + n.val))) := by
  pointwise
  exact congrArg _ (by congr 1; exact Fin.ext (by simp only [Fin.ofNat]; omega))

theorem carried_at (x : Vec Ideal S512x1024 .f32) (p : Fin 512) (n : Fin 1024) : carried x (ix2 p n) = x (ix2 p n) := by
  unfold carried
  pointwise [k0_pay5]

/-- The one store leaves the normed rows. -/
theorem stored (q : Vec Ideal S512x1024 .f32) : View.canon [(⟨rRows, q⟩ : View.Piece (Elt Ideal) S512x1024 .f32)] = q := by
  funext y
  frame_out
theorem rowsOut_eq (x0 x1 : Vec Ideal S512x1024 .bf16) (x2 : Vec Ideal S512x1024 .f32) (x3 : Vec Ideal S1024x2048 .bf16)
    (x4 x5 x6 : Vec Ideal S1024x1024 .bf16) (x7 x8 : Vec Ideal S1x1024 .f32) :
    rowsOut x0 x1 x2 x3 x4 x5 x6 x7 x8 = normed x0 x1 x2 x3 x4 x5 x6 x7 x8 := stored _

/-- One entry of the normed rows, over the blocks as handed. -/
theorem normed_rows (x0 x1 : Vec Ideal S512x1024 .bf16) (x2 : Vec Ideal S512x1024 .f32) (x3 : Vec Ideal S1024x2048 .bf16)
    (x4 x5 x6 : Vec Ideal S1024x1024 .bf16) (x7 x8 : Vec Ideal S1x1024 .f32) (p : Fin 512) (n : Fin 1024) :
    normed x0 x1 x2 x3 x4 x5 x6 x7 x8 (ix2 p n)
      = norm (fun k => Ideal.ofBits .f32 0x3F9837F0#32 * x2 (ix2 p k) + ∑ j, Mg.mixed x0 x1 x2 x3 x4 x5 (ix2 p j) * x6 (ix2 j k))
          (fun k => x7 (ix2 0 k)) (fun k => x8 (ix2 0 k)) n := by
  unfold normed
  rw [normed_at]
  have e2 : ∀ k, carried x2 (ix2 p k) = x2 (ix2 p k) := carried_at x2 p
  have e6 : ∀ j k, View.ld x6 rSq (ix2 j k) = x6 (ix2 j k) := ld_sq x6
  have e7 : ∀ k, View.ld x7 rRow (ix2 0 k) = x7 (ix2 0 k) := ld_row x7
  have e8 : ∀ k, View.ld x8 rRow (ix2 0 k) = x8 (ix2 0 k) := ld_row x8
  rw [show (fun k => View.ld x7 rRow (ix2 0 k)) = fun k => x7 (ix2 0 k) from funext e7,
    show (fun k => View.ld x8 rRow (ix2 0 k)) = fun k => x8 (ix2 0 k) from funext e8]
  exact congrArg (fun v => norm v _ _ n) (funext fun k => congrArg₂ (· + ·) (congrArg _ (e2 k))
    (Finset.sum_congr rfl fun j _ => congrArg _ (e6 j k)))

variable (m : (ℓ : Loc nD τ sig) → Buf (Elt Ideal) ℓ) (c : Dev nD) (t : Fin cfg0.N)

/-- The windows' index maps. -/
theorem idx : ∀ t : Fin cfg0.N,
    win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![(grid0.coords t 0).val, 0] ∧ (grid0.coords t 0).val < 64 :=
  (by decide +kernel : ∀ t : Fin grid0.N, _)

/-- The arguments. -/
abbrev aH : Branch := m ((c : Thread nD τ).loc main_arg0)
abbrev aS : Branch := m ((c : Thread nD τ).loc main_arg1)
abbrev aX : Tokens := m ((c : Thread nD τ).loc main_arg2)
abbrev aW : InWeights := m ((c : Thread nD τ).loc main_arg3)
abbrev aWH : Square := m ((c : Thread nD τ).loc main_arg4)
abbrev aWS : Square := m ((c : Thread nD τ).loc main_arg5)
abbrev aWO : Square := m ((c : Thread nD τ).loc main_arg6)
abbrev aG : Affine := m ((c : Thread nD τ).loc main_arg7)
abbrev aB : Affine := m ((c : Thread nD τ).loc main_arg8)

/-- The arrays the region is entered with, at an index. -/
theorem tokens_at (p : Fin 32768) (q : Fin 1024) : (V m c main_v0 : FVec Ideal S32768x1024 .f32) (ix2 p q) = tok (aX m c) p.val q := by
  unfold V tok aX
  entry_read
  pointwise
  exact congrArg _ (by congr 1 <;> exact Fin.ext (by simp only [Fin.ofNat]; omega))
theorem gates_at (p : Fin 1024) (q : Fin 2048) : (V m c main_v3 : FVec Ideal S1024x2048 .bf16) (ix2 p q) = aW m c (ix3 0 p (Fin.ofNat 9216 (7168 + q.val))) := by
  unfold V aW
  entry_read
  pointwise
  exact congrArg _ (by congr 1; exact Fin.ext (by simp only [Fin.ofNat]; omega))
theorem wh_at (p q : Fin 1024) : (V m c main_v5 : FVec Ideal S1024x1024 .bf16) (ix2 p q) = aWH m c (ix3 0 p q) := by
  unfold V aWH
  entry_read
  pointwise
theorem ws_at (p q : Fin 1024) : (V m c main_v7 : FVec Ideal S1024x1024 .bf16) (ix2 p q) = aWS m c (ix3 0 p q) := by
  unfold V aWS
  entry_read
  pointwise
theorem wo_at (p q : Fin 1024) : (V m c main_v9 : FVec Ideal S1024x1024 .bf16) (ix2 p q) = aWO m c (ix3 0 p q) := by
  unfold V aWO
  entry_read
  pointwise
theorem g_at (q : Fin 1024) : (V m c main_v11 : FVec Ideal S1x1024 .f32) (ix2 0 q) = aG m c (ix2 0 q) := by
  unfold V aG
  entry_read
  pointwise
theorem b_at (q : Fin 1024) : (V m c main_v13 : FVec Ideal S1x1024 .f32) (ix2 0 q) = aB m c (ix2 0 q) := by
  unfold V aB
  entry_read
  pointwise

/-- The blocks a point is handed, at an index; `R` is the row of the whole array. -/
theorem h_blk (p : Fin 512) (k : Fin 1024) (R : ℕ) (hR : R = 512 * (grid0.coords t 0).val + p.val) :
    (iblk m c 0 t : Vec Ideal S512x1024 .bf16) (ix2 p k) = aH m c (ix2 (Fin.ofNat 32768 R) k) := by
  obtain ⟨e0, -, -, -, -, -, -, -, -, -, h0⟩ := idx t
  subst hR
  have hp := p.isLt
  unfold iblk
  blk_simp
  rw [show (win0_0.blk t).view.emb (ix2 p k) = ix2 ⟨512 * (grid0.coords t 0).val + p.val, by omega⟩ k by blk_ext [e0]]
  refine (congrFun (V_main_arg0 m c) _).trans (congrArg _ ?_)
  congr 1
  exact Fin.ext (by simp only [Fin.ofNat]; omega)
theorem s_blk (p : Fin 512) (k : Fin 1024) (R : ℕ) (hR : R = 512 * (grid0.coords t 0).val + p.val) :
    (iblk m c 1 t : Vec Ideal S512x1024 .bf16) (ix2 p k) = aS m c (ix2 (Fin.ofNat 32768 R) k) := by
  obtain ⟨-, e0, -, -, -, -, -, -, -, -, h0⟩ := idx t
  subst hR
  have hp := p.isLt
  unfold iblk
  blk_simp
  rw [show (win0_1.blk t).view.emb (ix2 p k) = ix2 ⟨512 * (grid0.coords t 0).val + p.val, by omega⟩ k by blk_ext [e0]]
  refine (congrFun (V_main_arg1 m c) _).trans (congrArg _ ?_)
  congr 1
  exact Fin.ext (by simp only [Fin.ofNat]; omega)
theorem x_blk (p : Fin 512) (k : Fin 1024) (R : ℕ) (hR : R = 512 * (grid0.coords t 0).val + p.val) :
    (iblk m c 2 t : Vec Ideal S512x1024 .f32) (ix2 p k) = tok (aX m c) R k := by
  obtain ⟨-, -, e0, -, -, -, -, -, -, -, h0⟩ := idx t
  subst hR
  have hp := p.isLt
  unfold iblk
  blk_simp
  rw [show (win0_2.blk t).view.emb (ix2 p k) = ix2 ⟨512 * (grid0.coords t 0).val + p.val, by omega⟩ k by blk_ext [e0]]
  exact tokens_at m c _ k
theorem w_blk (k : Fin 1024) (n : Fin 2048) :
    (iblk m c 3 t : Vec Ideal S1024x2048 .bf16) (ix2 k n) = aW m c (ix3 0 k (Fin.ofNat 9216 (7168 + n.val))) := by
  obtain ⟨-, -, -, e0, -⟩ := idx t
  unfold iblk
  blk_simp
  rw [show (win0_3.blk t).view.emb (ix2 k n) = ix2 k n by blk_ext [e0]]
  exact gates_at m c k n
theorem wh_blk (k n : Fin 1024) : (iblk m c 4 t : Vec Ideal S1024x1024 .bf16) (ix2 k n) = aWH m c (ix3 0 k n) := by
  obtain ⟨-, -, -, -, e0, -⟩ := idx t
  unfold iblk
  blk_simp
  rw [show (win0_4.blk t).view.emb (ix2 k n) = ix2 k n by blk_ext [e0]]
  exact wh_at m c k n
theorem ws_blk (k n : Fin 1024) : (iblk m c 5 t : Vec Ideal S1024x1024 .bf16) (ix2 k n) = aWS m c (ix3 0 k n) := by
  obtain ⟨-, -, -, -, -, e0, -⟩ := idx t
  unfold iblk
  blk_simp
  rw [show (win0_5.blk t).view.emb (ix2 k n) = ix2 k n by blk_ext [e0]]
  exact ws_at m c k n
theorem wo_blk (k n : Fin 1024) : (iblk m c 6 t : Vec Ideal S1024x1024 .bf16) (ix2 k n) = aWO m c (ix3 0 k n) := by
  obtain ⟨-, -, -, -, -, -, e0, -⟩ := idx t
  unfold iblk
  blk_simp
  rw [show (win0_6.blk t).view.emb (ix2 k n) = ix2 k n by blk_ext [e0]]
  exact wo_at m c k n
theorem g_blk (n : Fin 1024) : (iblk m c 7 t : Vec Ideal S1x1024 .f32) (ix2 0 n) = aG m c (ix2 0 n) := by
  obtain ⟨-, -, -, -, -, -, -, e0, -⟩ := idx t
  unfold iblk
  blk_simp
  rw [show (win0_7.blk t).view.emb (ix2 0 n) = ix2 0 n by blk_ext [e0]]
  exact g_at m c n
theorem b_blk (n : Fin 1024) : (iblk m c 8 t : Vec Ideal S1x1024 .f32) (ix2 0 n) = aB m c (ix2 0 n) := by
  obtain ⟨-, -, -, -, -, -, -, -, e0, -⟩ := idx t
  unfold iblk
  blk_simp
  rw [show (win0_8.blk t).view.emb (ix2 0 n) = ix2 0 n by blk_ext [e0]]
  exact b_at m c n

/-- The gated sum a point makes is that of its rows. -/
theorem mixed_blk (p : Fin 512) (n : Fin 1024) (R : ℕ) (hR : R = 512 * (grid0.coords t 0).val + p.val) :
    Mg.mixed (iblk m c 0 t) (iblk m c 1 t) (iblk m c 2 t) (iblk m c 3 t) (iblk m c 4 t) (iblk m c 5 t) (ix2 p n)
      = mixed (aH m c) (aS m c) (aX m c) (aW m c) (aWH m c) (aWS m c) R n := by
  refine (mixed_at _ _ _ _ _ _ _ p n).trans ?_
  unfold mixed logit branch
  have hn := n.isLt
  refine congrArg₂ (· + ·) (congrArg₂ (· * ·) (congrArg gate ?_) ?_) (congrArg₂ (· * ·) (congrArg gate ?_) ?_) <;>
    refine Finset.sum_congr rfl fun k _ => congrArg₂ (· * ·) ?_ ?_
  · exact (ld_rows _ p k).trans (x_blk m c t p k R hR)
  · exact (ld_lo _ k n).trans ((w_blk m c t k _).trans (congrArg (fun j => aW m c (ix3 0 k (Fin.ofNat 9216 j))) (by simp only [Fin.ofNat]; omega)))
  · exact (ld_rows _ p k).trans (h_blk m c t p k R hR)
  · exact (ld_sq _ k n).trans (wh_blk m c t k n)
  · exact (ld_rows _ p k).trans (x_blk m c t p k R hR)
  · exact (ld_hi _ k n).trans ((w_blk m c t k _).trans (congrArg (fun j => aW m c (ix3 0 k (Fin.ofNat 9216 j))) (by simp only [Fin.ofNat]; omega)))
  · exact (ld_rows _ p k).trans (s_blk m c t p k R hR)
  · exact (ld_sq _ k n).trans (ws_blk m c t k n)

/-- The normed rows a point makes are those of its rows. -/
theorem normed_blk (p : Fin 512) (n : Fin 1024) (R : ℕ) (hR : R = 512 * (grid0.coords t 0).val + p.val) :
    normed (iblk m c 0 t) (iblk m c 1 t) (iblk m c 2 t) (iblk m c 3 t) (iblk m c 4 t) (iblk m c 5 t) (iblk m c 6 t) (iblk m c 7 t) (iblk m c 8 t) (ix2 p n)
      = norm (residual (aH m c) (aS m c) (aX m c) (aW m c) (aWH m c) (aWS m c) (aWO m c) R) (fun k => aG m c (ix2 0 k)) (fun k => aB m c (ix2 0 k)) n := by
  rw [normed_rows]
  have e1 : ∀ k, Ideal.ofBits .f32 0x3F9837F0#32 * (iblk m c 2 t : Vec Ideal S512x1024 .f32) (ix2 p k)
      + ∑ j, Mg.mixed (iblk m c 0 t) (iblk m c 1 t) (iblk m c 2 t) (iblk m c 3 t) (iblk m c 4 t) (iblk m c 5 t) (ix2 p j)
          * (iblk m c 6 t : Vec Ideal S1024x1024 .bf16) (ix2 j k)
      = residual (aH m c) (aS m c) (aX m c) (aW m c) (aWH m c) (aWS m c) (aWO m c) R k := fun k => by
    unfold residual
    rw [x_blk m c t p k R hR]
    exact congrArg (_ + ·) (Finset.sum_congr rfl fun j _ => congrArg₂ (· * ·) (mixed_blk m c t p j R hR) (wo_blk m c t j k))
  rw [funext e1, show (fun k => (iblk m c 7 t : Vec Ideal S1x1024 .f32) (ix2 0 k)) = fun k => aG m c (ix2 0 k) from funext (g_blk m c t),
    show (fun k => (iblk m c 8 t : Vec Ideal S1x1024 .f32) (ix2 0 k)) = fun k => aB m c (ix2 0 k) from funext (b_blk m c t)]

/-- What a point writes is its block of the merged rows. -/
theorem point (y : S512x1024.Idx) :
    rowsOut (iblk m c 0 t) (iblk m c 1 t) (iblk m c 2 t) (iblk m c 3 t) (iblk m c 4 t) (iblk m c 5 t) (iblk m c 6 t) (iblk m c 7 t) (iblk m c 8 t) y
    = rows (aH m c) (aS m c) (aX m c) (aW m c) (aWH m c) (aWS m c) (aWO m c) (aG m c) (aB m c) ((win0_9.blk t).view.emb y) := by
  obtain ⟨-, -, -, -, -, -, -, -, -, e0, h0⟩ := idx t
  have hy : (y 0).val < 512 := (y 0).isLt
  have hy1 : (y 1).val < 1024 := (y 1).isLt
  have e : (win0_9.blk t).view.emb y = ix2 ⟨512 * (grid0.coords t 0).val + (y 0).val, by omega⟩ ⟨(y 1).val, hy1⟩ := by blk_ext [e0]
  have ey : y = ix2 ⟨(y 0).val, hy⟩ ⟨(y 1).val, hy1⟩ := by funext a; match a with | 0 => rfl | 1 => rfl
  rw [e]
  refine (congrFun (rowsOut_eq _ _ _ _ _ _ _ _ _) y).trans ?_
  refine (congrArg _ ey).trans ?_
  exact normed_blk m c t _ _ _ rfl

/-- The result array after the run. -/
theorem final : (dats m 0 c).arrAt 9 cfg0.N
    = rows (aH m c) (aS m c) (aX m c) (aW m c) (aWH m c) (aWS m c) (aWO m c) (aG m c) (aB m c) := by
  refine (dats m 0 c).arrAt_eq_of_covers 9 _ (by decide +kernel) fun t _ y => ?_
  blk_simp
  rw [after_9]
  exact point m c t y

end Kernel

section Reference
open Cert.Reference3Ideal Cert.Reference3Ideal.Gen

/-- The reference's gated sum. -/
def refMix (H S : Branch) (X : Tokens) (W : InWeights) (WH WS : Square) : FVec Ideal S8x4096x1024 .f32 :=
  addf (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 0] (extractStridedSlice S8x4096x2048 ![0, 0, 7168] (Host.dotGeneral dot_S8x4096x1024_S1024x9216_S8x4096x9216_2_0_01_1_n_n none X (shapeCast _ W shapeCasts_S1x1024x9216_S1024x9216)) slices_S8x4096x9216_S8x4096x2048_0_0_7168) slices_S8x4096x2048_S8x4096x1024_0_0_0))))) (Host.dotGeneral dot_S8x4096x1024_S1024x1024_S8x4096x1024_2_0_01_1_n_n none (shapeCast _ (extf .f32 H bitsLt_bf16_f32) shapeCasts_S32768x1024_S8x4096x1024) (shapeCast _ WH shapeCasts_S1x1024x1024_S1024x1024))) (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 1024] (extractStridedSlice S8x4096x2048 ![0, 0, 7168] (Host.dotGeneral dot_S8x4096x1024_S1024x9216_S8x4096x9216_2_0_01_1_n_n none X (shapeCast _ W shapeCasts_S1x1024x9216_S1024x9216)) slices_S8x4096x9216_S8x4096x2048_0_0_7168) slices_S8x4096x2048_S8x4096x1024_0_0_1024))))) (Host.dotGeneral dot_S8x4096x1024_S1024x1024_S8x4096x1024_2_0_01_1_n_n none (shapeCast _ (extf .f32 S bitsLt_bf16_f32) shapeCasts_S32768x1024_S8x4096x1024) (shapeCast _ WS shapeCasts_S1x1024x1024_S1024x1024)))

/-- The reference's sum before the norm, over its gated sum `M`. -/
def refSum (M : FVec Ideal S8x4096x1024 .f32) (X : Tokens) (WO : Square) : FVec Ideal S8x4096x1024 .f32 :=
  addf (mulf (broadcastInDim S8x4096x1024 ![] bcast_S_S8x4096x1024 (constant S_ .f32 0x3F9837F0#32)) X) (Host.dotGeneral dot_S8x4096x1024_S1024x1024_S8x4096x1024_2_0_01_1_n_n none M (shapeCast _ WO shapeCasts_S1x1024x1024_S1024x1024))

/-- The reference's mean over the last axis. -/
def refMean (v : FVec Ideal S8x4096x1024 .f32) : FVec Ideal S8x4096x1 .f32 :=
  Host.divf (broadcastInDim S8x4096x1 ![0, 1] bcast_S8x4096_S8x4096x1_0_1 (Host.reduceAdd v (constant S_ .f32 0x00000000#32) reducesTo_S8x4096x1024_S8x4096_d2 h_S_)) (broadcastInDim S8x4096x1 ![] bcast_S_S8x4096x1 (constant S_ .f32 0x44800000#32))

/-- The reference's deviation from that mean. -/
def refDev (v : FVec Ideal S8x4096x1024 .f32) : FVec Ideal S8x4096x1024 .f32 :=
  subf v (broadcastInDim S8x4096x1024 ![0, 1, 2] bcast_S8x4096x1_S8x4096x1024_0_1_2 (refMean v))

/-- The reference's layer norm. -/
def refNorm (v : FVec Ideal S8x4096x1024 .f32) (G B : Affine) : FVec Ideal S32768x1024 .f32 :=
  shapeCast _ (addf (mulf (mulf (refDev v) (broadcastInDim S8x4096x1024 ![0, 1, 2] bcast_S8x4096x1_S8x4096x1024_0_1_2 (Host.rsqrt (addf (refMean (mulf (refDev v) (refDev v))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (shapeCast _ G shapeCasts_S1x1024_S1024)))) (broadcastInDim S8x4096x1024 ![0, 1, 2] bcast_S1x1x1024_S8x4096x1024_0_1_2 (broadcastInDim S1x1x1024 ![2] bcast_S1024_S1x1x1024_2 (shapeCast _ B shapeCasts_S1x1024_S1024)))) shapeCasts_S8x4096x1024_S32768x1024

/-- The parts at an index; `R` is the row of token `t` of batch `b`. -/
theorem refMix_at (H S : Branch) (X : Tokens) (W : InWeights) (WH WS : Square) (b : Fin 8) (t : Fin 4096) (n : Fin 1024)
    (R : ℕ) (hR : R = 4096 * b.val + t.val) : refMix H S X W WH WS (ix3 b t n) = mixed H S X W WH WS R n := by
  subst hR
  have hb := b.isLt
  have ht := t.isLt
  have hn := n.isLt
  unfold refMix
  pointwise [mixed, logit, branch, gate, tok]
  refine congrArg₂ (· + ·) (congrArg₂ (· * ·) (congrArg (fun z => Ideal.div 1 (1 + Ideal.exp (-z))) ?_) ?_)
      (congrArg₂ (· * ·) (congrArg (fun z => Ideal.div 1 (1 + Ideal.exp (-z))) ?_) ?_) <;>
    refine Finset.sum_congr rfl fun k _ => congrArg₂ (· * ·) (congrArg _ ?_) ?_ <;>
    first
      | rfl
      | (congr 1 <;> exact Fin.ext (by simp only [Fin.ofNat]; omega))
      | exact congrArg W (by congr 1; exact Fin.ext (by simp only [Fin.ofNat]; omega))

theorem refSum_at (M : FVec Ideal S8x4096x1024 .f32) (X : Tokens) (WO : Square) (b : Fin 8) (t : Fin 4096) (n : Fin 1024) :
    refSum M X WO (ix3 b t n) = Ideal.ofBits .f32 0x3F9837F0#32 * X (ix3 b t n) + ∑ k : Fin 1024, M (ix3 b t k) * WO (ix3 0 k n) := by
  pointwise [refSum]

theorem refMean_at (v : FVec Ideal S8x4096x1024 .f32) (b : Fin 8) (t : Fin 4096) :
    refMean v (ix3 b t 0) = mean fun k => v (ix3 b t k) := by
  pointwise [refMean, mean]

theorem refDev_at (v : FVec Ideal S8x4096x1024 .f32) (b : Fin 8) (t : Fin 4096) (n : Fin 1024) :
    refDev v (ix3 b t n) = v (ix3 b t n) - mean fun k => v (ix3 b t k) := by
  pointwise [refDev]
  rw [refMean_at]

theorem refNorm_at (v : FVec Ideal S8x4096x1024 .f32) (G B : Affine) (R : Fin 32768) (n : Fin 1024) :
    refNorm v G B (ix2 R n) = norm (fun k => v (ix3 (Fin.ofNat 8 (R.val / 4096)) (Fin.ofNat 4096 (R.val % 4096)) k)) (fun k => G (ix2 0 k)) (fun k => B (ix2 0 k)) n := by
  unfold refNorm
  pointwise
  rw [refMean_at, refDev_at]
  have e : (fun k => mulf (refDev v) (refDev v) (ix3 (⟨R.val / 4096, by omega⟩ : Fin 8) (⟨R.val % 4096, by omega⟩ : Fin 4096) k))
      = fun k => (v (ix3 ⟨R.val / 4096, by omega⟩ ⟨R.val % 4096, by omega⟩ k) - mean fun k => v (ix3 ⟨R.val / 4096, by omega⟩ ⟨R.val % 4096, by omega⟩ k))
          * (v (ix3 ⟨R.val / 4096, by omega⟩ ⟨R.val % 4096, by omega⟩ k) - mean fun k => v (ix3 ⟨R.val / 4096, by omega⟩ ⟨R.val % 4096, by omega⟩ k)) := by
    funext k
    pointwise
    rw [refDev_at]
  rw [e]
  have e8 : Fin.ofNat 8 (R.val / 4096) = ⟨R.val / 4096, by omega⟩ := Fin.ext (by simp only [Fin.ofNat]; omega)
  have e4 : Fin.ofNat 4096 (R.val % 4096) = ⟨R.val % 4096, by omega⟩ := Fin.ext (by simp only [Fin.ofNat]; omega)
  rw [e8, e4]
  rfl

set_option maxHeartbeats 1000000 in
/-- The reference's composed term is the merged and normed rows. -/
theorem ref_eq (H S : Branch) (X : Tokens) (W : InWeights) (WH WS WO : Square) (G B : Affine) :
    refNorm (refSum (refMix H S X W WH WS) X WO) G B = rows H S X W WH WS WO G B := by
  funext i
  obtain ⟨R, n, rfl⟩ : ∃ (R : Fin 32768) (n : Fin 1024), i = ix2 R n := ⟨i 0, i 1, by funext a; match a with | 0 => rfl | 1 => rfl⟩
  refine (refNorm_at _ G B R n).trans ?_
  refine congrArg (fun v => norm v (fun k => G (ix2 0 k)) (fun k => B (ix2 0 k)) n) (funext fun k => ?_)
  have hR := R.isLt
  rw [refSum_at]
  unfold residual tok
  refine congrArg (_ + ·) (Finset.sum_congr rfl fun j _ => congrArg (· * _) ?_)
  exact refMix_at H S X W WH WS _ _ j R.val (by simp only [Fin.ofNat]; omega)

set_option maxHeartbeats 4000000 in
/-- The reference's result is that term of its arguments. -/
theorem ref_res (m : (ℓ : Loc nD τ sig) → Buf (Elt Ideal) ℓ) (c : Dev nD) :
    Cert.Reference3Ideal.Value.res_main_v59 m c
      = rows (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  rw [← ref_eq]
  rfl

end Reference

end Cert.Merge

end
-- ==== Proof.Hg.Spec.lean ====
/-
  The gated recurrence: the four projections of a token, its forget gate, the running sums of the gate's logarithm within
  a chunk of 32 tokens, the state carried from chunk to chunk, and the token's result, normed and gated.
-/
module

public import proofs.«01_k».proof.Proof.Gen.Kernel4Ideal
public import proofs.«01_k».proof.Proof.Gen.Reference4Ideal
public import Idealize.ShloMosaic.Lib.Pipeline.ValueKit
public import Idealize.ShloMosaic.Lib.Claim
public import Idealize.ShloMosaic.Lib.IdealHost

@[expose] public section

set_option maxRecDepth 16384

noncomputable section

namespace Cert.Hgrn

open Idealize.ShloMosaic Idealize.ShloMosaic.TcCoe

/-- The arrays the recurrence reads and the one it makes. -/
abbrev Tokens := FVec Ideal ⟨3, ![8, 4096, 1024]⟩ .f32
abbrev InWeights := FVec Ideal ⟨3, ![1, 1024, 9216]⟩ .f32
abbrev Bounds := FVec Ideal ⟨2, ![2, 1024]⟩ .f32
abbrev Affine := FVec Ideal ⟨2, ![1, 1024]⟩ .f32
abbrev Rows := FVec Ideal ⟨2, ![32768, 1024]⟩ .bf16

/-- The logistic function. -/
def sgm (z : EReal) : EReal := Ideal.div 1 (1 + Ideal.exp (-z))

/-- The word of one. -/
theorem one_word : Ideal.ofBits .f32 0x3F800000#32 = 1 := Ideal.ofBits_one_f32
/-- The word of zero. -/
theorem zero_word : Ideal.ofBits .f32 0x00000000#32 = 0 := by
  simp only [Ideal.ofBits, Ideal.ieee]
  norm_num

section Chunks

/-! The recurrence over the projections of one batch, each a function of the token and the feature; a head is 128 features. -/

variable (Q LF K V HG : ℕ → ℕ → EReal) (G : ℕ → EReal)

/-- The sum of the gate's logarithms from the chunk's first token to this one. -/
def cum (T n : ℕ) : EReal := ∑ s : Fin 32, if s.val ≤ T % 32 then LF (32 * (T / 32) + s.val) n else 0

/-- Their sum over the chunk `c`. -/
def tot (c n : ℕ) : EReal := ∑ s : Fin 32, LF (32 * c + s.val) n

/-- The query against the state that enters the chunk. -/
def qs (T n : ℕ) : EReal := Q T n * Ideal.exp (cum LF T n)
/-- The query against the keys of its own chunk. -/
def qe (T n : ℕ) : EReal := Q T n * Ideal.exp (cum LF T n - tot LF (T / 32) n)
/-- The key, decayed to the chunk's end. -/
def ke (T n : ℕ) : EReal := K T n * Ideal.exp (tot LF (T / 32) n - cum LF T n)

/-- The state of head `h` that enters chunk `c`, at value feature `v` and key feature `d`. -/
def state (h : ℕ) : ℕ → ℕ → ℕ → EReal
  | 0, _, _ => 0
  | c + 1, v, d => Ideal.exp (tot LF c (128 * h + d)) * state h c v d
      + ∑ s : Fin 32, V (32 * c + s.val) (128 * h + v) * ke LF K (32 * c + s.val) (128 * h + d)

/-- What the token's own chunk gives. -/
def intra (T h e : ℕ) : EReal :=
  ∑ s : Fin 32, (if s.val ≤ T % 32 then ∑ d : Fin 128, qe Q LF T (128 * h + d.val) * ke LF K (32 * (T / 32) + s.val) (128 * h + d.val)
    else 0) * V (32 * (T / 32) + s.val) (128 * h + e)

/-- What the state gives. -/
def inter (T h e : ℕ) : EReal := ∑ d : Fin 128, qs Q LF T (128 * h + d.val) * state LF K V h (T / 32) e d.val

/-- The read value. -/
def read (T h e : ℕ) : EReal := intra Q LF K V T h e + inter Q LF K V T h e

/-- A head's vector scaled by the inverse root of its mean square. -/
def rms (o : ℕ → EReal) (e : ℕ) : EReal :=
  o e * Ideal.rsqrt (Ideal.div (∑ k : Fin 128, o k.val * o k.val) (Ideal.ofBits .f32 0x43000000#32) + Ideal.ofBits .f32 0x358637BD#32)

/-- The token's result at feature `e` of head `h`. -/
def result (T h e : ℕ) : EReal :=
  rms (read Q LF K V T h) e * G (128 * h + e) * (HG T (128 * h + e) * sgm (HG T (128 * h + e)))

end Chunks

section Arrays

variable (X : Tokens) (W : InWeights) (L : Bounds) (G : Affine)

/-- Column `n` of the projection of token `T` of batch `b`. -/
def proj (b T n : ℕ) : EReal := ∑ k : Fin 1024, X (ix3 (Fin.ofNat 8 b) (Fin.ofNat 4096 T) k) * W (ix3 0 k (Fin.ofNat 9216 n))

section Host
open Cert.Reference4Ideal Cert.Reference4Ideal.Gen

/-- The exponentials of the bounds less their maximum. -/
def expo : FVec Ideal S2x1024 .f32 :=
  Host.exp (subf L (broadcastInDim S2x1024 ![0, 1] bcast_S1x1024_S2x1024_0_1 (broadcastInDim S1x1024 ![1] bcast_S1024_S1x1024_1
    (maximumf (broadcastInDim S1024 ![] bcast_S_S1024 (constant S_ .f32 0xFF800000#32))
      (Host.reduce FloatOps.maximumf L (constant S_ .f32 0xFF800000#32) reducesTo_S2x1024_S1024_d0 h_S_)))))

/-- Their softmax over the layers. -/
def soft (E : FVec Ideal S2x1024 .f32) : FVec Ideal S2x1024 .f32 :=
  Host.divf E (broadcastInDim S2x1024 ![0, 1] bcast_S1x1024_S2x1024_0_1 (broadcastInDim S1x1024 ![1] bcast_S1024_S1x1024_1
    (Host.reduceAdd E (constant S_ .f32 0x00000000#32) reducesTo_S2x1024_S1024_d0 h_S_)))

/-- The first row of the running sums of the softmax: the gate's lower bounds. -/
def bounds (P : FVec Ideal S2x1024 .f32) : FVec Ideal S1024 .f32 :=
  shapeCast S1024 (extractStridedSlice S1x1024 ![0, 0] (Host.reduceWindowAdd ![2, 1] ![1, 1] ![1, 0] ![0, 0] P
    (broadcastInDim S_ ![] bcast_S_S_ (constant S_ .f32 0x00000000#32)) reduceWindows_S2x1024_S2x1024_w2s1p1_0_w1s1p0_0 h_S_)
    slices_S2x1024_S1x1024_0_0) shapeCasts_S1x1024_S1024

end Host

/-- The gate's lower bound at feature `n`. -/
def low (n : ℕ) : EReal := bounds (soft (expo L)) (ix1 (Fin.ofNat 1024 n))

/-- The forget gate's logarithm. -/
def lf (b T n : ℕ) : EReal := Ideal.log (low L n + (1 - low L n) * sgm (proj X W b T (1024 + n)))

/-- The input gate. -/
def kin (b T n : ℕ) : EReal := (1 - low L n) * sgm (-proj X W b T (1024 + n))

/-- The result at feature `n` of token `T` of batch `b`. -/
def out (b T n : ℕ) : EReal :=
  result (proj X W b) (lf X W L b) (kin X W L b) (fun T n => proj X W b T (2048 + n)) (fun T n => proj X W b T (3072 + n))
    (fun n => G (ix2 0 (Fin.ofNat 1024 n))) T (n / 128) (n % 128)

/-- The rows of the result: row `R` is token `R % 4096` of batch `R / 4096`. -/
def rows : Rows := fun i => out X W L G ((i 0).val / 4096) ((i 0).val % 4096) (i 1).val

/-! The gate's logarithm is a real number or the bottom element. -/

theorem exp_nonneg (x : EReal) : 0 ≤ Ideal.exp x := by
  induction x using EReal.rec with
  | bot => exact le_refl _
  | top => exact le_top
  | coe r => exact EReal.coe_nonneg.mpr (Real.exp_pos r).le

/-- A nonnegative share of a sum it is part of is at most one, or the bottom element. -/
theorem share {a y : EReal} (ha : 0 ≤ a) (hy : a ≤ y) : Ideal.div a y = ⊥ ∨ ∃ r : ℝ, 0 ≤ r ∧ r ≤ 1 ∧ Ideal.div a y = (r : EReal) := by
  unfold Ideal.div
  by_cases h0 : y = 0
  · have : ¬ 0 < a := not_lt.mpr (h0 ▸ hy)
    rw [if_pos h0, if_neg this]
    exact Or.inl rfl
  · rw [if_neg h0]
    right
    induction y using EReal.rec with
    | bot => exact absurd (ha.trans hy) (by simp)
    | top => exact ⟨0, le_refl _, zero_le_one, by rw [EReal.inv_top, mul_zero]; rfl⟩
    | coe y =>
      induction a using EReal.rec with
      | bot => exact absurd ha (by simp)
      | top => exact absurd hy (by simp)
      | coe a =>
        have ha' : 0 ≤ a := EReal.coe_nonneg.mp ha
        have hy' : a ≤ y := EReal.coe_le_coe_iff.mp hy
        have hne : y ≠ 0 := fun h => h0 (by rw [h]; rfl)
        have hp : 0 < y := lt_of_le_of_ne (ha'.trans hy') (Ne.symm hne)
        exact ⟨a * y⁻¹, mul_nonneg ha' (inv_nonneg.mpr hp.le), by rw [← div_eq_mul_inv]; exact (div_le_one hp).mpr hy', by
          rw [EReal.coe_mul, EReal.coe_inv]⟩

theorem sgm_real (z : EReal) : ∃ r : ℝ, 0 ≤ r ∧ r ≤ 1 ∧ sgm z = (r : EReal) := by
  have h : (1 : EReal) ≤ 1 + Ideal.exp (-z) := le_add_of_nonneg_right (exp_nonneg _)
  rcases share zero_le_one h with hb | hr
  · unfold Ideal.div at hb
    have hp : (0 : EReal) < 1 + Ideal.exp (-z) := lt_of_lt_of_le zero_lt_one h
    rw [if_neg hp.ne', one_mul] at hb
    exact absurd hb (by
      have := EReal.inv_nonneg_of_nonneg hp.le
      intro hb
      rw [hb] at this
      exact absurd this (by simp))
  · exact hr

theorem foldl_add {ι : Type} (f : ι → EReal) : ∀ (l : List ι) (v : EReal),
    l.foldl (fun r n => r + f n) v = v + (l.map f).sum
  | [], v => by simp
  | a :: l, v => by rw [List.foldl_cons, foldl_add f l, List.map_cons, List.sum_cons, add_assoc]

/-- The window's positions, one a row. -/
def pair (n : Fin 2) : (⟨2, ![2, 1]⟩ : Shape).Idx := ix2 n 0

theorem pair_bij : Function.Bijective pair := by
  refine ⟨fun a b h => Fin.ext (congrArg (fun i : (⟨2, ![2, 1]⟩ : Shape).Idx => (i 0).val) h), fun i => ⟨i 0, funext fun a => Fin.ext ?_⟩⟩
  match a with
  | ⟨0, _⟩ => rfl
  | ⟨1, _⟩ => exact (Nat.lt_one_iff.mp (i 1).isLt).symm

open Cert.Reference4Ideal Cert.Reference4Ideal.Gen in
/-- The running sum over the rows, at the first row: its window holds that row and nothing else. -/
theorem window_at (x : S2x1024.Idx → EReal) (init : S_.Idx → EReal) (h) (hu) (h0 : init (Shape.Idx.first hu) = 0) (n : Fin 1024) :
    Host.reduceWindow (t := S2x1024) (fun a b : EReal => a + b) ![2, 1] ![1, 1] ![1, 0] ![0, 0] x init h hu (ix2 0 n) = x (ix2 0 n) := by
  unfold Host.reduceWindow
  simp only [h0]
  rw [foldl_add, zero_add, ← Fin.sum_univ_def]
  generalize hg : (fun w : (⟨2, ![2, 1]⟩ : Shape).Idx => (if hin : ∀ a : Fin 2, (![1, 0] : Fin 2 → ℕ) a ≤ ((ix2 0 n : S2x1024.Idx) (a.cast h.1.symm)).val * (![1, 1] : Fin 2 → ℕ) a + (w a).val
    ∧ ((ix2 0 n : S2x1024.Idx) (a.cast h.1.symm)).val * (![1, 1] : Fin 2 → ℕ) a + (w a).val - (![1, 0] : Fin 2 → ℕ) a < S2x1024.size a then
      x (fun a => ⟨_, (hin a).2⟩) else 0 : EReal)) = g
  have e : ∀ k : Fin 2, g (pair k) = if k.val = 1 then x (ix2 0 n) else 0 := by
    intro k
    rw [← hg]
    dsimp only
    split
    · next hin =>
      have h3 := (hin 0).1
      change 1 ≤ 0 * 1 + k.val at h3
      have hk : k.val = 1 := by omega
      rw [if_pos hk]
      refine congrArg x (funext fun a => Fin.ext ?_)
      match a with
      | ⟨0, _⟩ => show 0 * 1 + k.val - 1 = 0; omega
      | ⟨1, _⟩ => show n.val * 1 + 0 - 0 = n.val; omega
    · next hin =>
      rw [if_neg]
      intro hk
      refine hin fun a => ?_
      have := n.isLt
      match a with
      | ⟨0, _⟩ => show 1 ≤ 0 * 1 + k.val ∧ 0 * 1 + k.val - 1 < 2; omega
      | ⟨1, _⟩ => show 0 ≤ n.val * 1 + 0 ∧ n.val * 1 + 0 - 0 < 1024; omega
  refine (Finset.sum_congr rfl fun n _ => ?_).trans
    ((Equiv.sum_comp (⟨2, ![2, 1]⟩ : Shape).rowMajor.symm g).trans
      ((Fintype.sum_bijective pair pair_bij (fun n => g (pair n)) g fun _ => rfl).symm.trans
        ((Finset.sum_congr rfl fun n _ => e n).trans ?_)))
  · rw [← hg]
  · rw [Fin.sum_univ_two]
    simp

open Cert.Reference4Ideal Cert.Reference4Ideal.Gen in
theorem bounds_at (P : FVec Ideal S2x1024 .f32) (n : Fin 1024) : bounds P (ix1 n) = P (ix2 0 n) := by
  pointwise [bounds]
  unfold Host.reduceWindowAdd
  simp only [FloatOps.hostReduceWindowAdd, Ideal.hostReduceWindowAdd]
  exact window_at P (fun _ => Ideal.ofBits .f32 0x00000000#32) reduceWindows_S2x1024_S2x1024_w2s1p1_0_w1s1p0_0 h_S_ zero_word n

open Cert.Reference4Ideal Cert.Reference4Ideal.Gen in
theorem soft_at (E : FVec Ideal S2x1024 .f32) (n : Fin 1024) : soft E (ix2 0 n) = Ideal.div (E (ix2 0 n)) (E (ix2 0 n) + E (ix2 1 n)) := by
  pointwise [soft]
  rw [Fin.sum_univ_two]

theorem low_real (n : ℕ) : low L n = ⊥ ∨ ∃ r : ℝ, 0 ≤ r ∧ r ≤ 1 ∧ low L n = (r : EReal) := by
  unfold low
  rw [bounds_at, soft_at]
  exact share (exp_nonneg _) (le_add_of_nonneg_right (exp_nonneg _))

/-- The gate's logarithm is not the top element. -/
theorem lf_ne_top (b T n : ℕ) : lf X W L b T n ≠ ⊤ := by
  unfold lf
  obtain ⟨s, hs0, hs1, hs⟩ := sgm_real (proj X W b T (1024 + n))
  rw [hs]
  rcases low_real L n with h | ⟨r, hr0, hr1, h⟩
  · rw [h, EReal.bot_add]
    exact bot_ne_top
  · rw [h, ← EReal.coe_one, ← EReal.coe_sub, ← EReal.coe_mul, ← EReal.coe_add]
    show (if _ then _ else _ : EReal) ≠ ⊤
    split
    · exact bot_ne_top
    · exact EReal.coe_ne_top _

/-- A number and its leftover after itself is taken away are the number, below the top element. -/
theorem keep {a : EReal} (h : a ≠ ⊤) : a + (a - a) = a := by
  induction a using EReal.rec with
  | bot => rfl
  | top => exact absurd rfl h
  | coe r => rw [← EReal.coe_sub, ← EReal.coe_add, sub_self, add_zero]

end Arrays

end Cert.Hgrn

end
-- ==== Proof.Hg.Head.lean ====
/-
  One head of the kernel's grid point: 256 rows in eight chunks of 32, as the kernel writes it, over any arrays. The kernel
  writes it out eight times, once a head.
-/
module

public import proofs.«01_k».proof.Proof.Gen.Kernel4Ideal.Skeleton
public import Idealize.ShloMosaic.Lib.Pipeline.ValueKit
public import Idealize.ShloMosaic.Lib.Claim
public import proofs.«01_k».proof.Proof.Hg.Spec

@[expose] public section

set_option maxRecDepth 16384

noncomputable section

namespace Cert.Hgrn

open Idealize.ShloMosaic Idealize.ShloMosaic.TcCoe
open Cert.Kernel4Ideal Cert.Kernel4Ideal.Gen

abbrev Tile := FVec Ideal S256x128 .f32
abbrev Narrow := FVec Ideal S256x128 .bf16
abbrev Line := FVec Ideal S1x128 .f32
abbrev Square := FVec Ideal S128x128 .f32
abbrev Mask := FVec Ideal S256x256 .bf16

/-- The logistic function of a tile, as written. -/
def sgTile (x : Tile) : Tile :=
  divf (broadcast S256x128 (Scalar.ofBits .f32 0x3F800000#32)) (addf (broadcast S256x128 (Scalar.ofBits .f32 0x3F800000#32))
    (exp (subf (broadcast S256x128 (Scalar.ofBits .f32 0x00000000#32)) x)))

/-- One less the bounds, on every row. -/
def restTile (lb : Line) : Tile :=
  broadcastTo S256x128 (subf (broadcast S1x128 (Scalar.ofBits .f32 0x3F800000#32)) (shapeCast S1x128 lb shapeCasts_S1x128_S1x128))
    broadcasts_S1x128_S256x128

/-- The input gate. -/
def kinTile (f : Tile) (lb : Line) : Tile :=
  mulf (restTile lb) (sgTile (subf (broadcast S256x128 (Scalar.ofBits .f32 0x00000000#32)) f))

/-- The forget gate's logarithm. -/
def lfTile (f : Tile) (lb : Line) : Tile :=
  log (addf (broadcastTo S256x128 (shapeCast S1x128 lb shapeCasts_S1x128_S1x128) broadcasts_S1x128_S256x128) (mulf (restTile lb) (sgTile f)))

/-- A tile in two narrow parts, side by side. -/
def parts (x : Tile) : FVec Ideal S256x256 .bf16 :=
  concatenate S256x256 1 [⟨S256x128, truncf .bf16 x bitsLt_bf16_f32⟩,
    ⟨S256x128, truncf .bf16 (subf x (extf .f32 (truncf .bf16 x bitsLt_bf16_f32) bitsLt_bf16_f32)) bitsLt_bf16_f32⟩]
    concatenates_S256x128_S256x128_S256x256_d1

/-- A mask times the parts, the two halves of the product added. -/
def maskSum (mk : Mask) (x : Tile) : Tile :=
  addf (extractStridedSlice S256x128 ![0, 0] (matmul dot_S256x256_S256x256_S256x256_1_0_0_1_n_n none mk (parts x)
      (constant S256x256 .f32 0x00000000#32)) slices_S256x256_o0_0_S256x128)
    (extractStridedSlice S256x128 ![0, 128] (matmul dot_S256x256_S256x256_S256x256_1_0_0_1_n_n none mk (parts x)
      (constant S256x256 .f32 0x00000000#32)) slices_S256x256_o0_128_S256x128)

/-- The query against the entering state. -/
def qsTile (q b : Tile) : Narrow := truncf .bf16 (mulf q (exp b)) bitsLt_bf16_f32
/-- The keys decayed to the chunk's end. -/
def keTile (k b e : Tile) : Narrow := truncf .bf16 (mulf k (exp (subf e b))) bitsLt_bf16_f32

/-- What the chunk itself gives. -/
def intraTile (q b e : Tile) (ke v : Narrow) : Tile :=
  matmul dot_S256x256_S256x128_S256x128_1_0_0_1_n_n none
    (truncf .bf16 (select k0_pay3 (matmul dot_S256x128_S256x128_S256x256_1_1_0_0_n_n none
      (truncf .bf16 (mulf q (exp (subf b e))) bitsLt_bf16_f32) ke (constant S256x256 .f32 0x00000000#32))
      (broadcast S256x256 (Scalar.ofBits .f32 0x00000000#32))) bitsLt_bf16_f32) v (constant S256x128 .f32 0x00000000#32)

/-- What the entering state gives a chunk. -/
def interTile (n : ℕ) (h : S256x128.Slices ![n, 0] S32x128) (qs : Narrow) (st : Square) : FVec Ideal S32x128 .f32 :=
  matmul dot_S32x128_S128x128_S32x128_1_1_0_0_n_n none (extractStridedSlice S32x128 ![n, 0] qs h) (truncf .bf16 st bitsLt_bf16_f32)
    (constant S32x128 .f32 0x00000000#32)

/-- The state after a chunk. -/
def stepTile (n : ℕ) (h : S256x128.Slices ![n, 0] S32x128) (h1 : S256x128.Slices ![n, 0] S1x128) (ke v : Narrow) (dec : Tile)
    (st : Square) : Square :=
  addf (mulf (broadcastTo S128x128 (extractStridedSlice S1x128 ![n, 0] dec h1) broadcasts_S1x128_S128x128) st)
    (matmul dot_S32x128_S32x128_S128x128_0_0_1_1_n_n none (extractStridedSlice S32x128 ![n, 0] v h)
      (extractStridedSlice S32x128 ![n, 0] ke h) (constant S128x128 .f32 0x00000000#32))

theorem s32 (j : ℕ) (hj : j < 8) : S256x128.Slices ![32 * j, 0] S32x128 := by
  interval_cases j <;> decide
theorem s1 (j : ℕ) (hj : j < 8) : S256x128.Slices ![32 * j, 0] S1x128 := by
  interval_cases j <;> decide

/-- The state after `j` chunks. -/
def chain (ke v : Narrow) (dec : Tile) (st : Square) : (j : ℕ) → j ≤ 8 → Square
  | 0, _ => st
  | j + 1, hj => stepTile (32 * j) (s32 j hj) (s1 j hj) ke v dec (chain ke v dec st j (Nat.le_of_succ_le hj))

/-- The read values. -/
def readTile (intra : Tile) (qs ke v : Narrow) (dec : Tile) (st : Square) : Tile :=
  addf intra (concatenate S256x128 0 [⟨S32x128, interTile (32 * 0) (s32 0 (by decide)) qs (chain ke v dec st 0 (by decide))⟩,
    ⟨S32x128, interTile (32 * 1) (s32 1 (by decide)) qs (chain ke v dec st 1 (by decide))⟩,
    ⟨S32x128, interTile (32 * 2) (s32 2 (by decide)) qs (chain ke v dec st 2 (by decide))⟩,
    ⟨S32x128, interTile (32 * 3) (s32 3 (by decide)) qs (chain ke v dec st 3 (by decide))⟩,
    ⟨S32x128, interTile (32 * 4) (s32 4 (by decide)) qs (chain ke v dec st 4 (by decide))⟩,
    ⟨S32x128, interTile (32 * 5) (s32 5 (by decide)) qs (chain ke v dec st 5 (by decide))⟩,
    ⟨S32x128, interTile (32 * 6) (s32 6 (by decide)) qs (chain ke v dec st 6 (by decide))⟩,
    ⟨S32x128, interTile (32 * 7) (s32 7 (by decide)) qs (chain ke v dec st 7 (by decide))⟩]
    concatenates_S32x128_S32x128_S32x128_S32x128_S32x128_S32x128_S32x128_S32x128_S256x128_d0)

/-- The norm and the gate. -/
def normTile (o hg : Tile) (g : Line) : Narrow :=
  truncf .bf16 (mulf (mulf (mulf o (broadcastTo S256x128 (rsqrt (addf (divf (shapeCast S256x1 (multiReduction .add [1] S256 (mulf o o)
      0x00000000#32 reduces_S256x128_S256 (.inl rfl) rfl) shapeCasts_S256_S256x1) (broadcast S256x1 (Scalar.ofBits .f32 0x43000000#32)))
      (broadcast S256x1 (Scalar.ofBits .f32 0x358637BD#32)))) broadcasts_S256x1_S256x128))
    (broadcastTo S256x128 (shapeCast S1x128 g shapeCasts_S1x128_S1x128) broadcasts_S1x128_S256x128)) (mulf hg (sgTile hg))) bitsLt_bf16_f32

/-- The state a head leaves after its 256 rows. -/
def headState (f : Tile) (v : Narrow) (lb : Line) (st : FVec Ideal S1x128x128 .f32) : FVec Ideal S1x128x128 .f32 :=
  shapeCast S1x128x128 (chain (keTile (kinTile f lb) (maskSum k0_pay4 (lfTile f lb)) (maskSum k0_pay5 (lfTile f lb))) v
    (exp (maskSum k0_pay5 (lfTile f lb))) (shapeCast S128x128 st shapeCasts_S1x128x128_S128x128) 8 (le_refl _)) shapeCasts_S128x128_S1x128x128

/-- The rows a head makes. -/
def headRows (q f : Tile) (v : Narrow) (hg : Tile) (lb g : Line) (st : FVec Ideal S1x128x128 .f32) : Narrow :=
  normTile (readTile (intraTile q (maskSum k0_pay4 (lfTile f lb)) (maskSum k0_pay5 (lfTile f lb))
      (keTile (kinTile f lb) (maskSum k0_pay4 (lfTile f lb)) (maskSum k0_pay5 (lfTile f lb))) v)
    (qsTile q (maskSum k0_pay4 (lfTile f lb)))
    (keTile (kinTile f lb) (maskSum k0_pay4 (lfTile f lb)) (maskSum k0_pay5 (lfTile f lb))) v
    (exp (maskSum k0_pay5 (lfTile f lb))) (shapeCast S128x128 st shapeCasts_S1x128x128_S128x128)) hg g

end Cert.Hgrn

end
-- ==== Proof.Hg.Tile.lean ====
/-
  The kernel's grid point: its eight heads are one head over the columns of each, and its two outputs, the block of rows and
  the states, are the heads' side by side and stacked. At a batch's first point the states entering are zero; at a later one
  they are the ones the point before left.
-/
module

public import proofs.«01_k».proof.Proof.Gen.Kernel4Ideal.Frame
public import Idealize.ShloMosaic.PureOps.Ideal
public import Idealize.ShloMosaic.Lib.Pipeline.ReadBack
public import Idealize.ShloMosaic.Lib.Pipeline.Value
public import Idealize.ShloMosaic.Lib.Pipeline.ValueKit.Acc
public import Idealize.ShloMosaic.Lib.Pipeline.ValueKit.Tiles
public import proofs.«01_k».proof.Proof.Hg.Head

@[expose] public section

set_option maxRecDepth 65536
set_option maxHeartbeats 4000000

noncomputable section

namespace Cert.Hgrn

open Cert.Kernel4Ideal Cert.Kernel4Ideal.Gen
open Idealize.ShloMosaic Idealize.ShloMosaic.TcCoe

/-- A head's columns of a wide array. -/
theorem wide (h : Fin 8) : S256x1024.Slices ![0, 128 * h.val] S256x128 := by
  fin_cases h <;> decide
theorem inbLine (h : Fin 8) : ∀ a, (![0, 128 * h.val] : Fin 2 → ℕ) a + (![1, 128] : Fin 2 → ℕ) a ≤ S1x1024.size a := by
  fin_cases h <;> decide
theorem inbState (h : Fin 8) : ∀ a, (![h.val, 0, 0] : Fin 3 → ℕ) a + (![1, 128, 128] : Fin 3 → ℕ) a ≤ S8x128x128.size a := by
  fin_cases h <;> decide

/-- The rows head `h` makes of a block of tokens, four blocks of columns of the weights, the bounds, the scale and the states. -/
def rowsOf (x : FVec Ideal S256x1024 .f32) (w0 w1 w2 w3 : FVec Ideal S1024x1024 .bf16) (lb g : FVec Ideal S1x1024 .f32)
    (st : FVec Ideal S8x128x128 .f32) (h : Fin 8) : Narrow :=
  headRows (extractStridedSlice S256x128 ![0, 128 * h.val] (k0_pay7 x w0) (wide h))
    (extractStridedSlice S256x128 ![0, 128 * h.val] (k0_pay8 x w1) (wide h))
    (extractStridedSlice S256x128 ![0, 128 * h.val] (k0_pay9 x w2) (wide h))
    (extractStridedSlice S256x128 ![0, 128 * h.val] (k0_pay11 (k0_pay6 x) (k0_pay10 w3) (constant S256x1024 .f32 0x00000000#32)) (wide h))
    (View.ld (Val := Elt Ideal) (S := S1x1024) (e' := .f32) lb (Rect.unit ![0, 128 * h.val] ![1, 128] (inbLine h)))
    (View.ld (Val := Elt Ideal) (S := S1x1024) (e' := .f32) g (Rect.unit ![0, 128 * h.val] ![1, 128] (inbLine h)))
    (View.ld (Val := Elt Ideal) (S := S8x128x128) (e' := .f32) st (Rect.unit ![h.val, 0, 0] ![1, 128, 128] (inbState h)))

/-- Eight heads' columns put side by side. -/
def sideBySide {α : Type} (F : Fin 8 → S256x128.Idx → α) (j : S256x1024.Idx) : α :=
  F ⟨(j 1).val / 128, Nat.div_lt_of_lt_mul (j 1).isLt⟩ (ix2 (j 0) ⟨(j 1).val % 128, Nat.mod_lt _ (by decide)⟩)

/-- The entry at a column is its head's entry at the column's place in the head. -/
theorem pick {α : Type} (F : Fin 8 → S256x128.Idx → α) (j : S256x1024.Idx) (k : Fin 8) (x : S256x128.Idx)
    (h0 : (j 0 : ℕ) = x 0) (h1 : (j 1 : ℕ) = 128 * k.val + x 1) : F k x = sideBySide F j := by
  have hx : (x 1).val < 128 := (x 1).isLt
  unfold sideBySide
  rw [show k = ⟨(j 1).val / 128, Nat.div_lt_of_lt_mul (j 1).isLt⟩ from Fin.ext (show k.val = (j 1).val / 128 by omega)]
  refine congrArg (F _) (funext fun a => Fin.ext ?_)
  match a with
  | ⟨0, _⟩ => exact h0.symm
  | ⟨1, _⟩ => show (x 1).val = (j 1).val % 128; omega

/-- The states the heads leave after a block of tokens. -/
def statesOf (x : FVec Ideal S256x1024 .f32) (w1 w2 : FVec Ideal S1024x1024 .bf16) (lb : FVec Ideal S1x1024 .f32)
    (st : FVec Ideal S8x128x128 .f32) (h : Fin 8) : FVec Ideal S1x128x128 .f32 :=
  headState (extractStridedSlice S256x128 ![0, 128 * h.val] (k0_pay8 x w1) (wide h))
    (extractStridedSlice S256x128 ![0, 128 * h.val] (k0_pay9 x w2) (wide h))
    (View.ld (Val := Elt Ideal) (S := S1x1024) (e' := .f32) lb (Rect.unit ![0, 128 * h.val] ![1, 128] (inbLine h)))
    (View.ld (Val := Elt Ideal) (S := S8x128x128) (e' := .f32) st (Rect.unit ![h.val, 0, 0] ![1, 128, 128] (inbState h)))

theorem inbCols (k : Fin 4) : ∀ a, (![0, 1024 * k.val] : Fin 2 → ℕ) a + (![1024, 1024] : Fin 2 → ℕ) a ≤ S1024x4096.size a := by
  fin_cases k <;> decide

/-- The columns of one projection. -/
def colsOf (w : FVec Ideal S1024x4096 .bf16) (k : Fin 4) : FVec Ideal S1024x1024 .bf16 :=
  View.ld (Val := Elt Ideal) (S := S1024x4096) (e' := .bf16) w (Rect.unit ![0, 1024 * k.val] ![1024, 1024] (inbCols k))

/-- Eight states stacked. -/
def stacked {α : Type} (F : Fin 8 → S1x128x128.Idx → α) (j : S8x128x128.Idx) : α := F (j 0) (ix3 0 (j 1) (j 2))

/-- The entry of the stack is its head's. -/
theorem pickState {α : Type} (F : Fin 8 → S1x128x128.Idx → α) (j : S8x128x128.Idx) (k : Fin 8) (x : S1x128x128.Idx)
    (h0 : (j 0 : ℕ) = k.val + x 0) (h1 : (j 1 : ℕ) = x 1) (h2 : (j 2 : ℕ) = x 2) : F k x = stacked F j := by
  have hx : (x 0).val < 1 := (x 0).isLt
  unfold stacked
  rw [show k = j 0 from Fin.ext (show k.val = (j 0).val by omega)]
  refine congrArg (F _) (funext fun a => Fin.ext ?_)
  match a with
  | ⟨0, _⟩ => show (x 0).val = 0; omega
  | ⟨1, _⟩ => exact h1.symm
  | ⟨2, _⟩ => exact h2.symm

/-- Pieces that hold an index hide the ones before them there. -/
theorem canon_hides {s : Shape} {e : EltTy} : ∀ (L L' : List (View.Piece (Elt Ideal) s e)) (y : s.Idx),
    (∃ p ∈ L, y ∈ p.1.set) → View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_hides L L' y ?_
      obtain ⟨q, hq, hyq⟩ := hc
      rcases List.mem_cons.mp hq with rfl | hq'
      · exact absurd hyq hm
      · exact ⟨q, hq', hyq⟩

theorem zero_load0  :
    (View.whole cc0_scratch0).readCov (Val := Elt Ideal) [⟨Rect.unit ![0, 0, 0] ![8, 128, 128] inb_S8x128x128_S8x128x128_0_0_0, k0_pay1 (F := Ideal)⟩]
      (Rect.unit ![0, 0, 0] ![1, 128, 128] inb_S8x128x128_S1x128x128_0_0_0).toLoadRect
    = View.ld (Val := Elt Ideal) (S := S8x128x128) (e' := .f32) (k0_pay1 (F := Ideal)) (Rect.unit ![0, 0, 0] ![1, 128, 128] inb_S8x128x128_S1x128x128_0_0_0) := by
  unfold View.readCov
  refine (View.readAt_writes_const_of_hit _ _ _ _ 0 (Rect.unit (s := S8x128x128) ![0, 0, 0] ![8, 128, 128] inb_S8x128x128_S8x128x128_0_0_0)
    (Ideal.ofBits .f32 0x00000000#32) ?_ ?_).trans ?_
  · rfl
  · rfl
  · rfl

theorem zero_load1 (w0 : FVec Ideal S1x128x128 .f32) :
    (View.whole cc0_scratch0).readCov (Val := Elt Ideal) [⟨Rect.unit ![0, 0, 0] ![1, 128, 128] inb_S8x128x128_S1x128x128_0_0_0, w0⟩, ⟨Rect.unit ![0, 0, 0] ![8, 128, 128] inb_S8x128x128_S8x128x128_0_0_0, k0_pay1 (F := Ideal)⟩]
      (Rect.unit ![1, 0, 0] ![1, 128, 128] inb_S8x128x128_S1x128x128_1_0_0).toLoadRect
    = View.ld (Val := Elt Ideal) (S := S8x128x128) (e' := .f32) (k0_pay1 (F := Ideal)) (Rect.unit ![1, 0, 0] ![1, 128, 128] inb_S8x128x128_S1x128x128_1_0_0) := by
  unfold View.readCov
  refine (View.readAt_writes_const_of_hit _ _ _ _ 1 (Rect.unit (s := S8x128x128) ![0, 0, 0] ![8, 128, 128] inb_S8x128x128_S8x128x128_0_0_0)
    (Ideal.ofBits .f32 0x00000000#32) ?_ ?_).trans ?_
  · rfl
  · rfl
  · rfl

theorem zero_load2 (w0 w1 : FVec Ideal S1x128x128 .f32) :
    (View.whole cc0_scratch0).readCov (Val := Elt Ideal) [⟨Rect.unit ![1, 0, 0] ![1, 128, 128] inb_S8x128x128_S1x128x128_1_0_0, w1⟩, ⟨Rect.unit ![0, 0, 0] ![1, 128, 128] inb_S8x128x128_S1x128x128_0_0_0, w0⟩, ⟨Rect.unit ![0, 0, 0] ![8, 128, 128] inb_S8x128x128_S8x128x128_0_0_0, k0_pay1 (F := Ideal)⟩]
      (Rect.unit ![2, 0, 0] ![1, 128, 128] inb_S8x128x128_S1x128x128_2_0_0).toLoadRect
    = View.ld (Val := Elt Ideal) (S := S8x128x128) (e' := .f32) (k0_pay1 (F := Ideal)) (Rect.unit ![2, 0, 0] ![1, 128, 128] inb_S8x128x128_S1x128x128_2_0_0) := by
  unfold View.readCov
  refine (View.readAt_writes_const_of_hit _ _ _ _ 2 (Rect.unit (s := S8x128x128) ![0, 0, 0] ![8, 128, 128] inb_S8x128x128_S8x128x128_0_0_0)
    (Ideal.ofBits .f32 0x00000000#32) ?_ ?_).trans ?_
  · rfl
  · rfl
  · rfl

theorem zero_load3 (w0 w1 w2 : FVec Ideal S1x128x128 .f32) :
    (View.whole cc0_scratch0).readCov (Val := Elt Ideal) [⟨Rect.unit ![2, 0, 0] ![1, 128, 128] inb_S8x128x128_S1x128x128_2_0_0, w2⟩, ⟨Rect.unit ![1, 0, 0] ![1, 128, 128] inb_S8x128x128_S1x128x128_1_0_0, w1⟩, ⟨Rect.unit ![0, 0, 0] ![1, 128, 128] inb_S8x128x128_S1x128x128_0_0_0, w0⟩, ⟨Rect.unit ![0, 0, 0] ![8, 128, 128] inb_S8x128x128_S8x128x128_0_0_0, k0_pay1 (F := Ideal)⟩]
      (Rect.unit ![3, 0, 0] ![1, 128, 128] inb_S8x128x128_S1x128x128_3_0_0).toLoadRect
    = View.ld (Val := Elt Ideal) (S := S8x128x128) (e' := .f32) (k0_pay1 (F := Ideal)) (Rect.unit ![3, 0, 0] ![1, 128, 128] inb_S8x128x128_S1x128x128_3_0_0) := by
  unfold View.readCov
  refine (View.readAt_writes_const_of_hit _ _ _ _ 3 (Rect.unit (s := S8x128x128) ![0, 0, 0] ![8, 128, 128] inb_S8x128x128_S8x128x128_0_0_0)
    (Ideal.ofBits .f32 0x00000000#32) ?_ ?_).trans ?_
  · rfl
  · rfl
  · rfl

theorem zero_load4 (w0 w1 w2 w3 : FVec Ideal S1x128x128 .f32) :
    (View.whole cc0_scratch0).readCov (Val := Elt Ideal) [⟨Rect.unit ![3, 0, 0] ![1, 128, 128] inb_S8x128x128_S1x128x128_3_0_0, w3⟩, ⟨Rect.unit ![2, 0, 0] ![1, 128, 128] inb_S8x128x128_S1x128x128_2_0_0, w2⟩, ⟨Rect.unit ![1, 0, 0] ![1, 128, 128] inb_S8x128x128_S1x128x128_1_0_0, w1⟩, ⟨Rect.unit ![0, 0, 0] ![1, 128, 128] inb_S8x128x128_S1x128x128_0_0_0, w0⟩, ⟨Rect.unit ![0, 0, 0] ![8, 128, 128] inb_S8x128x128_S8x128x128_0_0_0, k0_pay1 (F := Ideal)⟩]
      (Rect.unit ![4, 0, 0] ![1, 128, 128] inb_S8x128x128_S1x128x128_4_0_0).toLoadRect
    = View.ld (Val := Elt Ideal) (S := S8x128x128) (e' := .f32) (k0_pay1 (F := Ideal)) (Rect.unit ![4, 0, 0] ![1, 128, 128] inb_S8x128x128_S1x128x128_4_0_0) := by
  unfold View.readCov
  refine (View.readAt_writes_const_of_hit _ _ _ _ 4 (Rect.unit (s := S8x128x128) ![0, 0, 0] ![8, 128, 128] inb_S8x128x128_S8x128x128_0_0_0)
    (Ideal.ofBits .f32 0x00000000#32) ?_ ?_).trans ?_
  · rfl
  · rfl
  · rfl

theorem zero_load5 (w0 w1 w2 w3 w4 : FVec Ideal S1x128x128 .f32) :
    (View.whole cc0_scratch0).readCov (Val := Elt Ideal) [⟨Rect.unit ![4, 0, 0] ![1, 128, 128] inb_S8x128x128_S1x128x128_4_0_0, w4⟩, ⟨Rect.unit ![3, 0, 0] ![1, 128, 128] inb_S8x128x128_S1x128x128_3_0_0, w3⟩, ⟨Rect.unit ![2, 0, 0] ![1, 128, 128] inb_S8x128x128_S1x128x128_2_0_0, w2⟩, ⟨Rect.unit ![1, 0, 0] ![1, 128, 128] inb_S8x128x128_S1x128x128_1_0_0, w1⟩, ⟨Rect.unit ![0, 0, 0] ![1, 128, 128] inb_S8x128x128_S1x128x128_0_0_0, w0⟩, ⟨Rect.unit ![0, 0, 0] ![8, 128, 128] inb_S8x128x128_S8x128x128_0_0_0, k0_pay1 (F := Ideal)⟩]
      (Rect.unit ![5, 0, 0] ![1, 128, 128] inb_S8x128x128_S1x128x128_5_0_0).toLoadRect
    = View.ld (Val := Elt Ideal) (S := S8x128x128) (e' := .f32) (k0_pay1 (F := Ideal)) (Rect.unit ![5, 0, 0] ![1, 128, 128] inb_S8x128x128_S1x128x128_5_0_0) := by
  unfold View.readCov
  refine (View.readAt_writes_const_of_hit _ _ _ _ 5 (Rect.unit (s := S8x128x128) ![0, 0, 0] ![8, 128, 128] inb_S8x128x128_S8x128x128_0_0_0)
    (Ideal.ofBits .f32 0x00000000#32) ?_ ?_).trans ?_
  · rfl
  · rfl
  · rfl

theorem zero_load6 (w0 w1 w2 w3 w4 w5 : FVec Ideal S1x128x128 .f32) :
    (View.whole cc0_scratch0).readCov (Val := Elt Ideal) [⟨Rect.unit ![5, 0, 0] ![1, 128, 128] inb_S8x128x128_S1x128x128_5_0_0, w5⟩, ⟨Rect.unit ![4, 0, 0] ![1, 128, 128] inb_S8x128x128_S1x128x128_4_0_0, w4⟩, ⟨Rect.unit ![3, 0, 0] ![1, 128, 128] inb_S8x128x128_S1x128x128_3_0_0, w3⟩, ⟨Rect.unit ![2, 0, 0] ![1, 128, 128] inb_S8x128x128_S1x128x128_2_0_0, w2⟩, ⟨Rect.unit ![1, 0, 0] ![1, 128, 128] inb_S8x128x128_S1x128x128_1_0_0, w1⟩, ⟨Rect.unit ![0, 0, 0] ![1, 128, 128] inb_S8x128x128_S1x128x128_0_0_0, w0⟩, ⟨Rect.unit ![0, 0, 0] ![8, 128, 128] inb_S8x128x128_S8x128x128_0_0_0, k0_pay1 (F := Ideal)⟩]
      (Rect.unit ![6, 0, 0] ![1, 128, 128] inb_S8x128x128_S1x128x128_6_0_0).toLoadRect
    = View.ld (Val := Elt Ideal) (S := S8x128x128) (e' := .f32) (k0_pay1 (F := Ideal)) (Rect.unit ![6, 0, 0] ![1, 128, 128] inb_S8x128x128_S1x128x128_6_0_0) := by
  unfold View.readCov
  refine (View.readAt_writes_const_of_hit _ _ _ _ 6 (Rect.unit (s := S8x128x128) ![0, 0, 0] ![8, 128, 128] inb_S8x128x128_S8x128x128_0_0_0)
    (Ideal.ofBits .f32 0x00000000#32) ?_ ?_).trans ?_
  · rfl
  · rfl
  · rfl

theorem zero_load7 (w0 w1 w2 w3 w4 w5 w6 : FVec Ideal S1x128x128 .f32) :
    (View.whole cc0_scratch0).readCov (Val := Elt Ideal) [⟨Rect.unit ![6, 0, 0] ![1, 128, 128] inb_S8x128x128_S1x128x128_6_0_0, w6⟩, ⟨Rect.unit ![5, 0, 0] ![1, 128, 128] inb_S8x128x128_S1x128x128_5_0_0, w5⟩, ⟨Rect.unit ![4, 0, 0] ![1, 128, 128] inb_S8x128x128_S1x128x128_4_0_0, w4⟩, ⟨Rect.unit ![3, 0, 0] ![1, 128, 128] inb_S8x128x128_S1x128x128_3_0_0, w3⟩, ⟨Rect.unit ![2, 0, 0] ![1, 128, 128] inb_S8x128x128_S1x128x128_2_0_0, w2⟩, ⟨Rect.unit ![1, 0, 0] ![1, 128, 128] inb_S8x128x128_S1x128x128_1_0_0, w1⟩, ⟨Rect.unit ![0, 0, 0] ![1, 128, 128] inb_S8x128x128_S1x128x128_0_0_0, w0⟩, ⟨Rect.unit ![0, 0, 0] ![8, 128, 128] inb_S8x128x128_S8x128x128_0_0_0, k0_pay1 (F := Ideal)⟩]
      (Rect.unit ![7, 0, 0] ![1, 128, 128] inb_S8x128x128_S1x128x128_7_0_0).toLoadRect
    = View.ld (Val := Elt Ideal) (S := S8x128x128) (e' := .f32) (k0_pay1 (F := Ideal)) (Rect.unit ![7, 0, 0] ![1, 128, 128] inb_S8x128x128_S1x128x128_7_0_0) := by
  unfold View.readCov
  refine (View.readAt_writes_const_of_hit _ _ _ _ 7 (Rect.unit (s := S8x128x128) ![0, 0, 0] ![8, 128, 128] inb_S8x128x128_S8x128x128_0_0_0)
    (Ideal.ofBits .f32 0x00000000#32) ?_ ?_).trans ?_
  · rfl
  · rfl
  · rfl

end Cert.Hgrn

end
-- ==== Proof.Hg.HeadAt.lean ====
/-
  One head's operations at an index: each of the head's terms, read at a row of a chunk and a feature.
-/
module

public import proofs.«01_k».proof.Proof.Hg.Head
public import Idealize.ShloMosaic.Lib.WordCmp

@[expose] public section

set_option maxRecDepth 16384

noncomputable section

namespace Cert.Hgrn

open Idealize.ShloMosaic Idealize.ShloMosaic.TcCoe
open Cert.Kernel4Ideal Cert.Kernel4Ideal.Gen

/-- Row `s` of chunk `c`. -/
def row (c : Fin 8) (s : Fin 32) : Fin 256 := ⟨32 * c.val + s.val, by have := c.isLt; have := s.isLt; omega⟩

/-- A sum over the rows is a sum over the chunks of sums over their rows. -/
theorem sum_rows (f : Fin 256 → EReal) : ∑ k, f k = ∑ c : Fin 8, ∑ s : Fin 32, f (row c s) := by
  rw [← Fintype.sum_prod_type' (f := fun c s => f (row c s))]
  refine (Fintype.sum_equiv (finProdFinEquiv (m := 8) (n := 32)) (fun p => f (row p.1 p.2)) f fun p => congrArg f (Fin.ext ?_)).symm
  show 32 * p.1.val + p.2.val = p.2.val + 32 * p.1.val
  omega

/-- A sum over the rows of terms that vanish off one chunk. -/
theorem sum_chunk (f : Fin 256 → EReal) (c : Fin 8) (h : ∀ c' s, c' ≠ c → f (row c' s) = 0) : ∑ k, f k = ∑ s : Fin 32, f (row c s) := by
  rw [sum_rows]
  exact Finset.sum_eq_single c (fun c' _ hc => Finset.sum_eq_zero fun s _ => h c' s hc) fun hc => absurd (Finset.mem_univ c) hc

theorem sgTile_at (x : Tile) (i : S256x128.Idx) : sgTile x i = sgm (x i) := by
  pointwise [sgTile, sgm]
  rw [zero_sub]

theorem restTile_at (lb : Line) (r : Fin 256) (d : Fin 128) : restTile lb (ix2 r d) = 1 - lb (ix2 0 d) := by
  pointwise [restTile]

theorem lfTile_at (f : Tile) (lb : Line) (r : Fin 256) (d : Fin 128) :
    lfTile f lb (ix2 r d) = Ideal.log (lb (ix2 0 d) + (1 - lb (ix2 0 d)) * sgm (f (ix2 r d))) := by
  unfold lfTile
  pointwise
  rw [restTile_at, sgTile_at]

theorem kinTile_at (f : Tile) (lb : Line) (r : Fin 256) (d : Fin 128) :
    kinTile f lb (ix2 r d) = (1 - lb (ix2 0 d)) * sgm (-f (ix2 r d)) := by
  unfold kinTile
  pointwise
  rw [restTile_at, sgTile_at]
  pointwise
  rw [zero_sub]

theorem maskSum_at (mk : Mask) (x : Tile) (r : Fin 256) (d : Fin 128) : maskSum mk x (ix2 r d)
    = ∑ k : Fin 256, (mk (ix2 r k) * x (ix2 k d) + mk (ix2 r k) * (x (ix2 k d) - x (ix2 k d))) := by
  unfold maskSum parts
  pointwise
  exact Finset.sum_add_distrib.symm

theorem bit5 : ∀ r : Fin 256, IntOp.shrsi ArithUnit.vector (BitVec.ofNat 32 r.val) 5#32 = BitVec.ofNat 32 (r.val / 32) := by decide +kernel

/-- Small words are equal when their numbers are. -/
theorem same_word (a b : ℕ) (ha : a < 256) (hb : b < 256) :
    IntOp.cmpi CmpIPredicate.eq (BitVec.ofNat 32 a) (BitVec.ofNat 32 b) = if a = b then 1#1 else 0#1 := by
  rw [WordCmp.cmpi_eq_eq_toNat, BitVec.toNat_ofNat, BitVec.toNat_ofNat, Nat.mod_eq_of_lt (by omega), Nat.mod_eq_of_lt (by omega)]
  by_cases h : a = b <;> simp [h]

/-- Small words are in the order of their numbers. -/
theorem le_word (a b : ℕ) (ha : a < 256) (hb : b < 256) :
    IntOp.cmpi CmpIPredicate.sle (BitVec.ofNat 32 a) (BitVec.ofNat 32 b) = if a ≤ b then 1#1 else 0#1 := by
  rw [WordCmp.cmpi_sle_of_lt (by rw [BitVec.toNat_ofNat]; omega) (by rw [BitVec.toNat_ofNat]; omega), BitVec.toNat_ofNat, BitVec.toNat_ofNat,
    Nat.mod_eq_of_lt (by omega), Nat.mod_eq_of_lt (by omega)]
  by_cases h : a ≤ b <;> simp [h]

/-- The mask of a row's own chunk. -/
theorem ones_at (r k : Fin 256) : (k0_pay5 : Mask) (ix2 r k) = if r.val / 32 = k.val / 32 then 1 else 0 := by
  have := r.isLt
  have := k.isLt
  pointwise [k0_pay5, k0_pay2]
  rw [bit5, bit5, same_word _ _ (by omega) (by omega)]
  split <;> rfl

/-- The mask of the rows of a row's own chunk up to it. -/
theorem causal_at (r k : Fin 256) : k0_pay3 (ix2 r k) = if r.val / 32 = k.val / 32 ∧ k.val ≤ r.val then 1#1 else 0#1 := by
  have := r.isLt
  have := k.isLt
  pointwise [k0_pay3, k0_pay2]
  rw [bit5, bit5, same_word _ _ (by omega) (by omega), le_word _ _ (by omega) (by omega)]
  by_cases h1 : r.val / 32 = k.val / 32 <;> by_cases h2 : k.val ≤ r.val <;> simp [h1, h2, IntOp.andi]

theorem tri_at (r k : Fin 256) : (k0_pay4 : Mask) (ix2 r k) = if r.val / 32 = k.val / 32 ∧ k.val ≤ r.val then 1 else 0 := by
  unfold k0_pay4
  pointwise
  rw [causal_at]
  split <;> rfl

/-- A mask of ones and zeros times a number and its leftover, below the top element. -/
theorem mask_keep {x : EReal} (h : x ≠ ⊤) (p : Prop) [Decidable p] :
    (if p then (1 : EReal) else 0) * x + (if p then (1 : EReal) else 0) * (x - x) = if p then x else 0 := by
  split
  · rw [one_mul, one_mul, keep h]
  · rw [zero_mul, zero_mul, add_zero]

theorem row_div (c : Fin 8) (s : Fin 32) : (row c s).val / 32 = c.val := by
  show (32 * c.val + s.val) / 32 = _
  omega

/-- The running sum of a chunk's rows. -/
theorem triSum_at (x : Tile) (hx : ∀ i, x i ≠ ⊤) (c : Fin 8) (s : Fin 32) (d : Fin 128) :
    maskSum k0_pay4 x (ix2 (row c s) d) = ∑ u : Fin 32, if u.val ≤ s.val then x (ix2 (row c u) d) else 0 := by
  rw [maskSum_at, sum_chunk _ c]
  · refine Finset.sum_congr rfl fun u _ => ?_
    rw [tri_at, mask_keep (hx _), row_div, row_div]
    refine if_congr ?_ rfl rfl
    have e1 : (row c u).val = 32 * c.val + u.val := rfl
    have e2 : (row c s).val = 32 * c.val + s.val := rfl
    omega
  · intro c' u hc
    rw [tri_at, mask_keep (hx _), row_div, row_div, if_neg]
    exact fun h => hc (Fin.ext h.1.symm)

/-- The sum over a chunk's rows. -/
theorem onesSum_at (x : Tile) (hx : ∀ i, x i ≠ ⊤) (c : Fin 8) (s : Fin 32) (d : Fin 128) :
    maskSum k0_pay5 x (ix2 (row c s) d) = ∑ u : Fin 32, x (ix2 (row c u) d) := by
  rw [maskSum_at, sum_chunk _ c]
  · refine Finset.sum_congr rfl fun u _ => ?_
    rw [ones_at, mask_keep (hx _), row_div, row_div, if_pos rfl]
  · intro c' u hc
    rw [ones_at, mask_keep (hx _), row_div, row_div, if_neg]
    exact fun h => hc (Fin.ext h.symm)

theorem intraTile_at (q b e : Tile) (ke v : Narrow) (c : Fin 8) (s : Fin 32) (d : Fin 128) : intraTile q b e ke v (ix2 (row c s) d)
    = ∑ u : Fin 32, (if u.val ≤ s.val then ∑ n : Fin 128, q (ix2 (row c s) n) * Ideal.exp (b (ix2 (row c s) n) - e (ix2 (row c s) n))
        * ke (ix2 (row c u) n) else 0) * v (ix2 (row c u) d) := by
  unfold intraTile
  pointwise
  rw [sum_chunk _ c]
  · refine Finset.sum_congr rfl fun u _ => ?_
    rw [causal_at, row_div, row_div]
    by_cases h : u.val ≤ s.val
    · rw [if_pos h, if_pos ⟨rfl, show 32 * c.val + u.val ≤ 32 * c.val + s.val by omega⟩]
      rfl
    · rw [if_neg h, if_neg, zero_mul]
      · rfl
      · rintro ⟨-, h'⟩
        change 32 * c.val + u.val ≤ 32 * c.val + s.val at h'
        omega
  · intro c' u hc
    rw [causal_at, row_div, row_div, if_neg]
    · rfl
    · exact fun h => hc (Fin.ext h.1.symm)

theorem interTile_at (j : Fin 8) (qs : Narrow) (st : Square) (s : Fin 32) (e : Fin 128) :
    interTile (32 * j.val) (s32 j.val j.isLt) qs st (ix2 s e) = ∑ d : Fin 128, qs (ix2 (row j s) d) * st (ix2 e d) := by
  pointwise [interTile]
  rfl

theorem inter_same {n n' : ℕ} (hn : n = n') {h h'} (qs : Narrow) {st st' : Square} (hst : st = st') {x x' : Fin 32} (hx : x.val = x'.val)
    (e : Fin 128) : interTile n h qs st (ix2 x e) = interTile n' h' qs st' (ix2 x' e) := by
  subst hn hst
  rw [Fin.ext hx]

theorem stepTile_at (j : Fin 8) (ke v : Narrow) (dec : Tile) (st : Square) (e d : Fin 128) :
    stepTile (32 * j.val) (s32 j.val j.isLt) (s1 j.val j.isLt) ke v dec st (ix2 e d)
      = dec (ix2 (row j 0) d) * st (ix2 e d) + ∑ s : Fin 32, v (ix2 (row j s) e) * ke (ix2 (row j s) d) := by
  pointwise [stepTile]
  rfl

theorem readTile_at (intra : Tile) (qs ke v : Narrow) (dec : Tile) (st : Square) (c : Fin 8) (s : Fin 32) (e : Fin 128) :
    readTile intra qs ke v dec st (ix2 (row c s) e) = intra (ix2 (row c s) e)
      + ∑ d : Fin 128, qs (ix2 (row c s) d) * chain ke v dec st c.val c.isLt.le (ix2 e d) := by
  have hs := s.isLt
  unfold readTile
  pointwise
  congr 1
  have e0 : (row c s).val = 32 * c.val + s.val := rfl
  rw [← interTile_at]
  match c with
  | ⟨0, hc⟩ =>
    simp only [e0]
    rw [dif_pos (by omega)]
    exact inter_same rfl _ rfl (by dsimp only; omega) e
  | ⟨1, hc⟩ =>
    simp only [e0]
    rw [dif_neg (by omega), dif_pos (by omega)]
    exact inter_same rfl _ rfl (by dsimp only; omega) e
  | ⟨2, hc⟩ =>
    simp only [e0]
    rw [dif_neg (by omega), dif_neg (by omega), dif_pos (by omega)]
    exact inter_same rfl _ rfl (by dsimp only; omega) e
  | ⟨3, hc⟩ =>
    simp only [e0]
    rw [dif_neg (by omega), dif_neg (by omega), dif_neg (by omega), dif_pos (by omega)]
    exact inter_same rfl _ rfl (by dsimp only; omega) e
  | ⟨4, hc⟩ =>
    simp only [e0]
    rw [dif_neg (by omega), dif_neg (by omega), dif_neg (by omega), dif_neg (by omega), dif_pos (by omega)]
    exact inter_same rfl _ rfl (by dsimp only; omega) e
  | ⟨5, hc⟩ =>
    simp only [e0]
    rw [dif_neg (by omega), dif_neg (by omega), dif_neg (by omega), dif_neg (by omega), dif_neg (by omega), dif_pos (by omega)]
    exact inter_same rfl _ rfl (by dsimp only; omega) e
  | ⟨6, hc⟩ =>
    simp only [e0]
    rw [dif_neg (by omega), dif_neg (by omega), dif_neg (by omega), dif_neg (by omega), dif_neg (by omega), dif_neg (by omega), dif_pos (by omega)]
    exact inter_same rfl _ rfl (by dsimp only; omega) e
  | ⟨7, hc⟩ =>
    simp only [e0]
    rw [dif_neg (by omega), dif_neg (by omega), dif_neg (by omega), dif_neg (by omega), dif_neg (by omega), dif_neg (by omega), dif_neg (by omega)]
    exact inter_same rfl _ rfl (by dsimp only; omega) e

theorem normTile_at (o hg : Tile) (g : Line) (r : Fin 256) (e : Fin 128) : normTile o hg g (ix2 r e)
    = rms (fun k => o (ix2 r (Fin.ofNat 128 k))) e.val * g (ix2 0 e) * (hg (ix2 r e) * sgm (hg (ix2 r e))) := by
  unfold normTile rms
  pointwise
  rw [sgTile_at]
  simp only [show ∀ k : Fin 128, Fin.ofNat 128 k.val = k from fun k => Fin.ext (Nat.mod_eq_of_lt k.isLt)]

end Cert.Hgrn

end
-- ==== Proof.Hg.HeadVal.lean ====
/-
  One head's value: over tiles that hold the projections of the tokens of block `i`, and the state that enters the block's
  first chunk, the head makes the recurrence's results and leaves the state that enters the next block's first chunk.
-/
module

public import proofs.«01_k».proof.Proof.Hg.HeadAt

@[expose] public section

set_option maxRecDepth 16384

noncomputable section

namespace Cert.Hgrn

open Idealize.ShloMosaic Idealize.ShloMosaic.TcCoe
open Cert.Kernel4Ideal Cert.Kernel4Ideal.Gen

/-- Every row is some chunk's. -/
theorem row_surj (r : Fin 256) : ∃ c s, r = row c s :=
  ⟨⟨r.val / 32, Nat.div_lt_of_lt_mul r.isLt⟩, ⟨r.val % 32, Nat.mod_lt _ (by decide)⟩, Fin.ext (Nat.div_add_mod r.val 32).symm⟩

theorem tok_div (i : ℕ) (c : Fin 8) (s : Fin 32) : (256 * i + (row c s).val) / 32 = 8 * i + c.val := by
  have e : (row c s).val = 32 * c.val + s.val := rfl
  have := s.isLt
  omega
theorem tok_mod (i : ℕ) (c : Fin 8) (s : Fin 32) : (256 * i + (row c s).val) % 32 = s.val := by
  have e : (row c s).val = 32 * c.val + s.val := rfl
  have := s.isLt
  omega
theorem tok_eq (i : ℕ) (c : Fin 8) (s : Fin 32) : 256 * i + (row c s).val = 32 * (8 * i + c.val) + s.val := by
  have e : (row c s).val = 32 * c.val + s.val := rfl
  omega

/-- The sum over a token's chunk. -/
def totOf (LF : ℕ → ℕ → EReal) (T n : ℕ) : EReal := tot LF (T / 32) n

theorem totOf_row (LF : ℕ → ℕ → EReal) (i : ℕ) (c : Fin 8) (s : Fin 32) (n : ℕ) :
    totOf LF (256 * i + (row c s).val) n = tot LF (8 * i + c.val) n := by
  unfold totOf
  rw [tok_div]

section

variable (Q LF K V HG : ℕ → ℕ → EReal) (G : ℕ → EReal) (i h : ℕ)

/-- A tile holds a function of the token and the feature, at block `i` and head `h`. -/
def Holds (x : S256x128.Idx → EReal) (P : ℕ → ℕ → EReal) : Prop := ∀ r d, x (ix2 r d) = P (256 * i + r.val) (128 * h + d.val)

variable {Q LF K V HG G i h}

theorem Holds.ne {x : Tile} (hx : Holds i h x LF) (hn : ∀ T n, LF T n ≠ ⊤) (j : S256x128.Idx) : x j ≠ ⊤ := by
  have e : j = ix2 (j 0 : Fin 256) (j 1 : Fin 128) := funext fun a => by
    match a with
    | ⟨0, _⟩ => rfl
    | ⟨1, _⟩ => rfl
  exact (congrArg x e).trans (hx (j 0) (j 1)) ▸ hn _ _

/-- The running sums. -/
theorem cum_holds {x : Tile} (hx : Holds i h x LF) (hn : ∀ T n, LF T n ≠ ⊤) : Holds i h (maskSum k0_pay4 x) (cum LF) := by
  intro r d
  obtain ⟨c, s, rfl⟩ := row_surj r
  rw [triSum_at x (hx.ne hn)]
  unfold cum
  rw [tok_div, tok_mod]
  refine Finset.sum_congr rfl fun u _ => ?_
  rw [hx, tok_eq]

/-- The chunk's sums. -/
theorem tot_holds {x : Tile} (hx : Holds i h x LF) (hn : ∀ T n, LF T n ≠ ⊤) :
    Holds i h (maskSum k0_pay5 x) (totOf LF) := by
  intro r d
  obtain ⟨c, s, rfl⟩ := row_surj r
  rw [onesSum_at x (hx.ne hn), totOf_row]
  unfold tot
  refine Finset.sum_congr rfl fun u _ => ?_
  rw [hx, tok_eq]

theorem ke_holds {k b e : Tile} (hk : Holds i h k K) (hb : Holds i h b (cum LF)) (he : Holds i h e (totOf LF)) :
    Holds i h (keTile k b e) (ke LF K) := by
  intro r d
  pointwise [keTile]
  rw [hk, hb, he]
  rfl

theorem qs_holds {q b : Tile} (hq : Holds i h q Q) (hb : Holds i h b (cum LF)) : Holds i h (qsTile q b) (qs Q LF) := by
  intro r d
  pointwise [qsTile]
  rw [hq, hb]
  rfl

/-- The states through the block's chunks. -/
theorem chain_at {kt v : Narrow} {e : Tile} {st : Square} (hk : Holds i h kt (ke LF K)) (hv : Holds i h v V)
    (he : Holds i h e (totOf LF)) (hs : ∀ a d : Fin 128, st (ix2 a d) = state LF K V h (8 * i) a.val d.val) :
    ∀ (j : ℕ) (hj : j ≤ 8) (a d : Fin 128), chain kt v (exp e) st j hj (ix2 a d) = state LF K V h (8 * i + j) a.val d.val
  | 0, _, a, d => hs a d
  | j + 1, hj, a, d => by
    have ih := chain_at hk hv he hs j (Nat.le_of_succ_le hj) a d
    show stepTile (32 * j) (s32 j hj) (s1 j hj) kt v (exp e) (chain kt v (exp e) st j (Nat.le_of_succ_le hj)) (ix2 a d) = _
    rw [stepTile_at ⟨j, hj⟩, ih]
    show Ideal.exp (e (ix2 (row ⟨j, hj⟩ 0) d)) * _ + _ = Ideal.exp (tot LF (8 * i + j) (128 * h + d.val)) * _ + _
    rw [he, totOf_row]
    refine congrArg (_ + ·) (Finset.sum_congr rfl fun s _ => ?_)
    rw [hv, hk, tok_eq]
    rfl

/-- What the chunk itself gives. -/
theorem intra_holds {q b e : Tile} {kt v : Narrow} (hq : Holds i h q Q) (hb : Holds i h b (cum LF))
    (he : Holds i h e (totOf LF)) (hk : Holds i h kt (ke LF K)) (hv : Holds i h v V) (r : Fin 256) (d : Fin 128) :
    intraTile q b e kt v (ix2 r d) = intra Q LF K V (256 * i + r.val) h d.val := by
  obtain ⟨c, s, rfl⟩ := row_surj r
  rw [intraTile_at]
  unfold intra
  rw [tok_div, tok_mod]
  refine Finset.sum_congr rfl fun u _ => ?_
  rw [hv, tok_eq]
  refine congrArg (· * _) (if_congr Iff.rfl (Finset.sum_congr rfl fun n _ => ?_) rfl)
  rw [hq, hb, he, hk, tok_eq i c u]
  rfl

/-- The read values. -/
theorem read_holds {q b e : Tile} {kt v : Narrow} {st : Square} (hq : Holds i h q Q) (hb : Holds i h b (cum LF))
    (he : Holds i h e (totOf LF)) (hk : Holds i h kt (ke LF K)) (hv : Holds i h v V)
    (hs : ∀ a d : Fin 128, st (ix2 a d) = state LF K V h (8 * i) a.val d.val) (r : Fin 256) (d : Fin 128) :
    readTile (intraTile q b e kt v) (qsTile q b) kt v (exp e) st (ix2 r d) = read Q LF K V (256 * i + r.val) h d.val := by
  have hq' := qs_holds hq hb
  have hi := intra_holds hq hb he hk hv r d
  obtain ⟨c, s, rfl⟩ := row_surj r
  rw [readTile_at, hi]
  refine congrArg _ (Finset.sum_congr rfl fun n _ => ?_)
  rw [hq', chain_at hk hv he hs, tok_div]

variable {q f : Tile} {v : Narrow} {hg : Tile} {lb g : Line} {st : FVec Ideal S1x128x128 .f32}

/-- The state the head leaves. -/
theorem headState_at (hn : ∀ T n, LF T n ≠ ⊤) (hl : Holds i h (lfTile f lb) LF) (hk : Holds i h (kinTile f lb) K) (hv : Holds i h v V)
    (hs : ∀ a d : Fin 128, st (ix3 0 a d) = state LF K V h (8 * i) a.val d.val) (a d : Fin 128) :
    headState f v lb st (ix3 0 a d) = state LF K V h (8 * (i + 1)) a.val d.val := by
  have hc := chain_at (ke_holds hk (cum_holds hl hn) (tot_holds hl hn)) hv (tot_holds hl hn)
    (st := shapeCast S128x128 st shapeCasts_S1x128x128_S128x128) (fun a d => by pointwise; exact hs a d) 8 (le_refl _) a d
  unfold headState
  pointwise
  exact hc

/-- The rows the head makes. -/
theorem headRows_at (hn : ∀ T n, LF T n ≠ ⊤) (hq : Holds i h q Q) (hl : Holds i h (lfTile f lb) LF) (hk : Holds i h (kinTile f lb) K)
    (hv : Holds i h v V) (hh : Holds i h hg HG) (hG : ∀ d : Fin 128, g (ix2 0 d) = G (128 * h + d.val))
    (hs : ∀ a d : Fin 128, st (ix3 0 a d) = state LF K V h (8 * i) a.val d.val) (r : Fin 256) (d : Fin 128) :
    headRows q f v hg lb g st (ix2 r d) = result Q LF K V HG G (256 * i + r.val) h d.val := by
  have hr := read_holds hq (cum_holds hl hn) (tot_holds hl hn) (ke_holds hk (cum_holds hl hn) (tot_holds hl hn)) hv
    (st := shapeCast S128x128 st shapeCasts_S1x128x128_S128x128) (fun a d => by pointwise; exact hs a d) r
  unfold headRows
  rw [normTile_at, hh, hG]
  unfold result
  refine congrArg (· * _ * _) ?_
  unfold rms
  have e : ∀ k : Fin 128, (Fin.ofNat 128 k.val).val = k.val := fun k => Nat.mod_eq_of_lt k.isLt
  simp only [hr, e]

end

end Cert.Hgrn

end
-- ==== Proof.Hg.Point.lean ====
/-
  A grid point's value: point `t` is handed the 256 tokens of block `t % 16` of batch `t / 16`, and over states that are the
  recurrence's at the block's start it makes the recurrence's rows and leaves its states at the block's end.
-/
module

public import proofs.«01_k».proof.Proof.Hg.Tile
public import proofs.«01_k».proof.Proof.Hg.HeadVal

@[expose] public section

set_option maxRecDepth 16384

noncomputable section

namespace Cert.Hgrn

open Idealize.ShloMosaic Idealize.ShloMosaic.TcCoe
open Cert.Kernel4Ideal Cert.Kernel4Ideal.Gen

/-! The projections and the vectors of a head, over any blocks. -/

abbrev Block := FVec Ideal S256x1024 .f32
abbrev Cols := FVec Ideal S1024x1024 .bf16

/-- Feature `d` of head `h`. -/
def feat (h : Fin 8) (d : Fin 128) : Fin 1024 := ⟨128 * h.val + d.val, by have := h.isLt; have := d.isLt; omega⟩

theorem colsOf_at (w : FVec Ideal S1024x4096 .bf16) (j : Fin 4) (k n : Fin 1024) :
    colsOf w j (ix2 k n) = w (ix2 k ⟨1024 * j.val + n.val, by have := j.isLt; have := n.isLt; omega⟩) := by
  unfold colsOf
  rw [View.ld_apply]
  refine congrArg w (funext fun a => Fin.ext ?_)
  match a with
  | ⟨0, _⟩ => rw [Rect.idx_unit_val]; exact Nat.zero_add _
  | ⟨1, _⟩ => rw [Rect.idx_unit_val]; rfl

theorem q_at (x : Block) (w : Cols) (h : Fin 8) (r : Fin 256) (d : Fin 128) :
    (extractStridedSlice S256x128 ![0, 128 * h.val] (k0_pay7 x w) (wide h) : Tile) (ix2 r d) = ∑ k : Fin 1024, x (ix2 r k) * w (ix2 k (feat h d)) := by
  pointwise [k0_pay7, k0_pay6]
  rfl
theorem f_at (x : Block) (w : Cols) (h : Fin 8) (r : Fin 256) (d : Fin 128) :
    (extractStridedSlice S256x128 ![0, 128 * h.val] (k0_pay8 x w) (wide h) : Tile) (ix2 r d) = ∑ k : Fin 1024, x (ix2 r k) * w (ix2 k (feat h d)) := by
  pointwise [k0_pay8, k0_pay6]
  rfl
theorem v_at (x : Block) (w : Cols) (h : Fin 8) (r : Fin 256) (d : Fin 128) :
    (extractStridedSlice S256x128 ![0, 128 * h.val] (k0_pay9 x w) (wide h) : Narrow) (ix2 r d) = ∑ k : Fin 1024, x (ix2 r k) * w (ix2 k (feat h d)) := by
  pointwise [k0_pay9, k0_pay6]
  rfl
theorem hg_at (x : Block) (w : Cols) (h : Fin 8) (r : Fin 256) (d : Fin 128) :
    (extractStridedSlice S256x128 ![0, 128 * h.val]
      (k0_pay11 (k0_pay6 x) (k0_pay10 w) (constant S256x1024 .f32 0x00000000#32)) (wide h) : Tile) (ix2 r d)
      = ∑ k : Fin 1024, x (ix2 r k) * w (ix2 k (feat h d)) := by
  pointwise [k0_pay11, k0_pay10, k0_pay6]
  rfl
theorem line_at (g : FVec Ideal S1x1024 .f32) (h : Fin 8) (d : Fin 128) :
    View.ld (Val := Elt Ideal) (S := S1x1024) (e' := .f32) g (Rect.unit ![0, 128 * h.val] ![1, 128] (inbLine h)) (ix2 0 d) = g (ix2 0 (feat h d)) := by
  rw [View.ld_apply]
  refine congrArg g (funext fun a => Fin.ext ?_)
  match a with
  | ⟨0, _⟩ => rw [Rect.idx_unit_val]; rfl
  | ⟨1, _⟩ => rw [Rect.idx_unit_val]; rfl
theorem st_at (s : FVec Ideal S8x128x128 .f32) (h : Fin 8) (a d : Fin 128) :
    View.ld (Val := Elt Ideal) (S := S8x128x128) (e' := .f32) s (Rect.unit ![h.val, 0, 0] ![1, 128, 128] (inbState h)) (ix3 0 a d)
      = s (ix3 h a d) := by
  rw [View.ld_apply]
  refine congrArg s (funext fun a => Fin.ext ?_)
  match a with
  | ⟨0, _⟩ => rw [Rect.idx_unit_val]; rfl
  | ⟨1, _⟩ => rw [Rect.idx_unit_val]; exact Nat.zero_add _
  | ⟨2, _⟩ => rw [Rect.idx_unit_val]; exact Nat.zero_add _

section

variable {X : Tokens} {W : InWeights} {L : Bounds} {G : Affine} {b i : ℕ}
variable {x : Block} {w : FVec Ideal S1024x4096 .bf16} {lb g : FVec Ideal S1x1024 .f32}

/-- The block of tokens `i` of batch `b`; the weights' first four projections; the bounds; the scale. -/
def HasTokens (x : Block) (X : Tokens) (b i : ℕ) : Prop :=
  ∀ (r : Fin 256) (k : Fin 1024), x (ix2 r k) = X (ix3 (Fin.ofNat 8 b) (Fin.ofNat 4096 (256 * i + r.val)) k)
def HasWeights (w : FVec Ideal S1024x4096 .bf16) (W : InWeights) : Prop :=
  ∀ (k : Fin 1024) (n : Fin 4096), w (ix2 k n) = W (ix3 0 k (Fin.ofNat 9216 n.val))

/-- A projection of the block, at a head. -/
theorem proj_sum (hx : HasTokens x X b i) (hw : HasWeights w W) (j : Fin 4) (h : Fin 8) (r : Fin 256) (d : Fin 128) :
    ∑ k : Fin 1024, x (ix2 r k) * colsOf w j (ix2 k (feat h d)) = proj X W b (256 * i + r.val) (1024 * j.val + (128 * h.val + d.val)) := by
  unfold proj
  refine Finset.sum_congr rfl fun k _ => ?_
  rw [colsOf_at, hx, hw]
  rfl

variable (hx : HasTokens x X b i) (hw : HasWeights w W) (hl : ∀ n : Fin 1024, lb (ix2 0 n) = low L n.val)
include hx hw

theorem q_holds (h : Fin 8) : Holds i h.val ((extractStridedSlice S256x128 ![0, 128 * h.val] (k0_pay7 x (colsOf w 0)) (wide h) : Tile)) (proj X W b) := by
  intro r d
  rw [q_at, proj_sum hx hw]
  exact congrArg _ (Nat.zero_add _)
theorem v_holds (h : Fin 8) : Holds i h.val ((extractStridedSlice S256x128 ![0, 128 * h.val] (k0_pay9 x (colsOf w 2)) (wide h) : Narrow))
    (fun T n => proj X W b T (2048 + n)) := by
  intro r d
  rw [v_at, proj_sum hx hw]
  rfl
theorem hg_holds (h : Fin 8) : Holds i h.val ((extractStridedSlice S256x128 ![0, 128 * h.val]
      (k0_pay11 (k0_pay6 x) (k0_pay10 (colsOf w 3)) (constant S256x1024 .f32 0x00000000#32)) (wide h) : Tile)) (fun T n => proj X W b T (3072 + n)) := by
  intro r d
  rw [hg_at, proj_sum hx hw]
  rfl
include hl
theorem lf_holds (h : Fin 8) : Holds i h.val (lfTile ((extractStridedSlice S256x128 ![0, 128 * h.val] (k0_pay8 x (colsOf w 1)) (wide h) : Tile))
    (View.ld (Val := Elt Ideal) (S := S1x1024) (e' := .f32) lb (Rect.unit ![0, 128 * h.val] ![1, 128] (inbLine h)))) (lf X W L b) := by
  intro r d
  rw [lfTile_at, f_at, proj_sum hx hw, line_at, hl]
  rfl
theorem kin_holds (h : Fin 8) : Holds i h.val (kinTile ((extractStridedSlice S256x128 ![0, 128 * h.val] (k0_pay8 x (colsOf w 1)) (wide h) : Tile))
    (View.ld (Val := Elt Ideal) (S := S1x1024) (e' := .f32) lb (Rect.unit ![0, 128 * h.val] ![1, 128] (inbLine h)))) (kin X W L b) := by
  intro r d
  rw [kinTile_at, f_at, proj_sum hx hw, line_at, hl]
  rfl

/-- The states at the start of block `i` of batch `b`. -/
def HasStates (s : FVec Ideal S8x128x128 .f32) (X : Tokens) (W : InWeights) (L : Bounds) (b i : ℕ) : Prop :=
  ∀ (h : Fin 8) (a d : Fin 128), s (ix3 h a d)
    = state (lf X W L b) (kin X W L b) (fun T n => proj X W b T (2048 + n)) h.val (8 * i) a.val d.val

variable {s : FVec Ideal S8x128x128 .f32} (hs : HasStates s X W L b i)
include hs

/-- The states at its end. -/
theorem states_at (h : Fin 8) (a d : Fin 128) : stacked (statesOf x (colsOf w 1) (colsOf w 2) lb s) (ix3 h a d)
    = state (lf X W L b) (kin X W L b) (fun T n => proj X W b T (2048 + n)) h.val (8 * (i + 1)) a.val d.val := by
  show statesOf x (colsOf w 1) (colsOf w 2) lb s h (ix3 0 a d) = _
  unfold statesOf
  exact headState_at (lf_ne_top X W L b) (lf_holds hx hw hl h) (kin_holds hx hw hl h) (v_holds hx hw h)
    (fun a d => (st_at s h a d).trans (hs h a d)) a d

/-- The rows. -/
theorem rows_at (hg : ∀ n : Fin 1024, g (ix2 0 n) = G (ix2 0 n)) (r : Fin 256) (n : Fin 1024) :
    sideBySide (rowsOf x (colsOf w 0) (colsOf w 1) (colsOf w 2) (colsOf w 3) lb g s) (ix2 r n) = out X W L G b (256 * i + r.val) n.val := by
  show rowsOf x (colsOf w 0) (colsOf w 1) (colsOf w 2) (colsOf w 3) lb g s ⟨n.val / 128, Nat.div_lt_of_lt_mul n.isLt⟩
    (ix2 r ⟨n.val % 128, Nat.mod_lt _ (by decide)⟩) = _
  unfold rowsOf out
  refine headRows_at (lf_ne_top X W L b) (q_holds hx hw _) (lf_holds hx hw hl _) (kin_holds hx hw hl _) (v_holds hx hw _) (hg_holds hx hw _)
    (fun d => ?_) (fun a d => (st_at s _ a d).trans (hs _ a d)) r _
  rw [line_at, hg]
  exact congrArg (fun z => G (ix2 0 z)) (Fin.ext (Nat.mod_eq_of_lt (feat _ d).isLt).symm)

end

end Cert.Hgrn

end
-- ==== Proof.Hg.First.lean ====
/-
  A batch's first grid point: its outputs are the heads' of states that are zero.
-/
module

public import proofs.«01_k».proof.Proof.Gen.Kernel4Ideal.Frame
public import Idealize.ShloMosaic.PureOps.Ideal
public import Idealize.ShloMosaic.Lib.Pipeline.ReadBack
public import Idealize.ShloMosaic.Lib.Pipeline.Value
public import Idealize.ShloMosaic.Lib.Pipeline.ValueKit.Acc
public import Idealize.ShloMosaic.Lib.Pipeline.ValueKit.Tiles
public import proofs.«01_k».proof.Proof.Hg.Tile

@[expose] public section

set_option maxRecDepth 65536
set_option maxHeartbeats 4000000

noncomputable section

namespace Cert.Hgrn

open Cert.Kernel4Ideal Cert.Kernel4Ideal.Gen
open Idealize.ShloMosaic Idealize.ShloMosaic.TcCoe

section

variable (x : FVec Ideal S256x1024 .f32) (w0 w1 w2 w3 : FVec Ideal S1024x1024 .bf16) (lb g : FVec Ideal S1x1024 .f32)

/-- A head's rows, over its own state. -/
def rowsWith (s : FVec Ideal S1x128x128 .f32) (h : Fin 8) : Narrow :=
  headRows (extractStridedSlice S256x128 ![0, 128 * h.val] (k0_pay7 x w0) (wide h))
    (extractStridedSlice S256x128 ![0, 128 * h.val] (k0_pay8 x w1) (wide h))
    (extractStridedSlice S256x128 ![0, 128 * h.val] (k0_pay9 x w2) (wide h))
    (extractStridedSlice S256x128 ![0, 128 * h.val] (k0_pay11 (k0_pay6 x) (k0_pay10 w3) (constant S256x1024 .f32 0x00000000#32)) (wide h))
    (View.ld (Val := Elt Ideal) (S := S1x1024) (e' := .f32) lb (Rect.unit ![0, 128 * h.val] ![1, 128] (inbLine h)))
    (View.ld (Val := Elt Ideal) (S := S1x1024) (e' := .f32) g (Rect.unit ![0, 128 * h.val] ![1, 128] (inbLine h)))
    s

/-- A head's next state, over its own state. -/
def statesWith (s : FVec Ideal S1x128x128 .f32) (h : Fin 8) : FVec Ideal S1x128x128 .f32 :=
  headState (extractStridedSlice S256x128 ![0, 128 * h.val] (k0_pay8 x w1) (wide h))
    (extractStridedSlice S256x128 ![0, 128 * h.val] (k0_pay9 x w2) (wide h))
    (View.ld (Val := Elt Ideal) (S := S1x1024) (e' := .f32) lb (Rect.unit ![0, 128 * h.val] ![1, 128] (inbLine h)))
    s

/-- A head whose state is its part of the states makes its columns of the rows. -/
theorem pickWith (st : FVec Ideal S8x128x128 .f32) (j : S256x1024.Idx) (k : Fin 8) (y : S256x128.Idx) (s : FVec Ideal S1x128x128 .f32)
    (e : s = View.ld (Val := Elt Ideal) (S := S8x128x128) (e' := .f32) st (Rect.unit ![k.val, 0, 0] ![1, 128, 128] (inbState k)))
    (h0 : (j 0 : ℕ) = y 0) (h1 : (j 1 : ℕ) = 128 * k.val + y 1) :
    rowsWith x w0 w1 w2 w3 lb g s k y = sideBySide (rowsOf x w0 w1 w2 w3 lb g st) j := by
  subst e
  exact pick (rowsOf x w0 w1 w2 w3 lb g st) j k y h0 h1

/-- And its part of the next states. -/
theorem pickStateWith (st : FVec Ideal S8x128x128 .f32) (j : S8x128x128.Idx) (k : Fin 8) (y : S1x128x128.Idx) (s : FVec Ideal S1x128x128 .f32)
    (e : s = View.ld (Val := Elt Ideal) (S := S8x128x128) (e' := .f32) st (Rect.unit ![k.val, 0, 0] ![1, 128, 128] (inbState k)))
    (h0 : (j 0 : ℕ) = k.val + y 0) (h1 : (j 1 : ℕ) = y 1) (h2 : (j 2 : ℕ) = y 2) :
    statesWith x w1 w2 lb s k y = stacked (statesOf x w1 w2 lb st) j := by
  subst e
  exact pickState (statesOf x w1 w2 lb st) j k y h0 h1 h2

end

variable (m : (ℓ : Loc nD τ sig) → Buf (Elt Ideal) ℓ)

/-- The rows of a batch's first point. -/
theorem rows_first (c : Dev nD) (t : Fin cfg0.N) (h : t.val % 16 = 0) (j : S256x1024.Idx) : (outsAt0 m c t.val t.isLt).1 j
    = sideBySide (rowsOf (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal))) j := by
  rw [outsAt0_A m c t h]
  frame_out
  canon_tiles x h
  case piece7 =>
    refine pickWith (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal)) j 0 x _ ?_ (by omega) (by omega)
    exact zero_load0
  case piece6 =>
    refine pickWith (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal)) j 1 x _ ?_ (by omega) (by omega)
    exact zero_load1 _
  case piece5 =>
    refine pickWith (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal)) j 2 x _ ?_ (by omega) (by omega)
    exact zero_load2 _ _
  case piece4 =>
    refine pickWith (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal)) j 3 x _ ?_ (by omega) (by omega)
    exact zero_load3 _ _ _
  case piece3 =>
    refine pickWith (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal)) j 4 x _ ?_ (by omega) (by omega)
    exact zero_load4 _ _ _ _
  case piece2 =>
    refine pickWith (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal)) j 5 x _ ?_ (by omega) (by omega)
    exact zero_load5 _ _ _ _ _
  case piece1 =>
    refine pickWith (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal)) j 6 x _ ?_ (by omega) (by omega)
    exact zero_load6 _ _ _ _ _ _
  case piece0 =>
    refine pickWith (iblk m c 0 t) (colsOf (iblk m c 1 t) 0) (colsOf (iblk m c 1 t) 1) (colsOf (iblk m c 1 t) 2) (colsOf (iblk m c 1 t) 3)
      (iblk m c 2 t) (iblk m c 3 t) (k0_pay1 (F := Ideal)) j 7 x _ ?_ (by omega) (by omega)
    exact zero_load7 _ _ _ _ _ _ _

/-- The states such a point leaves. -/
theorem states_first (c : Dev nD) (t : Fin cfg0.N) (h : t.val % 16 = 0) (j : S8x128x128.Idx) : (outsAt0 m c t.val t.isLt).2 j
    = stacked (statesOf (iblk m c 0 t) (colsOf (iblk m c 1 t) 1) (colsOf (iblk m c 1 t) 2) (iblk m c 2 t) (k0_pay1 (F := Ideal))) j := by
  rw [outsAt0_A m c t h]
  frame_out
  refine (canon_hides [_, _, _, _, _, _, _, _] [_] j (View.cover_of_tiled_head _ _ _ (by rfl) j)).trans ?_
  canon_tiles x h
  case piece7 =>
    refine pickStateWith (iblk m c 0 t) (colsOf (iblk m c 1 t) 1) (colsOf (iblk m c 1 t) 2) (iblk m c 2 t) (k0_pay1 (F := Ideal)) j 0 x _ ?_ (by omega) (by omega) (by omega)
    exact zero_load0
  case piece6 =>
    refine pickStateWith (iblk m c 0 t) (colsOf (iblk m c 1 t) 1) (colsOf (iblk m c 1 t) 2) (iblk m c 2 t) (k0_pay1 (F := Ideal)) j 1 x _ ?_ (by omega) (by omega) (by omega)
    exact zero_load1 _
  case piece5 =>
    refine pickStateWith (iblk m c 0 t) (colsOf (iblk m c 1 t) 1) (colsOf (iblk m c 1 t) 2) (iblk m c 2 t) (k0_pay1 (F := Ideal)) j 2 x _ ?_ (by omega) (by omega) (by omega)
    exact zero_load2 _ _
  case piece4 =>
    refine pickStateWith (iblk m c 0 t) (colsOf (iblk m c 1 t) 1) (colsOf (iblk m c 1 t) 2) (iblk m c 2 t) (k0_pay1 (F := Ideal)) j 3 x _ ?_ (by omega) (by omega) (by omega)
    exact zero_load3 _ _ _
  case piece3 =>
    refine pickStateWith (iblk m c 0 t) (colsOf (iblk m c 1 t) 1) (colsOf (iblk m c 1 t) 2) (iblk m c 2 t) (k0_pay1 (F := Ideal)) j 4 x _ ?_ (by omega) (by omega) (by omega)
    exact zero_load4 _ _ _ _
  case piece2 =>
    refine pickStateWith (iblk m c 0 t) (colsOf (iblk m c 1 t) 1) (colsOf (iblk m c 1 t) 2) (iblk m c 2 t) (k0_pay1 (F := Ideal)) j 5 x _ ?_ (by omega) (by omega) (by omega)
    exact zero_load5 _ _ _ _ _
  case piece1 =>
    refine pickStateWith (iblk m c 0 t) (colsOf (iblk m c 1 t) 1) (colsOf (iblk m c 1 t) 2) (iblk m c 2 t) (k0_pay1 (F := Ideal)) j 6 x _ ?_ (by omega) (by omega) (by omega)
    exact zero_load6 _ _ _ _ _ _
  case piece0 =>
    refine pickStateWith (iblk m c 0 t) (colsOf (iblk m c 1 t) 1) (colsOf (iblk m c 1 t) 2) (iblk m c 2 t) (k0_pay1 (F := Ideal)) j 7 x _ ?_ (by omega) (by omega) (by omega)
    exact zero_load7 _ _ _ _ _ _ _

end Cert.Hgrn

end
-- ==== Proof.Hg.Later.lean ====
/-
  A grid point that is not its batch's first: its outputs are the heads' of the states the point before left.
-/
module

public import proofs.«01_k».proof.Proof.Gen.Kernel4Ideal.Frame
public import Idealize.ShloMosaic.PureOps.Ideal
public import Idealize.ShloMosaic.Lib.Pipeline.ReadBack
public import Idealize.ShloMosaic.Lib.Pipeline.Value
public import Idealize.ShloMosaic.Lib.Pipeline.ValueKit.Acc
public import Idealize.ShloMosaic.Lib.Pipeline.ValueKit.Tiles
public import proofs.«01_k».proof.Proof.Hg.Tile

@[expose] public section

set_option maxRecDepth 65536
set_option maxHeartbeats 4000000

noncomputable section

namespace Cert.Hgrn

open Cert.Kernel4Ideal Cert.Kernel4Ideal.Gen
open Idealize.ShloMosaic Idealize.ShloMosaic.TcCoe

variable (m : (ℓ : Loc nD τ sig) → Buf (Elt Ideal) ℓ)

/-- The rows of a point that is not a batch's first. -/
theorem rows_later (c : Dev nD) (t : Fin cfg0.N) (h : ¬t.val % 16 = 0) (j : S256x1024.Idx) : (outsAt0 m c t.val t.isLt).1 j
    = sideBySide (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j := by
  rw [outsAt0_B m c t h]
  frame_out
  rw [read_unread_whole]
  canon_tiles x h
  case piece7 => exact pick (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j 0 x (by omega) (by omega)
  case piece6 => exact pick (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j 1 x (by omega) (by omega)
  case piece5 => exact pick (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j 2 x (by omega) (by omega)
  case piece4 => exact pick (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j 3 x (by omega) (by omega)
  case piece3 => exact pick (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j 4 x (by omega) (by omega)
  case piece2 => exact pick (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j 5 x (by omega) (by omega)
  case piece1 => exact pick (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j 6 x (by omega) (by omega)
  case piece0 => exact pick (rowsOf (iblk m c 0 t) (colsOf (iblk m c 1 t) 0) (colsOf (iblk m c 1 t) 1) (colsOf (iblk m c 1 t) 2) (colsOf (iblk m c 1 t) 3)
      (iblk m c 2 t) (iblk m c 3 t) (outsAt0 m c (t.val - 1) (Nat.lt_of_le_of_lt (Nat.sub_le _ _) t.isLt)).2) j 7 x (by omega) (by omega)

/-- The states such a point leaves. -/
theorem states_later (c : Dev nD) (t : Fin cfg0.N) (h : ¬t.val % 16 = 0) (j : S8x128x128.Idx) : (outsAt0 m c t.val t.isLt).2 j
    = stacked (statesOf (iblk m c 0 t) (colsOf (iblk m c 1 t) 1) (colsOf (iblk m c 1 t) 2)
      (iblk m c 2 t) (outsAt0 m c (t.val - 1) (Nat.lt_of_le_of_lt (Nat.sub_le _ _) t.isLt)).2) j := by
  rw [outsAt0_B m c t h]
  frame_out
  rw [read_unread_whole]
  canon_tiles x h
  case piece7 => exact pickState (statesOf (iblk m c 0 t) (colsOf (iblk m c 1 t) 1) (colsOf (iblk m c 1 t) 2)
      (iblk m c 2 t) (outsAt0 m c (t.val - 1) (Nat.lt_of_le_of_lt (Nat.sub_le _ _) t.isLt)).2) j 0 x (by omega) (by omega) (by omega)
  case piece6 => exact pickState (statesOf (iblk m c 0 t) (colsOf (iblk m c 1 t) 1) (colsOf (iblk m c 1 t) 2)
      (iblk m c 2 t) (outsAt0 m c (t.val - 1) (Nat.lt_of_le_of_lt (Nat.sub_le _ _) t.isLt)).2) j 1 x (by omega) (by omega) (by omega)
  case piece5 => exact pickState (statesOf (iblk m c 0 t) (colsOf (iblk m c 1 t) 1) (colsOf (iblk m c 1 t) 2)
      (iblk m c 2 t) (outsAt0 m c (t.val - 1) (Nat.lt_of_le_of_lt (Nat.sub_le _ _) t.isLt)).2) j 2 x (by omega) (by omega) (by omega)
  case piece4 => exact pickState (statesOf (iblk m c 0 t) (colsOf (iblk m c 1 t) 1) (colsOf (iblk m c 1 t) 2)
      (iblk m c 2 t) (outsAt0 m c (t.val - 1) (Nat.lt_of_le_of_lt (Nat.sub_le _ _) t.isLt)).2) j 3 x (by omega) (by omega) (by omega)
  case piece3 => exact pickState (statesOf (iblk m c 0 t) (colsOf (iblk m c 1 t) 1) (colsOf (iblk m c 1 t) 2)
      (iblk m c 2 t) (outsAt0 m c (t.val - 1) (Nat.lt_of_le_of_lt (Nat.sub_le _ _) t.isLt)).2) j 4 x (by omega) (by omega) (by omega)
  case piece2 => exact pickState (statesOf (iblk m c 0 t) (colsOf (iblk m c 1 t) 1) (colsOf (iblk m c 1 t) 2)
      (iblk m c 2 t) (outsAt0 m c (t.val - 1) (Nat.lt_of_le_of_lt (Nat.sub_le _ _) t.isLt)).2) j 5 x (by omega) (by omega) (by omega)
  case piece1 => exact pickState (statesOf (iblk m c 0 t) (colsOf (iblk m c 1 t) 1) (colsOf (iblk m c 1 t) 2)
      (iblk m c 2 t) (outsAt0 m c (t.val - 1) (Nat.lt_of_le_of_lt (Nat.sub_le _ _) t.isLt)).2) j 6 x (by omega) (by omega) (by omega)
  case piece0 => exact pickState (statesOf (iblk m c 0 t) (colsOf (iblk m c 1 t) 1) (colsOf (iblk m c 1 t) 2)
      (iblk m c 2 t) (outsAt0 m c (t.val - 1) (Nat.lt_of_le_of_lt (Nat.sub_le _ _) t.isLt)).2) j 7 x (by omega) (by omega) (by omega)

end Cert.Hgrn

end
-- ==== Proof.Hg.Value.lean ====
/-
  The kernel's rows are the recurrence's, by the grid points in order.
-/
module

public import proofs.«01_k».proof.Proof.Hg.Point
public import proofs.«01_k».proof.Proof.Hg.First
public import proofs.«01_k».proof.Proof.Hg.Later
public import Idealize.ShloMosaic.Lib.Pipeline.ValueKit
public import Idealize.ShloMosaic.Lib.Claim

@[expose] public section

set_option maxRecDepth 16384

noncomputable section

namespace Cert.Hgrn

open Idealize.ShloMosaic Idealize.ShloMosaic.TcCoe
open Cert.Kernel4Ideal Cert.Kernel4Ideal.Gen

variable (m : (ℓ : Loc nD τ sig) → Buf (Elt Ideal) ℓ) (c : Dev nD) (t : Fin cfg0.N)

/-- The windows' index maps. -/
theorem idx : ∀ t : Fin cfg0.N,
    win0_0.index t = ![t.val, 0] ∧ win0_1.index t = ![0, 0] ∧ win0_2.index t = ![0, 0] ∧ win0_3.index t = ![0, 0]
    ∧ win0_4.index t = ![t.val, 0] ∧ t.val < 128 :=
  (by decide +kernel : ∀ t : Fin grid0.N, _)

/-- The arguments. -/
abbrev aX : Tokens := m ((c : Thread nD τ).loc main_arg0)
abbrev aW : InWeights := m ((c : Thread nD τ).loc main_arg1)
abbrev aL : Bounds := m ((c : Thread nD τ).loc main_arg2)
abbrev aG : Affine := m ((c : Thread nD τ).loc main_arg3)

/-- The arrays the region is entered with, at an index. -/
theorem x_at (p : Fin 32768) (k : Fin 1024) : (V m c main_v14 : FVec Ideal S32768x1024 .f32) (ix2 p k)
    = aX m c (ix3 (Fin.ofNat 8 (p.val / 4096)) (Fin.ofNat 4096 (p.val % 4096)) k) := by
  have e : (V m c main_v14 : FVec Ideal S32768x1024 .f32) = shapeCast S32768x1024 (aX m c) shapeCasts_S8x4096x1024_S32768x1024 := by
    unfold V aX
    entry_read
    rfl
  rw [e]
  pointwise
  exact congrArg _ (by congr 1 <;> exact Fin.ext (by simp only [Fin.ofNat]; omega))
theorem w_at (k : Fin 1024) (n : Fin 4096) : (V m c main_v17 : FVec Ideal S1024x4096 .bf16) (ix2 k n) = aW m c (ix3 0 k (Fin.ofNat 9216 n.val)) := by
  have e : (V m c main_v17 : FVec Ideal S1024x4096 .bf16) = extractStridedSlice S1024x4096 ![0, 0]
      (truncf .bf16 (shapeCast S1024x9216 (aW m c) shapeCasts_S1x1024x9216_S1024x9216) bitsLt_bf16_f32 : FVec Ideal S1024x9216 .bf16)
      slices_S1024x9216_S1024x4096_0_0 := by
    unfold V aW
    entry_read
    rfl
  rw [e]
  pointwise
  exact congrArg _ (by congr 1 <;> exact Fin.ext (by simp only [Fin.ofNat]; omega))
theorem lb_at (n : Fin 1024) : (V m c main_v19 : FVec Ideal S1x1024 .f32) (ix2 0 n) = low (aL m c) n.val := by
  have e : (V m c main_v19 : FVec Ideal S1x1024 .f32) = shapeCast S1x1024 (bounds (soft (expo (aL m c)))) shapeCasts_S1024_S1x1024 := by
    unfold V aL
    entry_read
    rfl
  rw [e]
  generalize hb : bounds (soft (expo (aL m c))) = B
  pointwise
  unfold low
  rw [hb]
  exact congrArg _ (by congr 1 <;> exact Fin.ext (by simp only [Fin.ofNat]; omega))
theorem g_at (n : Fin 1024) : (V m c main_v20 : FVec Ideal S1x1024 .f32) (ix2 0 n) = aG m c (ix2 0 n) := by
  have e : (V m c main_v20 : FVec Ideal S1x1024 .f32)
      = shapeCast S1x1024 (shapeCast S1024 (aG m c) shapeCasts_S1x1024_S1024) shapeCasts_S1024_S1x1024 := by
    unfold V aG
    entry_read
    rfl
  rw [e]
  pointwise

/-- The blocks a point is handed. -/
theorem x_blk : HasTokens (iblk m c 0 t) (aX m c) (t.val / 16) (t.val % 16) := by
  intro r k
  obtain ⟨e0, -, -, -, -, hlt⟩ := idx t
  unfold iblk
  blk_simp
  rw [show (win0_0.blk t).view.emb (ix2 r k) = ix2 ⟨256 * t.val + r.val, by have := r.isLt; omega⟩ k by blk_ext [e0]]
  refine (x_at m c _ k).trans ?_
  have := r.isLt
  exact congrArg _ (by congr 1 <;> exact Fin.ext (by simp only [Fin.ofNat]; omega))
theorem w_blk : HasWeights (iblk m c 1 t) (aW m c) := by
  intro k n
  obtain ⟨-, e1, -, -, -, hlt⟩ := idx t
  unfold iblk
  blk_simp
  rw [show (win0_1.blk t).view.emb (ix2 k n) = ix2 k n by blk_ext [e1]]
  exact w_at m c k n
theorem lb_blk (n : Fin 1024) : (iblk m c 2 t : FVec Ideal S1x1024 .f32) (ix2 0 n) = low (aL m c) n.val := by
  obtain ⟨-, -, e2, -, -, hlt⟩ := idx t
  unfold iblk
  blk_simp
  rw [show (win0_2.blk t).view.emb (ix2 0 n) = ix2 0 n by blk_ext [e2]]
  exact lb_at m c n
theorem g_blk (n : Fin 1024) : (iblk m c 3 t : FVec Ideal S1x1024 .f32) (ix2 0 n) = aG m c (ix2 0 n) := by
  obtain ⟨-, -, -, e3, -, hlt⟩ := idx t
  unfold iblk
  blk_simp
  rw [show (win0_3.blk t).view.emb (ix2 0 n) = ix2 0 n by blk_ext [e3]]
  exact g_at m c n

/-- The zero states are those at a batch's start. -/
theorem zero_states (b : ℕ) : HasStates (k0_pay1 (F := Ideal)) (aX m c) (aW m c) (aL m c) b 0 := by
  intro h a d
  pointwise [k0_pay1]
  rfl

/-- What a point leaves in its scratch buffer: the states at its block's end. -/
theorem left_states : ∀ (n : ℕ) (hn : n < cfg0.N),
    HasStates (outsAt0 m c n hn).2 (aX m c) (aW m c) (aL m c) (n / 16) (n % 16 + 1) := by
  intro n
  induction n with
  | zero =>
    intro hn h a d
    refine (states_first m c ⟨0, hn⟩ rfl (ix3 h a d)).trans ?_
    exact states_at (x_blk m c ⟨0, hn⟩) (w_blk m c ⟨0, hn⟩) (lb_blk m c ⟨0, hn⟩) (zero_states m c 0) h a d
  | succ n ih =>
    intro hn h a d
    by_cases h0 : (n + 1) % 16 = 0
    · refine (states_first m c ⟨n + 1, hn⟩ h0 (ix3 h a d)).trans ?_
      have hx := x_blk m c ⟨n + 1, hn⟩
      dsimp only at hx
      rw [h0] at hx ⊢
      exact states_at hx (w_blk m c ⟨n + 1, hn⟩) (lb_blk m c ⟨n + 1, hn⟩) (zero_states m c _) h a d
    · refine (states_later m c ⟨n + 1, hn⟩ h0 (ix3 h a d)).trans ?_
      have hp := ih (Nat.lt_of_succ_lt hn)
      rw [show n / 16 = (n + 1) / 16 by omega, show n % 16 + 1 = (n + 1) % 16 by omega] at hp
      exact states_at (x_blk m c ⟨n + 1, hn⟩) (w_blk m c ⟨n + 1, hn⟩) (lb_blk m c ⟨n + 1, hn⟩) hp h a d

/-- What a point makes: its rows of the recurrence. -/
theorem made_rows (r : Fin 256) (n : Fin 1024) : (outsAt0 m c t.val t.isLt).1 (ix2 r n)
    = out (aX m c) (aW m c) (aL m c) (aG m c) (t.val / 16) (256 * (t.val % 16) + r.val) n.val := by
  by_cases h0 : t.val % 16 = 0
  · refine (rows_first m c t h0 (ix2 r n)).trans ?_
    have hx := x_blk m c t
    rw [h0] at hx ⊢
    exact rows_at hx (w_blk m c t) (lb_blk m c t) (zero_states m c _) (g_blk m c t) r n
  · refine (rows_later m c t h0 (ix2 r n)).trans ?_
    have hp := left_states m c (t.val - 1) (Nat.lt_of_le_of_lt (Nat.sub_le _ _) t.isLt)
    rw [show (t.val - 1) / 16 = t.val / 16 by omega, show (t.val - 1) % 16 + 1 = t.val % 16 by omega] at hp
    exact rows_at (x_blk m c t) (w_blk m c t) (lb_blk m c t) hp (g_blk m c t) r n

/-- The output array after the last point. -/
theorem final : (dats m 0 c).arrAt 4 cfg0.N = rows (aX m c) (aW m c) (aL m c) (aG m c) := by
  refine (dats m 0 c).arrAt_eq_of_covers 4 _ (by decide +kernel) fun t _ y => ?_
  obtain ⟨-, -, -, -, e4, hlt⟩ := idx t
  blk_simp
  rw [after0_4]
  obtain ⟨p, q, rfl⟩ : ∃ (p : Fin 256) (q : Fin 1024), y = ix2 p q := ⟨y 0, y 1, eq_ix2 y⟩
  have hp := p.isLt
  rw [show (win0_4.blk t).view.emb (ix2 p q) = ix2 ⟨256 * t.val + p.val, by omega⟩ q by blk_ext [e4]]
  refine (made_rows m c t p q).trans ?_
  show _ = out _ _ _ _ ((256 * t.val + p.val) / 4096) ((256 * t.val + p.val) % 4096) q.val
  rw [show (256 * t.val + p.val) / 4096 = t.val / 16 by omega, show (256 * t.val + p.val) % 4096 = 256 * (t.val % 16) + p.val by omega]

end Cert.Hgrn

end
-- ==== Proof.Hg.RefDef.lean ====
/-
  The reference's lines as closed terms: the projections, the log of the forget gate and the input, their chunks, the sums along
  a chunk, the attention inside a chunk and the normed rows; and that its operations hold them.
-/
module

public import proofs.«01_k».proof.Proof.Hg.Spec
public import proofs.«01_k».proof.Proof.Gen.Reference4Ideal.Run
public import Idealize.ShloMosaic.Lib.StableHlo.RunRead
public import Idealize.ShloMosaic.Lib.StableHlo.RunClose
public import Idealize.ShloMosaic.Lib.Pointwise

@[expose] public section

set_option maxRecDepth 16384

noncomputable section

namespace Cert.Hgrn.Ref

open Cert.Reference4Ideal Cert.Reference4Ideal.Gen Cert.Reference4Ideal.Value Cert.Hgrn
open Idealize.ShloMosaic Idealize.ShloMosaic.TcCoe Idealize.ShloMosaic.StableHlo Idealize.SL.Sem

abbrev Wide := FVec Ideal S8x4096x1024 .f32
abbrev Chunks := FVec Ideal S128x8x8x32x128 .f32
abbrev Lasts := FVec Ideal S128x8x8x1x128 .f32
abbrev States := FVec Ideal S8x8x128x128 .f32

/-- The projection of every token. -/
def projected (X : Tokens) (W : InWeights) : FVec Ideal S8x4096x9216 .f32 :=
  Host.dotGeneral dot_S8x4096x1024_S1024x9216_S8x4096x9216_2_0_01_1_n_n none X (shapeCast S1024x9216 W shapeCasts_S1x1024x9216_S1024x9216)
def part0 (P : FVec Ideal S8x4096x9216 .f32) : Wide := extractStridedSlice S8x4096x1024 ![0, 0, 0] P slices_S8x4096x9216_S8x4096x1024_0_0_0
def part1 (P : FVec Ideal S8x4096x9216 .f32) : Wide := extractStridedSlice S8x4096x1024 ![0, 0, 1024] P slices_S8x4096x9216_S8x4096x1024_0_0_1024
def part2 (P : FVec Ideal S8x4096x9216 .f32) : Wide := extractStridedSlice S8x4096x1024 ![0, 0, 2048] P slices_S8x4096x9216_S8x4096x1024_0_0_2048
def part3 (P : FVec Ideal S8x4096x9216 .f32) : Wide := extractStridedSlice S8x4096x1024 ![0, 0, 3072] P slices_S8x4096x9216_S8x4096x1024_0_0_3072

/-- One at every entry. -/
def ones : Wide := broadcastInDim S8x4096x1024 ![] bcast_S_S8x4096x1024 (constant S_ .f32 0x3F800000#32)
/-- The logistic function. -/
def logistic (x : Wide) : Wide := Host.divf ones (addf ones (Host.exp (Host.negf x)))
/-- A vector of features repeated over the tokens. -/
def spread (l : FVec Ideal S1024 .f32) : Wide :=
  broadcastInDim S8x4096x1024 ![0, 1, 2] bcast_S1x1x1024_S8x4096x1024_0_1_2 (broadcastInDim S1x1x1024 ![2] bcast_S1024_S1x1x1024_2 l)
/-- One minus the bounds. -/
def rest (l : FVec Ideal S1024 .f32) : FVec Ideal S1024 .f32 := subf (broadcastInDim S1024 ![] bcast_S_S1024 (constant S_ .f32 0x3F800000#32)) l
/-- The log of the forget gate. -/
def logForget (l : FVec Ideal S1024 .f32) (f : Wide) : Wide := Host.log (addf (spread l) (mulf (spread (rest l)) (logistic f)))
/-- The input. -/
def input (l : FVec Ideal S1024 .f32) (f : Wide) : Wide := mulf (spread (rest l)) (logistic (Host.negf f))
/-- Features cut into heads and tokens into chunks. -/
def chunked (y : Wide) : Chunks :=
  transpose S128x8x8x32x128 [1, 0, 3, 2, 4] (shapeCast S8x128x32x8x128 (shapeCast S8x4096x8x128 y shapeCasts_S8x4096x1024_S8x4096x8x128)
    shapeCasts_S8x4096x8x128_S8x128x32x8x128) transposes_S8x128x32x8x128_S128x8x8x32x128_1_0_3_2_4
/-- The sums along a chunk. -/
def scan (x : Chunks) : Chunks :=
  Host.reduceWindowAdd ![1, 1, 1, 32, 1] ![1, 1, 1, 1, 1] ![0, 0, 0, 31, 0] ![0, 0, 0, 0, 0] x
    (broadcastInDim S_ ![] bcast_S_S_ (constant S_ .f32 0x00000000#32))
    reduceWindows_S128x8x8x32x128_S128x8x8x32x128_w1s1p0_0_w1s1p0_0_w1s1p0_0_w32s1p31_0_w1s1p0_0 h_S_
/-- The last of them. -/
def lastOf (s : Chunks) : Lasts := extractStridedSlice S128x8x8x1x128 ![0, 0, 0, 31, 0] s slices_S128x8x8x32x128_S128x8x8x1x128_0_0_0_31_0
def spreadLast (s : Chunks) : Chunks := broadcastInDim S128x8x8x32x128 ![0, 1, 2, 3, 4] bcast_S128x8x8x1x128_S128x8x8x32x128_0_1_2_3_4 (lastOf s)
def fromStart (q s : Chunks) : Chunks := mulf q (Host.exp s)
def fromEnd (q s : Chunks) : Chunks := mulf q (Host.exp (subf s (spreadLast s)))
def toEnd (k s : Chunks) : Chunks := mulf k (Host.exp (subf (spreadLast s) s))
/-- The pairs of a chunk's tokens whose second is not after the first. -/
def lower : IVec S32x32 1 :=
  select (cmpi .sge (addi (iotaInDim S32x32 32 0) (broadcastInDim S32x32 ![] bcast_S_S32x32 (constantI S_ 32 0#32))) (iotaInDim S32x32 32 1))
    (broadcastInDim S32x32 ![] bcast_S_S32x32 (constantI S_ 1 1#1)) (broadcastInDim S32x32 ![] bcast_S_S32x32 (constantI S_ 1 0#1))
/-- The attention inside a chunk. -/
def within (q k v : Chunks) : Chunks :=
  Host.dotGeneral dot_S128x8x8x32x32_S128x8x8x32x128_S128x8x8x32x128_4_3_3_4_012_012 none
    (select (broadcastInDim S128x8x8x32x32 ![3, 4] bcast_S32x32_S128x8x8x32x32_3_4 lower)
      (Host.dotGeneral dot_S128x8x8x32x128_S128x8x8x32x128_S128x8x8x32x32_4_4_3_3_012_012 none q k : FVec Ideal S128x8x8x32x32 .f32)
      (broadcastInDim S128x8x8x32x32 ![] bcast_S_S128x8x8x32x32 (constant S_ .f32 0x00000000#32))) v
/-- The chunks put back together. -/
def joined (a b : Chunks) : FVec Ideal S8x4096x8x128 .f32 :=
  shapeCast S8x4096x8x128 (transpose S8x128x32x8x128 [1, 0, 3, 2, 4] (addf a b) transposes_S128x8x8x32x128_S8x128x32x8x128_1_0_3_2_4)
    shapeCasts_S8x128x32x8x128_S8x4096x8x128
/-- The norm over a head's features. -/
def normed (o : FVec Ideal S8x4096x8x128 .f32) : FVec Ideal S8x4096x8x128 .f32 :=
  mulf o (broadcastInDim S8x4096x8x128 ![0, 1, 2, 3] bcast_S8x4096x8x1_S8x4096x8x128_0_1_2_3 (Host.rsqrt (addf
    (Host.divf (broadcastInDim S8x4096x8x1 ![0, 1, 2] bcast_S8x4096x8_S8x4096x8x1_0_1_2
      (Host.reduceAdd (mulf o o) (constant S_ .f32 0x00000000#32) reducesTo_S8x4096x8x128_S8x4096x8_d3 h_S_))
      (broadcastInDim S8x4096x8x1 ![] bcast_S_S8x4096x8x1 (constant S_ .f32 0x43000000#32)))
    (broadcastInDim S8x4096x8x1 ![] bcast_S_S8x4096x8x1 (constant S_ .f32 0x358637BD#32)))))
/-- The rows, scaled and gated. -/
def gated (o : FVec Ideal S8x4096x8x128 .f32) (G : Affine) (hg : Wide) : Rows :=
  truncf .bf16 (shapeCast S32768x1024 (mulf (shapeCast S8x4096x1024 (mulf (normed o)
    (broadcastInDim S8x4096x8x128 ![0, 1, 2, 3] bcast_S1x1x8x128_S8x4096x8x128_0_1_2_3 (broadcastInDim S1x1x8x128 ![2, 3] bcast_S8x128_S1x1x8x128_2_3
      (shapeCast S8x128 (shapeCast S1024 G shapeCasts_S1x1024_S1024) shapeCasts_S1024_S8x128)))) shapeCasts_S8x4096x8x128_S8x4096x1024)
    (mulf hg (logistic hg))) shapeCasts_S8x4096x1024_S32768x1024 : FVec Ideal S32768x1024 .f32) bitsLt_bf16_f32

/-! The reads. -/

section

variable (V : Valuation τ sig (Elt Ideal))

/-- The operations up to the chunks' making, and those from it to the loop. -/
abbrev early : List (List (HloOp τ sig (Elt Ideal))) := [hostOps0, hostOps0_1, hostOps0_2]
abbrev late : List (List (HloOp τ sig (Elt Ideal))) := [hostOps0_3, hostOps0_4, hostOps0_5, hostOps0_6, hostOps0_7, hostOps0_8]

abbrev vX : Tokens := V (Proc.devRef .tc main_arg0)
abbrev vW : InWeights := V (Proc.devRef .tc main_arg1)
abbrev vL : Bounds := V (Proc.devRef .tc main_arg2)
abbrev vG : Affine := V (Proc.devRef .tc main_arg3)

theorem low_read : after hostOps0_1 (after hostOps0 V) (Proc.devRef .tc main_v11)
    = Host.reduceWindowAdd ![2, 1] ![1, 1] ![1, 0] ![0, 0] (soft (expo (vL V)))
    (broadcastInDim S_ ![] bcast_S_S_ (constant S_ .f32 0x00000000#32)) reduceWindows_S2x1024_S2x1024_w2s1p1_0_w1s1p0_0 h_S_ := by
  after_reads_simp
  rfl
theorem q_read : after hostOps0_2 V (Proc.devRef .tc main_v52) = chunked (part0 (projected (vX V) (vW V))) := by
  after_reads_simp
  rfl
theorem v_read : after hostOps0_2 V (Proc.devRef .tc main_v58) = chunked (part2 (projected (vX V) (vW V))) := by
  after_reads_simp
  rfl
theorem hg_read : after hostOps0_2 V (Proc.devRef .tc main_v19) = part3 (projected (vX V) (vW V)) := by
  after_reads_simp
  rfl

/-- The bounds of two rows of sums. -/
def firstRow (C : FVec Ideal S2x1024 .f32) : FVec Ideal S1024 .f32 :=
  shapeCast S1024 (extractStridedSlice S1x1024 ![0, 0] C slices_S2x1024_S1x1024_0_0) shapeCasts_S1x1024_S1024
theorem lf_read : after hostOps0_2 V (Proc.devRef .tc main_v54)
    = chunked (logForget (firstRow (V (Proc.devRef .tc main_v11))) (part1 (projected (vX V) (vW V)))) := by
  after_reads_simp
  rfl
theorem k_read : after hostOps0_2 V (Proc.devRef .tc main_v56)
    = chunked (input (firstRow (V (Proc.devRef .tc main_v11))) (part1 (projected (vX V) (vW V)))) := by
  after_reads_simp
  rfl

theorem late_0 : afterL late V (Proc.devRef .tc main_v78_0)
    = fromStart (V (Proc.devRef .tc main_v52)) (scan (V (Proc.devRef .tc main_v54))) := by
  simp only [afterL_cons, afterL_nil]
  after_reads_simp
  rfl
theorem late_1 : afterL late V (Proc.devRef .tc main_v78_1)
    = toEnd (V (Proc.devRef .tc main_v56)) (scan (V (Proc.devRef .tc main_v54))) := by
  simp only [afterL_cons, afterL_nil]
  after_reads_simp
  rfl
theorem late_2 : afterL late V (Proc.devRef .tc main_v78_2) = V (Proc.devRef .tc main_v58) := by
  simp only [afterL_cons, afterL_nil]
  after_reads_simp
  rfl
theorem late_3 : afterL late V (Proc.devRef .tc main_v78_3) = lastOf (scan (V (Proc.devRef .tc main_v54))) := by
  simp only [afterL_cons, afterL_nil]
  after_reads_simp
  rfl
theorem late_5 : afterL late V (Proc.devRef .tc main_v78_5)
    = broadcastInDim S8x8x128x128 ![] bcast_S_S8x8x128x128 (constant (F := Ideal) S_ .f32 0x00000000#32) := by
  simp only [afterL_cons, afterL_nil]
  after_reads_simp
  rfl
theorem late_in : afterL late V (Proc.devRef .tc main_v75)
    = within (fromEnd (V (Proc.devRef .tc main_v52)) (scan (V (Proc.devRef .tc main_v54))))
        (toEnd (V (Proc.devRef .tc main_v56)) (scan (V (Proc.devRef .tc main_v54)))) (V (Proc.devRef .tc main_v58)) := by
  simp only [afterL_cons, afterL_nil]
  after_reads_simp
  rfl
theorem late_hg : afterL late V (Proc.devRef .tc main_v19) = V (Proc.devRef .tc main_v19) := by
  simp only [afterL_cons, afterL_nil]
  after_reads_simp
theorem post_read : afterL postI V (Proc.devRef .tc main_v101)
    = gated (joined (V (Proc.devRef .tc main_v75)) (V (Proc.devRef .tc main_v78_6))) (vG V) (V (Proc.devRef .tc main_v19)) := by
  simp only [afterL_cons, afterL_nil]
  after_reads_simp
  rfl

end

end Cert.Hgrn.Ref

end
-- ==== Proof.Hg.RefAt.lean ====
/-
  The reference's terms at an index: entry `s` of chunk `c` of batch `b` is the recurrence's at token `32 * c + s`.
-/
module

public import proofs.«01_k».proof.Proof.Hg.RefDef
public import Idealize.ShloMosaic.Lib.DynamicIndex
public import Idealize.ShloMosaic.Lib.Pipeline.Value
public import Idealize.ShloMosaic.Lib.WordCmp

@[expose] public section

set_option maxRecDepth 16384

noncomputable section

namespace Cert.Hgrn.Ref

open Cert.Reference4Ideal Cert.Reference4Ideal.Gen Cert.Hgrn
open Idealize.ShloMosaic Idealize.ShloMosaic.TcCoe

/-- Features of a head, tokens of a chunk. -/
def col (h : Fin 8) (d : Fin 128) : Fin 1024 := ⟨128 * h.val + d.val, by have := h.isLt; have := d.isLt; omega⟩
def tokOf (c : Fin 128) (s : Fin 32) : Fin 4096 := ⟨32 * c.val + s.val, by have := c.isLt; have := s.isLt; omega⟩

/-- A wide array is `P`; a chunked one is `P`, cut. -/
def IsWide (y : Wide) (P : ℕ → ℕ → ℕ → EReal) : Prop := ∀ (b : Fin 8) (T : Fin 4096) (n : Fin 1024), y (ix3 b T n) = P b.val T.val n.val
def IsCut (y : Chunks) (P : ℕ → ℕ → ℕ → EReal) : Prop := ∀ (c : Fin 128) (b h : Fin 8) (s : Fin 32) (d : Fin 128),
  y (ix5 c b h s d) = P b.val (32 * c.val + s.val) (128 * h.val + d.val)

theorem chunked_at (y : Wide) (c : Fin 128) (b h : Fin 8) (s : Fin 32) (d : Fin 128) :
    chunked y (ix5 c b h s d) = y (ix3 b (tokOf c s) (col h d)) := by
  pointwise [chunked]
  have := b.isLt
  have := c.isLt
  have := s.isLt
  have := h.isLt
  have := d.isLt
  exact congrArg y (by congr 1 <;> exact Fin.ext (by simp only [tokOf, col]; omega))

theorem IsWide.cut {y : Wide} {P : ℕ → ℕ → ℕ → EReal} (hy : IsWide y P) : IsCut (chunked y) P := fun c b h s d =>
  (chunked_at y c b h s d).trans (hy b _ _)

theorem projected_at (X : Tokens) (W : InWeights) (b : Fin 8) (T : Fin 4096) (n : Fin 9216) :
    projected X W (ix3 b T n) = proj X W b.val T.val n.val := by
  pointwise [projected, proj]
  refine Finset.sum_congr rfl fun k _ => congrArg₂ (· * ·) (congrArg X ?_) (congrArg W ?_) <;>
    congr 1 <;> exact Fin.ext (by simp only [Fin.ofNat]; omega)

variable (X : Tokens) (W : InWeights) (L : Bounds) (G : Affine)

theorem part0_wide : IsWide (part0 (projected X W)) (proj X W) := by
  intro b T n
  pointwise [part0]
  refine (projected_at X W _ _ _).trans ?_
  congr 1 <;> simp
theorem part1_wide : IsWide (part1 (projected X W)) (fun b T n => proj X W b T (1024 + n)) := by
  intro b T n
  pointwise [part1]
  refine (projected_at X W _ _ _).trans ?_
  congr 1 <;> simp
theorem part2_wide : IsWide (part2 (projected X W)) (fun b T n => proj X W b T (2048 + n)) := by
  intro b T n
  pointwise [part2]
  refine (projected_at X W _ _ _).trans ?_
  congr 1 <;> simp
theorem part3_wide : IsWide (part3 (projected X W)) (fun b T n => proj X W b T (3072 + n)) := by
  intro b T n
  pointwise [part3]
  refine (projected_at X W _ _ _).trans ?_
  congr 1 <;> simp

theorem logForget_at (l : FVec Ideal S1024 .f32) (f : Wide) (b : Fin 8) (T : Fin 4096) (n : Fin 1024) :
    logForget l f (ix3 b T n) = Ideal.log (l (ix1 n) + (1 - l (ix1 n)) * sgm (f (ix3 b T n))) := by
  pointwise [logForget, spread, rest, logistic, ones]
  rfl
theorem input_at (l : FVec Ideal S1024 .f32) (f : Wide) (b : Fin 8) (T : Fin 4096) (n : Fin 1024) :
    input l f (ix3 b T n) = (1 - l (ix1 n)) * sgm (-f (ix3 b T n)) := by
  pointwise [input, spread, rest, logistic, ones]
  rfl

theorem low_at (n : Fin 1024) : bounds (soft (expo L)) (ix1 n) = low L n.val := by
  unfold low
  exact congrArg _ (by congr 1; exact Fin.ext (by simp only [Fin.ofNat]; omega))

theorem logForget_wide : IsWide (logForget (bounds (soft (expo L))) (part1 (projected X W))) (lf X W L) := by
  intro b T n
  rw [logForget_at, part1_wide, low_at]
  rfl
theorem input_wide : IsWide (input (bounds (soft (expo L))) (part1 (projected X W))) (kin X W L) := by
  intro b T n
  rw [input_at, part1_wide, low_at]
  rfl

/-- The windows along a chunk are counted by their fourth place. -/
def along (n : Fin 32) : (⟨5, ![1, 1, 1, 32, 1]⟩ : Shape).Idx := ix5 (0 : Fin 1) (0 : Fin 1) (0 : Fin 1) n (0 : Fin 1)

theorem along_bij : Function.Bijective along := by
  refine ⟨fun a b h => Fin.ext (congrArg (fun i : (⟨5, ![1, 1, 1, 32, 1]⟩ : Shape).Idx => (i (3 : Fin 5)).val) h), fun w => ?_⟩
  have h0 : (w (0 : Fin 5)).val < 1 := (w (0 : Fin 5)).isLt
  have h1 : (w (1 : Fin 5)).val < 1 := (w (1 : Fin 5)).isLt
  have h2 : (w (2 : Fin 5)).val < 1 := (w (2 : Fin 5)).isLt
  have h4 : (w (4 : Fin 5)).val < 1 := (w (4 : Fin 5)).isLt
  refine ⟨w (3 : Fin 5), funext fun a => Fin.ext ?_⟩
  match a with
  | ⟨0, _⟩ => exact (show (0 : ℕ) = (w (0 : Fin 5)).val by omega)
  | ⟨1, _⟩ => exact (show (0 : ℕ) = (w (1 : Fin 5)).val by omega)
  | ⟨2, _⟩ => exact (show (0 : ℕ) = (w (2 : Fin 5)).val by omega)
  | ⟨3, _⟩ => rfl
  | ⟨4, _⟩ => exact (show (0 : ℕ) = (w (4 : Fin 5)).val by omega)

/-- A window's places that lie in the chunk are the entries up to the window's last. -/
theorem turn (f : Fin 32 → EReal) (s : Fin 32) :
    (∑ n : Fin 32, if hn : 31 ≤ s.val + n.val then f ⟨s.val + n.val - 31, by have := s.isLt; have := n.isLt; omega⟩ else 0)
      = ∑ u : Fin 32, if u.val ≤ s.val then f u else 0 := by
  refine Fintype.sum_bijective (fun n => n + (s + 1)) (Equiv.addRight (s + 1)).bijective _ _ fun n => ?_
  have hs := s.isLt
  have hn := n.isLt
  have hv : (n + (s + 1)).val = (n.val + (s.val + 1) % 32) % 32 := by simp only [Fin.val_add]; rfl
  by_cases h : 31 ≤ s.val + n.val
  · rw [dif_pos h, if_pos (by omega)]
    exact congrArg f (Fin.ext (by show s.val + n.val - 31 = (n + (s + 1)).val; omega))
  · rw [dif_neg h, if_neg (by omega)]

theorem scan_window (x : S128x8x8x32x128.Idx → EReal) (init : S_.Idx → EReal) (hw) (hu) (h0 : init (Shape.Idx.first hu) = 0)
    (c : Fin 128) (b h : Fin 8) (s : Fin 32) (d : Fin 128) :
    Host.reduceWindow (t := S128x8x8x32x128) (fun a b : EReal => a + b) ![1, 1, 1, 32, 1] ![1, 1, 1, 1, 1] ![0, 0, 0, 31, 0]
        ![0, 0, 0, 0, 0] x init hw hu (ix5 c b h s d)
      = ∑ u : Fin 32, if u.val ≤ s.val then x (ix5 c b h u d) else 0 := by
  rw [← turn (fun u => x (ix5 c b h u d)) s]
  unfold Host.reduceWindow
  simp only [h0]
  rw [foldl_add, zero_add, ← Fin.sum_univ_def]
  generalize hg : (fun w : (⟨5, ![1, 1, 1, 32, 1]⟩ : Shape).Idx => (if hin : ∀ a : Fin 5, (![0, 0, 0, 31, 0] : Fin 5 → ℕ) a ≤ ((ix5 c b h s d : S128x8x8x32x128.Idx) (a.cast hw.1.symm)).val * (![1, 1, 1, 1, 1] : Fin 5 → ℕ) a + (w a).val
    ∧ ((ix5 c b h s d : S128x8x8x32x128.Idx) (a.cast hw.1.symm)).val * (![1, 1, 1, 1, 1] : Fin 5 → ℕ) a + (w a).val - (![0, 0, 0, 31, 0] : Fin 5 → ℕ) a < S128x8x8x32x128.size a then
      x (fun a => ⟨_, (hin a).2⟩) else 0 : EReal)) = g
  have e : ∀ n : Fin 32, g (along n) = if hn : 31 ≤ s.val + n.val then x (ix5 c b h ⟨s.val + n.val - 31, by have := s.isLt; have := n.isLt; omega⟩ d) else 0 := by
    intro n
    rw [← hg]
    dsimp only
    split
    · next hin =>
      have h3 := (hin 3).1
      change 31 ≤ s.val * 1 + n.val at h3
      rw [dif_pos (by omega)]
      refine congrArg x (funext fun a => Fin.ext ?_)
      match a with
      | ⟨0, _⟩ => show c.val * 1 + 0 - 0 = c.val; omega
      | ⟨1, _⟩ => show b.val * 1 + 0 - 0 = b.val; omega
      | ⟨2, _⟩ => show h.val * 1 + 0 - 0 = h.val; omega
      | ⟨3, _⟩ => show s.val * 1 + n.val - 31 = s.val + n.val - 31; omega
      | ⟨4, _⟩ => show d.val * 1 + 0 - 0 = d.val; omega
    · next hin =>
      rw [dif_neg]
      intro hn
      refine hin fun a => ?_
      have := c.isLt
      have := b.isLt
      have := h.isLt
      have := d.isLt
      have := s.isLt
      have := n.isLt
      match a with
      | ⟨0, _⟩ => show 0 ≤ c.val * 1 + 0 ∧ c.val * 1 + 0 - 0 < 128; omega
      | ⟨1, _⟩ => show 0 ≤ b.val * 1 + 0 ∧ b.val * 1 + 0 - 0 < 8; omega
      | ⟨2, _⟩ => show 0 ≤ h.val * 1 + 0 ∧ h.val * 1 + 0 - 0 < 8; omega
      | ⟨3, _⟩ => show 31 ≤ s.val * 1 + n.val ∧ s.val * 1 + n.val - 31 < 32; omega
      | ⟨4, _⟩ => show 0 ≤ d.val * 1 + 0 ∧ d.val * 1 + 0 - 0 < 128; omega
  refine (Finset.sum_congr rfl fun n _ => ?_).trans
    ((Equiv.sum_comp (⟨5, ![1, 1, 1, 32, 1]⟩ : Shape).rowMajor.symm g).trans
      ((Fintype.sum_bijective along along_bij (fun n => g (along n)) g fun _ => rfl).symm.trans
        (Finset.sum_congr rfl fun n _ => e n)))
  rw [← hg]

theorem scan_at (x : Chunks) (c : Fin 128) (b h : Fin 8) (s : Fin 32) (d : Fin 128) :
    scan x (ix5 c b h s d) = ∑ u : Fin 32, if u.val ≤ s.val then x (ix5 c b h u d) else 0 := by
  unfold scan Host.reduceWindowAdd
  simp only [FloatOps.hostReduceWindowAdd, Ideal.hostReduceWindowAdd]
  exact scan_window x _ _ _ zero_word c b h s d

variable {x q k v : Chunks} {LF Q K V : ℕ → ℕ → ℕ → EReal}

/-- A token's place in its chunk, and its chunk. -/
theorem tok_mod (c : Fin 128) (s : Fin 32) : (32 * c.val + s.val) % 32 = s.val := by have := s.isLt; omega
theorem tok_div (c : Fin 128) (s : Fin 32) : (32 * c.val + s.val) / 32 = c.val := by have := s.isLt; omega

theorem scan_cut (hx : IsCut x LF) : IsCut (scan x) (fun b => cum (LF b)) := by
  intro c b h s d
  rw [scan_at]
  unfold cum
  beta_reduce
  rw [tok_mod, tok_div]
  exact Finset.sum_congr rfl fun u _ => by rw [hx]

theorem last_at (hx : IsCut x LF) (c : Fin 128) (b h : Fin 8) (d : Fin 128) :
    lastOf (scan x) (ix5 c b h 0 d) = tot (LF b.val) c.val (128 * h.val + d.val) := by
  have e : lastOf (scan x) (ix5 c b h 0 d) = scan x (ix5 c b h (31 : Fin 32) d) := by
    generalize scan x = y
    pointwise [lastOf]
  rw [e, scan_at]
  unfold tot
  refine Finset.sum_congr rfl fun u _ => ?_
  rw [if_pos (show u.val ≤ (31 : Fin 32).val from Nat.le_of_lt_succ u.isLt), hx]

theorem spread_at (y : Chunks) (c : Fin 128) (b h : Fin 8) (s : Fin 32) (d : Fin 128) :
    spreadLast y (ix5 c b h s d) = lastOf y (ix5 c b h 0 d) := by
  unfold spreadLast
  generalize lastOf y = z
  pointwise

theorem fromStart_cut (hq : IsCut q Q) (hx : IsCut x LF) : IsCut (fromStart q (scan x)) (fun b => qs (Q b) (LF b)) := by
  intro c b h s d
  have e : fromStart q (scan x) (ix5 c b h s d) = q (ix5 c b h s d) * Ideal.exp (scan x (ix5 c b h s d)) := rfl
  rw [e, hq, scan_cut hx]
  rfl
theorem fromEnd_cut (hq : IsCut q Q) (hx : IsCut x LF) : IsCut (fromEnd q (scan x)) (fun b => qe (Q b) (LF b)) := by
  intro c b h s d
  have e : fromEnd q (scan x) (ix5 c b h s d)
    = q (ix5 c b h s d) * Ideal.exp (scan x (ix5 c b h s d) - spreadLast (scan x) (ix5 c b h s d)) := rfl
  rw [e, hq, scan_cut hx, spread_at, last_at hx]
  unfold qe
  beta_reduce
  rw [tok_div]
theorem toEnd_cut (hk : IsCut k K) (hx : IsCut x LF) : IsCut (toEnd k (scan x)) (fun b => ke (LF b) (K b)) := by
  intro c b h s d
  have e : toEnd k (scan x) (ix5 c b h s d)
    = k (ix5 c b h s d) * Ideal.exp (spreadLast (scan x) (ix5 c b h s d) - scan x (ix5 c b h s d)) := rfl
  rw [e, hk, scan_cut hx, spread_at, last_at hx]
  unfold ke
  beta_reduce
  rw [tok_div]

theorem lower_at (s u : Fin 32) : lower (ix2 s u) = if u.val ≤ s.val then 1#1 else 0#1 := by
  revert s u
  decide +kernel

theorem within_at (q k v : Chunks) (c : Fin 128) (b h : Fin 8) (s : Fin 32) (e : Fin 128) :
    within q k v (ix5 c b h s e)
      = ∑ u : Fin 32, (if u.val ≤ s.val then ∑ d : Fin 128, q (ix5 c b h s d) * k (ix5 c b h u d) else 0) * v (ix5 c b h u e) := by
  pointwise [within]
  refine Finset.sum_congr rfl fun u _ => ?_
  rw [lower_at]
  by_cases hu : u.val ≤ s.val
  · rw [if_pos hu, if_pos hu]
    rfl
  · rw [if_neg hu, if_neg hu, zero_mul]
    rfl

theorem within_cut (hq : IsCut q Q) (hk : IsCut k K) (hv : IsCut v V) (hx : IsCut x LF) (c : Fin 128) (b h : Fin 8) (s : Fin 32) (e : Fin 128) :
    within (fromEnd q (scan x)) (toEnd k (scan x)) v (ix5 c b h s e)
      = intra (Q b.val) (LF b.val) (K b.val) (V b.val) (32 * c.val + s.val) h.val e.val := by
  rw [within_at]
  unfold intra
  rw [tok_mod, tok_div]
  refine Finset.sum_congr rfl fun u _ => ?_
  rw [hv]
  refine congrArg (· * _) (if_congr Iff.rfl (Finset.sum_congr rfl fun d _ => ?_) rfl)
  rw [fromEnd_cut hq hx, toEnd_cut hk hx]

theorem joined_at (a y : Chunks) (b : Fin 8) (T : Fin 4096) (h : Fin 8) (e : Fin 128) :
    joined a y (ix4 b T h e) = a (ix5 ⟨T.val / 32, by have := T.isLt; omega⟩ b h ⟨T.val % 32, Nat.mod_lt _ (by decide)⟩ e)
      + y (ix5 ⟨T.val / 32, by have := T.isLt; omega⟩ b h ⟨T.val % 32, Nat.mod_lt _ (by decide)⟩ e) := by
  pointwise [joined]

theorem normed_at (o : FVec Ideal S8x4096x8x128 .f32) (b : Fin 8) (T : Fin 4096) (h : Fin 8) (e : Fin 128) :
    normed o (ix4 b T h e) = o (ix4 b T h e) * Ideal.rsqrt (Ideal.div (∑ k : Fin 128, o (ix4 b T h k) * o (ix4 b T h k))
      (Ideal.ofBits .f32 0x43000000#32) + Ideal.ofBits .f32 0x358637BD#32) := by
  pointwise [normed]

theorem gated_at (o : FVec Ideal S8x4096x8x128 .f32) (hg : Wide) (R : Fin 32768) (n : Fin 1024) :
    gated o G hg (ix2 R n) = normed o (ix4 (Fin.ofNat 8 (R.val / 4096)) (Fin.ofNat 4096 (R.val % 4096)) (Fin.ofNat 8 (n.val / 128)) (Fin.ofNat 128 (n.val % 128)))
      * G (ix2 0 n) * (hg (ix3 (Fin.ofNat 8 (R.val / 4096)) (Fin.ofNat 4096 (R.val % 4096)) n) * sgm (hg (ix3 (Fin.ofNat 8 (R.val / 4096)) (Fin.ofNat 4096 (R.val % 4096)) n))) := by
  unfold gated
  generalize normed o = y
  pointwise [logistic, ones]
  have e8 : Fin.ofNat 8 (R.val / 4096) = ⟨R.val / 4096, by omega⟩ := Fin.ext (by simp only [Fin.ofNat]; omega)
  have e4 : Fin.ofNat 4096 (R.val % 4096) = ⟨R.val % 4096, by omega⟩ := Fin.ext (by simp only [Fin.ofNat]; omega)
  have h8 : Fin.ofNat 8 (n.val / 128) = ⟨n.val / 128, by omega⟩ := Fin.ext (by simp only [Fin.ofNat]; omega)
  have h4 : Fin.ofNat 128 (n.val % 128) = ⟨n.val % 128, by omega⟩ := Fin.ext (by simp only [Fin.ofNat]; omega)
  rw [e8, e4, h8, h4]
  rfl

end Cert.Hgrn.Ref

end
-- ==== Proof.Hg.RefRun.lean ====
/-
  The reference's run: a trip of its loop moves every state over one chunk and puts what the states give in the chunk's place;
  the result is the recurrence's rows.
-/
module

public import proofs.«01_k».proof.Proof.Hg.RefAt
public import Idealize.ShloMosaic.Lib.Quiescent

@[expose] public section

set_option maxRecDepth 16384

noncomputable section

namespace Cert.Hgrn.Ref

open Cert.Reference4Ideal Cert.Reference4Ideal.Gen Cert.Reference4Ideal.Value Cert.Hgrn
open Idealize.ShloMosaic Idealize.ShloMosaic.TcCoe Idealize.ShloMosaic.StableHlo Idealize.SL.Sem

/-! What a trip reads and writes. -/

/-- Where a trip reads and writes: its counter's chunk. -/
def place (i : IVec S_ 32) : Fin 5 → ℤ := fun k =>
  ((![i, constantI S_ 32 0#32, constantI S_ 32 0#32, constantI S_ 32 0#32, constantI S_ 32 0#32] : Fin 5 → (⟨S_, .i32⟩ : BufTy).Contents (Elt Ideal)) k (Shape.Idx.first h_S_)).toInt
/-- A chunk of a chunked array. -/
def take (x : Chunks) (i : IVec S_ 32) : FVec Ideal S8x8x32x128 .f32 :=
  shapeCast S8x8x32x128 (Host.dynamicSlice S1x8x8x32x128 x (place i) sliceFits_S128x8x8x32x128_S1x8x8x32x128) shapeCasts_S1x8x8x32x128_S8x8x32x128
/-- The decay over a chunk. -/
def decay (x : Lasts) (i : IVec S_ 32) : FVec Ideal S8x8x128 .f32 :=
  shapeCast S8x8x128 (Host.exp (shapeCast S8x8x1x128 (Host.dynamicSlice S1x8x8x1x128 x (place i) sliceFits_S128x8x8x1x128_S1x8x8x1x128)
    shapeCasts_S1x8x8x1x128_S8x8x1x128)) shapeCasts_S8x8x1x128_S8x8x128
/-- The next states. -/
def next (g : FVec Ideal S8x8x128 .f32) (s : States) (k v : FVec Ideal S8x8x32x128 .f32) : States :=
  addf (mulf (broadcastInDim S8x8x128x128 ![0, 1, 2, 3] bcast_S8x8x128x1_S8x8x128x128_0_1_2_3
    (broadcastInDim S8x8x128x1 ![0, 1, 2] bcast_S8x8x128_S8x8x128x1_0_1_2 g)) s)
    (Host.dotGeneral dot_S8x8x32x128_S8x8x32x128_S8x8x128x128_2_2_3_3_01_01 none k v)
/-- What the states give a chunk. -/
def given (q : FVec Ideal S8x8x32x128 .f32) (s : States) : FVec Ideal S8x8x32x128 .f32 :=
  Host.dotGeneral dot_S8x8x32x128_S8x8x128x128_S8x8x32x128_3_2_2_3_01_01 none q s
/-- A chunk put in its place. -/
def put (x : Chunks) (y : FVec Ideal S8x8x32x128 .f32) (i : IVec S_ 32) : Chunks :=
  Host.dynamicUpdateSlice x (broadcastInDim S1x8x8x32x128 ![1, 2, 3, 4] bcast_S8x8x32x128_S1x8x8x32x128_1_2_3_4 y)
    (place i) updateFits_S128x8x8x32x128_S1x8x8x32x128

theorem step_5 (V : Valuation τ sig (Elt Ideal)) : step_main_v78_5 V
    = next (decay (V (Proc.devRef .tc main_v78_3)) (V (Proc.devRef .tc main_v78_4))) (V (Proc.devRef .tc main_v78_5))
      (take (V (Proc.devRef .tc main_v78_1)) (V (Proc.devRef .tc main_v78_4))) (take (V (Proc.devRef .tc main_v78_2)) (V (Proc.devRef .tc main_v78_4))) := rfl
theorem step_6 (V : Valuation τ sig (Elt Ideal)) : step_main_v78_6 V
    = put (V (Proc.devRef .tc main_v78_6)) (given (take (V (Proc.devRef .tc main_v78_0)) (V (Proc.devRef .tc main_v78_4))) (V (Proc.devRef .tc main_v78_5)))
      (V (Proc.devRef .tc main_v78_4)) := by
  unfold step_main_v78_6 put given take place
  rw [id]
  congr 1

theorem take_at (x : Chunks) (w : IVec S_ 32) (i : Fin 128) (hw : (w (Shape.Idx.first h_S_)).toInt = (i.val : ℤ)) (b h : Fin 8) (s : Fin 32)
    (d : Fin 128) : take x w (ix4 b h s d) = x (ix5 i b h s d) := by
  have hi := i.isLt
  have ho : S128x8x8x32x128.Slices ![i.val, 0, 0, 0, 0] S1x8x8x32x128 := ⟨rfl, fun a => by
    match a with
    | ⟨0, _⟩ => show i.val + 1 ≤ 128; omega
    | ⟨1, _⟩ => show 0 + 8 ≤ 8; omega
    | ⟨2, _⟩ => show 0 + 8 ≤ 8; omega
    | ⟨3, _⟩ => show 0 + 32 ≤ 32; omega
    | ⟨4, _⟩ => show 0 + 128 ≤ 128; omega⟩
  unfold take
  rw [Host.dynamicSlice_eq_extractStridedSlice _ _ _ ![i.val, 0, 0, 0, 0] _ ho (fun a => by
    match a with
    | ⟨0, _⟩ => exact hw
    | ⟨1, _⟩ => rfl
    | ⟨2, _⟩ => rfl
    | ⟨3, _⟩ => rfl
    | ⟨4, _⟩ => rfl)]
  pointwise

theorem decay_at (x : Lasts) (w : IVec S_ 32) (i : Fin 128) (hw : (w (Shape.Idx.first h_S_)).toInt = (i.val : ℤ)) (b h : Fin 8)
    (d : Fin 128) : decay x w (ix3 b h d) = Ideal.exp (x (ix5 i b h 0 d)) := by
  have hi := i.isLt
  have ho : S128x8x8x1x128.Slices ![i.val, 0, 0, 0, 0] S1x8x8x1x128 := ⟨rfl, fun a => by
    match a with
    | ⟨0, _⟩ => show i.val + 1 ≤ 128; omega
    | ⟨1, _⟩ => show 0 + 8 ≤ 8; omega
    | ⟨2, _⟩ => show 0 + 8 ≤ 8; omega
    | ⟨3, _⟩ => show 0 + 1 ≤ 1; omega
    | ⟨4, _⟩ => show 0 + 128 ≤ 128; omega⟩
  unfold decay
  rw [Host.dynamicSlice_eq_extractStridedSlice _ _ _ ![i.val, 0, 0, 0, 0] _ ho (fun a => by
    match a with
    | ⟨0, _⟩ => exact hw
    | ⟨1, _⟩ => rfl
    | ⟨2, _⟩ => rfl
    | ⟨3, _⟩ => rfl
    | ⟨4, _⟩ => rfl)]
  pointwise

theorem next_at (g : FVec Ideal S8x8x128 .f32) (s : States) (k v : FVec Ideal S8x8x32x128 .f32) (b h : Fin 8) (d e : Fin 128) :
    next g s k v (ix4 b h d e) = g (ix3 b h d) * s (ix4 b h d e) + ∑ u : Fin 32, k (ix4 b h u d) * v (ix4 b h u e) := by
  pointwise [next]

theorem given_at (q : FVec Ideal S8x8x32x128 .f32) (s : States) (b h : Fin 8) (r : Fin 32) (e : Fin 128) :
    given q s (ix4 b h r e) = ∑ d : Fin 128, q (ix4 b h r d) * s (ix4 b h d e) := by
  pointwise [given]

theorem put_at (x : Chunks) (y : FVec Ideal S8x8x32x128 .f32) (w : IVec S_ 32) (i t : Fin 128)
    (hw : (w (Shape.Idx.first h_S_)).toInt = (i.val : ℤ)) (b h : Fin 8) (r : Fin 32) (d : Fin 128) :
    put x y w (ix5 t b h r d) = if t = i then y (ix4 b h r d) else x (ix5 t b h r d) := by
  have hi := i.isLt
  have ho : S128x8x8x32x128.Slices ![i.val, 0, 0, 0, 0] S1x8x8x32x128 := ⟨rfl, fun a => by
    match a with
    | ⟨0, _⟩ => show i.val + 1 ≤ 128; omega
    | ⟨1, _⟩ => show 0 + 8 ≤ 8; omega
    | ⟨2, _⟩ => show 0 + 8 ≤ 8; omega
    | ⟨3, _⟩ => show 0 + 32 ≤ 32; omega
    | ⟨4, _⟩ => show 0 + 128 ≤ 128; omega⟩
  unfold put
  rw [Host.dynamicUpdateSlice_eq_updateSlice _ _ _ _ ![i.val, 0, 0, 0, 0] (fun a => by
    match a with
    | ⟨0, _⟩ =>
      show (min (max (w (Shape.Idx.first h_S_)).toInt 0) ((128 - 1 : ℕ) : ℤ)).toNat = i.val
      rw [hw]
      omega
    | ⟨1, _⟩ => rfl
    | ⟨2, _⟩ => rfl
    | ⟨3, _⟩ => rfl
    | ⟨4, _⟩ => rfl) ho]
  pointwise
  by_cases h : t = i
  · rw [dif_pos ⟨by omega, by omega⟩, if_pos h]
  · rw [dif_neg (fun hh => h (Fin.ext (by omega))), if_neg h]

/-! The arrays no operation of the loop writes, and the arguments. -/

section Kept

variable (V : Valuation τ sig (Elt Ideal))

theorem body_kept (r : Ref sig .tc) (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) (h6 : r ∉ while0Ops0_6_W) (hc : r ∉ condOps_W) :
    afterL bodyI (after condOps V) (Proc.devRef .tc r) = V (Proc.devRef .tc r) := by
  simp only [afterL_cons, afterL_nil]
  rw [after_of_writes_sub while0Ops0_6 _ while0Ops0_6_writes h6,
    after_of_writes_sub while0Ops0_5 _ while0Ops0_5_writes h5,
    after_of_writes_sub while0Ops0_4 _ while0Ops0_4_writes h4,
    after_of_writes_sub while0Ops0_3 _ while0Ops0_3_writes h3,
    after_of_writes_sub while0Ops0_2 _ while0Ops0_2_writes h2,
    after_of_writes_sub while0Ops0_1 _ while0Ops0_1_writes h1,
    after_of_writes_sub while0Ops0 _ while0Ops0_writes h0,
    after_of_writes_sub condOps _ condOps_writes hc]

theorem body_in : afterL bodyI (after condOps V) (Proc.devRef .tc main_v75) = V (Proc.devRef .tc main_v75) :=
  body_kept V _ (by decide +kernel) (by decide +kernel) (by decide +kernel) (by decide +kernel) (by decide +kernel) (by decide +kernel)
    (by decide +kernel) (by decide +kernel)
theorem body_hg : afterL bodyI (after condOps V) (Proc.devRef .tc main_v19) = V (Proc.devRef .tc main_v19) :=
  body_kept V _ (by decide +kernel) (by decide +kernel) (by decide +kernel) (by decide +kernel) (by decide +kernel) (by decide +kernel)
    (by decide +kernel) (by decide +kernel)
theorem body_arg0 : afterL bodyI (after condOps V) (Proc.devRef .tc main_arg0) = V (Proc.devRef .tc main_arg0) :=
  body_kept V _ (by decide +kernel) (by decide +kernel) (by decide +kernel) (by decide +kernel) (by decide +kernel) (by decide +kernel)
    (by decide +kernel) (by decide +kernel)
theorem body_arg1 : afterL bodyI (after condOps V) (Proc.devRef .tc main_arg1) = V (Proc.devRef .tc main_arg1) :=
  body_kept V _ (by decide +kernel) (by decide +kernel) (by decide +kernel) (by decide +kernel) (by decide +kernel) (by decide +kernel)
    (by decide +kernel) (by decide +kernel)
theorem body_arg2 : afterL bodyI (after condOps V) (Proc.devRef .tc main_arg2) = V (Proc.devRef .tc main_arg2) :=
  body_kept V _ (by decide +kernel) (by decide +kernel) (by decide +kernel) (by decide +kernel) (by decide +kernel) (by decide +kernel)
    (by decide +kernel) (by decide +kernel)
theorem body_arg3 : afterL bodyI (after condOps V) (Proc.devRef .tc main_arg3) = V (Proc.devRef .tc main_arg3) :=
  body_kept V _ (by decide +kernel) (by decide +kernel) (by decide +kernel) (by decide +kernel) (by decide +kernel) (by decide +kernel)
    (by decide +kernel) (by decide +kernel)

theorem pre_kept (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W) :
    afterL preI V (Proc.devRef .tc r) = V (Proc.devRef .tc r) := by
  simp only [afterL_cons, afterL_nil]
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

theorem pre_arg0 : afterL preI V (Proc.devRef .tc main_arg0) = V (Proc.devRef .tc main_arg0) :=
  pre_kept V _ (by decide +kernel) (by decide +kernel) (by decide +kernel) (by decide +kernel) (by decide +kernel) (by decide +kernel)
    (by decide +kernel) (by decide +kernel) (by decide +kernel)
theorem pre_arg1 : afterL preI V (Proc.devRef .tc main_arg1) = V (Proc.devRef .tc main_arg1) :=
  pre_kept V _ (by decide +kernel) (by decide +kernel) (by decide +kernel) (by decide +kernel) (by decide +kernel) (by decide +kernel)
    (by decide +kernel) (by decide +kernel) (by decide +kernel)
theorem pre_arg2 : afterL preI V (Proc.devRef .tc main_arg2) = V (Proc.devRef .tc main_arg2) :=
  pre_kept V _ (by decide +kernel) (by decide +kernel) (by decide +kernel) (by decide +kernel) (by decide +kernel) (by decide +kernel)
    (by decide +kernel) (by decide +kernel) (by decide +kernel)
theorem pre_arg3 : afterL preI V (Proc.devRef .tc main_arg3) = V (Proc.devRef .tc main_arg3) :=
  pre_kept V _ (by decide +kernel) (by decide +kernel) (by decide +kernel) (by decide +kernel) (by decide +kernel) (by decide +kernel)
    (by decide +kernel) (by decide +kernel) (by decide +kernel)

theorem post_arg0 : afterL postI (after condOps V) (Proc.devRef .tc main_arg0) = V (Proc.devRef .tc main_arg0) := by
  refine Eq.trans ?_ (after_of_writes_sub condOps V condOps_writes (by decide +kernel))
  generalize after condOps V = U
  simp only [afterL_cons, afterL_nil]
  after_reads_simp
theorem post_arg1 : afterL postI (after condOps V) (Proc.devRef .tc main_arg1) = V (Proc.devRef .tc main_arg1) := by
  refine Eq.trans ?_ (after_of_writes_sub condOps V condOps_writes (by decide +kernel))
  generalize after condOps V = U
  simp only [afterL_cons, afterL_nil]
  after_reads_simp
theorem post_arg2 : afterL postI (after condOps V) (Proc.devRef .tc main_arg2) = V (Proc.devRef .tc main_arg2) := by
  refine Eq.trans ?_ (after_of_writes_sub condOps V condOps_writes (by decide +kernel))
  generalize after condOps V = U
  simp only [afterL_cons, afterL_nil]
  after_reads_simp
theorem post_arg3 : afterL postI (after condOps V) (Proc.devRef .tc main_arg3) = V (Proc.devRef .tc main_arg3) := by
  refine Eq.trans ?_ (after_of_writes_sub condOps V condOps_writes (by decide +kernel))
  generalize after condOps V = U
  simp only [afterL_cons, afterL_nil]
  after_reads_simp

end Kept

variable (m : (ℓ : Loc nD τ sig) → Buf (Elt Ideal) ℓ) (c : Dev nD)

/-- An array no trip writes is as the loop found it. -/
theorem atK_of (r : Ref sig .tc) (h : ∀ V : Valuation τ sig (Elt Ideal), afterL bodyI (after condOps V) (Proc.devRef .tc r) = V (Proc.devRef .tc r)) :
    ∀ k, atK m k c (Proc.devRef .tc r) = afterL preI (launchContents m c) (Proc.devRef .tc r)
  | 0 => rfl
  | k + 1 => (h (atK m k c)).trans (atK_of r h k)

theorem final_of (r : Ref sig .tc) (hb : ∀ V : Valuation τ sig (Elt Ideal), afterL bodyI (after condOps V) (Proc.devRef .tc r) = V (Proc.devRef .tc r))
    (hp : ∀ V : Valuation τ sig (Elt Ideal), afterL preI V (Proc.devRef .tc r) = V (Proc.devRef .tc r))
    (ho : ∀ V : Valuation τ sig (Elt Ideal), afterL postI (after condOps V) (Proc.devRef .tc r) = V (Proc.devRef .tc r)) :
    finalContents condOps preI bodyI postI 128 m c (Proc.devRef .tc r) = m ((c.tc : Thread nD τ).loc r) := by
  rw [show finalContents condOps preI bodyI postI 128 m c = afterL postI (after condOps (atK m 128 c)) from rfl, ho, atK_of m c r hb 128, hp]

theorem final_arg0 : finalContents condOps preI bodyI postI 128 m c (Proc.devRef .tc main_arg0) = m ((c.tc : Thread nD τ).loc main_arg0) :=
  final_of m c _ body_arg0 pre_arg0 post_arg0
theorem final_arg1 : finalContents condOps preI bodyI postI 128 m c (Proc.devRef .tc main_arg1) = m ((c.tc : Thread nD τ).loc main_arg1) :=
  final_of m c _ body_arg1 pre_arg1 post_arg1
theorem final_arg2 : finalContents condOps preI bodyI postI 128 m c (Proc.devRef .tc main_arg2) = m ((c.tc : Thread nD τ).loc main_arg2) :=
  final_of m c _ body_arg2 pre_arg2 post_arg2
theorem final_arg3 : finalContents condOps preI bodyI postI 128 m c (Proc.devRef .tc main_arg3) = m ((c.tc : Thread nD τ).loc main_arg3) :=
  final_of m c _ body_arg3 pre_arg3 post_arg3

/-- The frame: every argument unchanged, and no counter off zero (the program has none). -/
theorem frame (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c main_arg0 rfl).trans (final_arg0 m c), (h c main_arg1 rfl).trans (final_arg1 m c),
    (h c main_arg2 rfl).trans (final_arg2 m c), (h c main_arg3 rfl).trans (final_arg3 m c)⟩, sem_eq_zero_of_no_sems rfl _⟩) (run_fold m ρ)

/-! What the loop is entered with. -/

abbrev rX : Tokens := m ((c.tc : Thread nD τ).loc main_arg0)
abbrev rW : InWeights := m ((c.tc : Thread nD τ).loc main_arg1)
abbrev rL : Bounds := m ((c.tc : Thread nD τ).loc main_arg2)
abbrev rG : Affine := m ((c.tc : Thread nD τ).loc main_arg3)

/-- The contents after the chunks' making. -/
abbrev made : Valuation τ sig (Elt Ideal) := after hostOps0_2 (after hostOps0_1 (after hostOps0 (launchContents m c)))

theorem made_X : vX (after hostOps0_1 (after hostOps0 (launchContents m c))) = rX m c := by
  rw [vX, after_of_writes_sub hostOps0_1 _ hostOps0_1_writes (by decide +kernel), after_of_writes_sub hostOps0 _ hostOps0_writes (by decide +kernel)]
theorem made_W : vW (after hostOps0_1 (after hostOps0 (launchContents m c))) = rW m c := by
  rw [vW, after_of_writes_sub hostOps0_1 _ hostOps0_1_writes (by decide +kernel), after_of_writes_sub hostOps0 _ hostOps0_writes (by decide +kernel)]

theorem made_q : IsCut (made m c (Proc.devRef .tc main_v52)) (proj (rX m c) (rW m c)) := by
  unfold made
  rw [q_read, made_X, made_W]
  exact (part0_wide _ _).cut
theorem made_v : IsCut (made m c (Proc.devRef .tc main_v58)) (fun b T n => proj (rX m c) (rW m c) b T (2048 + n)) := by
  unfold made
  rw [v_read, made_X, made_W]
  exact (part2_wide _ _).cut
theorem made_hg : IsWide (made m c (Proc.devRef .tc main_v19)) (fun b T n => proj (rX m c) (rW m c) b T (3072 + n)) := by
  unfold made
  rw [hg_read, made_X, made_W]
  exact part3_wide _ _
theorem made_lf : IsCut (made m c (Proc.devRef .tc main_v54)) (lf (rX m c) (rW m c) (rL m c)) := by
  unfold made
  rw [lf_read, made_X, made_W, low_read]
  exact (logForget_wide _ _ _).cut
theorem made_k : IsCut (made m c (Proc.devRef .tc main_v56)) (kin (rX m c) (rW m c) (rL m c)) := by
  unfold made
  rw [k_read, made_X, made_W, low_read]
  exact (input_wide _ _ _).cut

abbrev cLF := lf (rX m c) (rW m c) (rL m c)
abbrev cK := kin (rX m c) (rW m c) (rL m c)
abbrev cQ := proj (rX m c) (rW m c)
abbrev cV : ℕ → ℕ → ℕ → EReal := fun b T n => proj (rX m c) (rW m c) b T (2048 + n)
abbrev cHG : ℕ → ℕ → ℕ → EReal := fun b T n => proj (rX m c) (rW m c) b T (3072 + n)

theorem atK_step (k : ℕ) : Agree (atK m (k + 1) c) (STEP (atK m k c)) := trip_agree (atK m k c)

theorem atK_q : ∀ k, IsCut (atK m k c (Proc.devRef .tc main_v78_0)) (fun b => qs (cQ m c b) (cLF m c b))
  | 0 => by
    rw [show atK m 0 c (Proc.devRef .tc main_v78_0) = afterL late (made m c) (Proc.devRef .tc main_v78_0) from rfl, late_0]
    exact fromStart_cut (made_q m c) (made_lf m c)
  | k + 1 => by
    rw [atK_step m c k main_v78_0 (by decide), STEP_main_v78_0]
    exact atK_q k
theorem atK_k : ∀ k, IsCut (atK m k c (Proc.devRef .tc main_v78_1)) (fun b => ke (cLF m c b) (cK m c b))
  | 0 => by
    rw [show atK m 0 c (Proc.devRef .tc main_v78_1) = afterL late (made m c) (Proc.devRef .tc main_v78_1) from rfl, late_1]
    exact toEnd_cut (made_k m c) (made_lf m c)
  | k + 1 => by
    rw [atK_step m c k main_v78_1 (by decide), STEP_main_v78_1]
    exact atK_k k
theorem atK_v : ∀ k, IsCut (atK m k c (Proc.devRef .tc main_v78_2)) (cV m c)
  | 0 => by
    rw [show atK m 0 c (Proc.devRef .tc main_v78_2) = afterL late (made m c) (Proc.devRef .tc main_v78_2) from rfl, late_2]
    exact made_v m c
  | k + 1 => by
    rw [atK_step m c k main_v78_2 (by decide), STEP_main_v78_2]
    exact atK_v k
theorem atK_b : ∀ k (i : Fin 128) (b h : Fin 8) (d : Fin 128), (atK m k c (Proc.devRef .tc main_v78_3) : Lasts) (ix5 i b h 0 d)
    = tot (cLF m c b.val) i.val (128 * h.val + d.val)
  | 0, i, b, h, d => by
    rw [show atK m 0 c (Proc.devRef .tc main_v78_3) = afterL late (made m c) (Proc.devRef .tc main_v78_3) from rfl, late_3]
    exact last_at (made_lf m c) i b h d
  | k + 1, i, b, h, d => by
    rw [atK_step m c k main_v78_3 (by decide), STEP_main_v78_3]
    exact atK_b k i b h d

/-- The counter of the `k`-th trip, read as an integer. -/
theorem iv_int : ∀ k : Fin 128, (Scf.iv 0#32 1#32 k.val).toInt = (k.val : ℤ) := by decide +kernel

theorem ctr_at (k : Fin 128) : ((atK m k.val c (Proc.devRef .tc main_v78_4) : IVec S_ 32) (Shape.Idx.first h_S_)).toInt = (k.val : ℤ) := by
  rw [atK_ctr]
  exact iv_int k

/-- Before trip `k` the states are the recurrence's. -/
theorem atK_state : ∀ k, k ≤ 128 → ∀ (b h : Fin 8) (d e : Fin 128), (atK m k c (Proc.devRef .tc main_v78_5) : States) (ix4 b h d e)
    = state (cLF m c b.val) (cK m c b.val) (cV m c b.val) h.val k e.val d.val
  | 0, _, b, h, d, e => by
    rw [show atK m 0 c (Proc.devRef .tc main_v78_5) = afterL late (made m c) (Proc.devRef .tc main_v78_5) from rfl, late_5]
    pointwise
    rfl
  | k + 1, hk, b, h, d, e => by
    rw [atK_step m c k main_v78_5 (by decide), STEP_main_v78_5, step_5]
    have hw := ctr_at m c ⟨k, by omega⟩
    refine (next_at _ _ _ _ b h d e).trans ?_
    rw [decay_at _ _ ⟨k, by omega⟩ hw, atK_b, atK_state k (by omega) b h d e]
    refine congrArg (_ + ·) (Finset.sum_congr rfl fun u _ => ?_)
    rw [take_at _ _ ⟨k, by omega⟩ hw, take_at _ _ ⟨k, by omega⟩ hw, atK_k, atK_v]
    exact mul_comm _ _

/-- Before trip `k` the chunks before the `k`-th hold what the states give them. -/
theorem atK_out : ∀ k, k ≤ 128 → ∀ (i : Fin 128), i.val < k → ∀ (b h : Fin 8) (r : Fin 32) (e : Fin 128),
    (atK m k c (Proc.devRef .tc main_v78_6) : Chunks) (ix5 i b h r e)
      = inter (cQ m c b.val) (cLF m c b.val) (cK m c b.val) (cV m c b.val) (32 * i.val + r.val) h.val e.val
  | 0, _, _, hi, _, _, _, _ => absurd hi (Nat.not_lt_zero _)
  | k + 1, hk, i, hi, b, h, r, e => by
    rw [atK_step m c k main_v78_6 (by decide), STEP_main_v78_6, step_6]
    have hw := ctr_at m c ⟨k, Nat.lt_of_succ_le hk⟩
    refine (put_at _ _ _ ⟨k, Nat.lt_of_succ_le hk⟩ i hw b h r e).trans ?_
    by_cases he : i = ⟨k, Nat.lt_of_succ_le hk⟩
    · rw [if_pos he]
      subst he
      refine (given_at _ _ b h r e).trans ?_
      unfold inter
      rw [tok_div]
      refine Finset.sum_congr rfl fun d _ => ?_
      rw [take_at _ _ ⟨k, Nat.lt_of_succ_le hk⟩ hw, atK_q, atK_state m c k (by omega) b h d e]
    · rw [if_neg he]
      exact atK_out k (by omega) i (by have : i.val ≠ k := fun hh => he (Fin.ext hh); omega) b h r e

/-- The result of the run. -/
theorem final_value : finalContents condOps preI bodyI postI 128 m c (Proc.devRef .tc main_v101) = rows (rX m c) (rW m c) (rL m c) (rG m c) := by
  rw [show finalContents condOps preI bodyI postI 128 m c = afterL postI (after condOps (atK m 128 c)) from rfl, post_read,
    after_of_writes_sub condOps _ condOps_writes (by decide +kernel), after_of_writes_sub condOps _ condOps_writes (by decide +kernel),
    after_of_writes_sub condOps _ condOps_writes (by decide +kernel), vG, after_of_writes_sub condOps _ condOps_writes (by decide +kernel),
    atK_of m c main_v75 body_in, atK_of m c main_v19 body_hg, atK_of m c main_arg3 body_arg3, pre_arg3,
    show afterL preI (launchContents m c) (Proc.devRef .tc main_v75) = afterL late (made m c) (Proc.devRef .tc main_v75) from rfl, late_in,
    show afterL preI (launchContents m c) (Proc.devRef .tc main_v19) = afterL late (made m c) (Proc.devRef .tc main_v19) from rfl, late_hg]
  funext j
  obtain ⟨R, n, rfl⟩ : ∃ (R : Fin 32768) (n : Fin 1024), j = ix2 R n := ⟨j 0, j 1, eq_ix2 j⟩
  refine (gated_at _ _ _ R n).trans ?_
  have hR := R.isLt
  have hn := n.isLt
  have eb : (Fin.ofNat 8 (R.val / 4096)).val = R.val / 4096 := by simp only [Fin.ofNat]; omega
  have eT : (Fin.ofNat 4096 (R.val % 4096)).val = R.val % 4096 := by simp only [Fin.ofNat]; omega
  have eh : (Fin.ofNat 8 (n.val / 128)).val = n.val / 128 := by simp only [Fin.ofNat]; omega
  have ee : (Fin.ofNat 128 (n.val % 128)).val = n.val % 128 := by simp only [Fin.ofNat]; omega
  have en : 128 * (n.val / 128) + n.val % 128 = n.val := Nat.div_add_mod _ _
  have hread : ∀ (b : Fin 8) (T : Fin 4096) (h : Fin 8) (e : Fin 128),
      joined (within (fromEnd (made m c (Proc.devRef .tc main_v52)) (scan (made m c (Proc.devRef .tc main_v54))))
        (toEnd (made m c (Proc.devRef .tc main_v56)) (scan (made m c (Proc.devRef .tc main_v54)))) (made m c (Proc.devRef .tc main_v58)))
        (atK m 128 c (Proc.devRef .tc main_v78_6)) (ix4 b T h e)
      = read (cQ m c b.val) (cLF m c b.val) (cK m c b.val) (cV m c b.val) T.val h.val e.val := by
    intro b T h e
    have hT := T.isLt
    rw [joined_at, within_cut (made_q m c) (made_k m c) (made_v m c) (made_lf m c), atK_out m c 128 le_rfl _ (Fin.isLt _)]
    unfold read
    rw [show 32 * (T.val / 32) + T.val % 32 = T.val from Nat.div_add_mod _ _]
  rw [normed_at, hread, made_hg]
  show _ = out _ _ _ _ (R.val / 4096) (R.val % 4096) n.val
  unfold out result rms
  rw [en, eb, eT, eh, ee]
  have hs : ∀ k : Fin 128, joined (within (fromEnd (made m c (Proc.devRef .tc main_v52)) (scan (made m c (Proc.devRef .tc main_v54))))
        (toEnd (made m c (Proc.devRef .tc main_v56)) (scan (made m c (Proc.devRef .tc main_v54)))) (made m c (Proc.devRef .tc main_v58)))
        (atK m 128 c (Proc.devRef .tc main_v78_6)) (ix4 (Fin.ofNat 8 (R.val / 4096)) (Fin.ofNat 4096 (R.val % 4096)) (Fin.ofNat 8 (n.val / 128)) k)
      = read (cQ m c (R.val / 4096)) (cLF m c (R.val / 4096)) (cK m c (R.val / 4096)) (cV m c (R.val / 4096)) (R.val % 4096) (n.val / 128) k.val := by
    intro k
    rw [hread, eb, eT, eh]
  rw [Finset.sum_congr rfl fun k _ => congrArg₂ (· * ·) (hs k) (hs k)]
  have eG : Fin.ofNat 1024 n.val = n := Fin.ext (Nat.mod_eq_of_lt n.isLt)
  beta_reduce
  rw [eG]

end Cert.Hgrn.Ref

end
-- ==== Proof.Dest.Tile.lean ====
/-
  One tile of destination rows at the ideal reading: the sum over the experts that match a slot's expert, cut to an integer, plus
  the slot's rank.
-/
module

public import proofs.«01_k».proof.Proof.Gen.Kernel5Ideal.Value
public import Idealize.ShloMosaic.Lib.Pipeline.ValueKit

@[expose] public section

set_option maxRecDepth 16384

noncomputable section

namespace Cert.Dest

open Cert.Kernel5Ideal Cert.Kernel5Ideal.Gen Idealize.ShloMosaic Idealize.ShloMosaic.TcCoe

/-- The row a slot is given: its expert's first row, summed out of all experts' first rows, and its rank. -/
def picked (I R : IVec S8x256 32) (P : FVec Ideal S256x1 .f32) (k : Fin 8) (q : Fin 256) : BitVec 32 :=
  Ideal.fptosi 32 (∑ e : Fin 256, if BitVec.ofNat 32 e.val = I (ix2 k q) then P (ix2 e 0) else 0) + R (ix2 k q)

theorem sel_eq (a b : BitVec 32) (x y : EReal) : Scalar.select (IntOp.cmpi .eq a b) x y = if a = b then x else y := by
  by_cases h : a = b
  · rw [if_pos h]
    subst h
    simp [Scalar.select, IntOp.cmpi]
  · rw [if_neg h]
    have hb : (a == b) = false := beq_eq_false_iff_ne.mpr h
    simp only [Scalar.select, IntOp.cmpi, hb]
    rfl

theorem of_cond (I R : Vec Ideal S8x256 .i32) (P : Vec Ideal S256x1 .f32) (k : Fin 8) (q : Fin 256) :
    IntOp.addi (FloatOps.fptosi (F := Ideal) (φ := .f32) 32 (∑ x : Fin 256, (Scalar.select (IntOp.cmpi .eq (BitVec.ofNat 32 x.val) (I (ix2 k q))) (P (ix2 x 0)) 0 : EReal) : EReal))
      (R (ix2 k q)) = picked I R P k q := by
  unfold picked
  rw [Finset.sum_congr rfl fun x _ => sel_eq _ (I (ix2 k q)) (P (ix2 x 0)) 0]
  rfl

/-- The rows a point computes from its blocks. -/
def made (I R : Vec Ideal S8x256 .i32) (P : Vec Ideal S256x1 .f32) : IVec S8x256 32 :=
  k0_pay1 (k0_pay13 I R P) (k0_pay14 I R P) (k0_pay15 I R P) (k0_pay16 I R P) (k0_pay17 I R P) (k0_pay18 I R P) (k0_pay19 I R P)
    (k0_pay20 I R P) (k0_pay21 I R P) (View.ld I r0_8) (View.ld R r0_8)

section Rows

variable (I R : Vec Ideal S8x256 .i32) (P : Vec Ideal S256x1 .f32) (q : Fin 256)

theorem row0 : made I R P (ix2 0 q) = picked I R P 0 q := by
  unfold made k0_pay21 k0_pay20 k0_pay19 k0_pay18 k0_pay17 k0_pay16 k0_pay15 k0_pay14 k0_pay13
  pointwise [k0_pay1, k0_pay4, k0_pay5]
  exact of_cond I R P _ q
theorem row1 : made I R P (ix2 1 q) = picked I R P 1 q := by
  unfold made k0_pay21 k0_pay20 k0_pay19 k0_pay18 k0_pay17 k0_pay16 k0_pay15 k0_pay14 k0_pay13
  pointwise [k0_pay1, k0_pay4, k0_pay6]
  exact of_cond I R P _ q
theorem row2 : made I R P (ix2 2 q) = picked I R P 2 q := by
  unfold made k0_pay21 k0_pay20 k0_pay19 k0_pay18 k0_pay17 k0_pay16 k0_pay15 k0_pay14 k0_pay13
  pointwise [k0_pay1, k0_pay4, k0_pay7]
  exact of_cond I R P _ q
theorem row3 : made I R P (ix2 3 q) = picked I R P 3 q := by
  unfold made k0_pay21 k0_pay20 k0_pay19 k0_pay18 k0_pay17 k0_pay16 k0_pay15 k0_pay14 k0_pay13
  pointwise [k0_pay1, k0_pay4, k0_pay8, k0_pay9]
  exact of_cond I R P _ q
theorem row4 : made I R P (ix2 4 q) = picked I R P 4 q := by
  unfold made k0_pay21 k0_pay20 k0_pay19 k0_pay18 k0_pay17 k0_pay16 k0_pay15 k0_pay14 k0_pay13
  pointwise [k0_pay1, k0_pay4, k0_pay10]
  exact of_cond I R P _ q
theorem row5 : made I R P (ix2 5 q) = picked I R P 5 q := by
  unfold made k0_pay21 k0_pay20 k0_pay19 k0_pay18 k0_pay17 k0_pay16 k0_pay15 k0_pay14 k0_pay13
  pointwise [k0_pay1, k0_pay4, k0_pay11]
  exact of_cond I R P _ q
theorem row6 : made I R P (ix2 6 q) = picked I R P 6 q := by
  unfold made k0_pay21 k0_pay20 k0_pay19 k0_pay18 k0_pay17 k0_pay16 k0_pay15 k0_pay14 k0_pay13
  pointwise [k0_pay1, k0_pay4, k0_pay12]
  exact of_cond I R P _ q
theorem row7 : made I R P (ix2 7 q) = picked I R P 7 q := by
  unfold made k0_pay21 k0_pay20 k0_pay19 k0_pay18 k0_pay17 k0_pay16 k0_pay15 k0_pay14 k0_pay13
  pointwise [k0_pay1, k0_pay4]
  exact of_cond I R P _ q

/-- Slot by slot. -/
theorem rows_at : ∀ k : Fin 8, made I R P (ix2 k q) = picked I R P k q
  | ⟨0, _⟩ => row0 I R P q
  | ⟨1, _⟩ => row1 I R P q
  | ⟨2, _⟩ => row2 I R P q
  | ⟨3, _⟩ => row3 I R P q
  | ⟨4, _⟩ => row4 I R P q
  | ⟨5, _⟩ => row5 I R P q
  | ⟨6, _⟩ => row6 I R P q
  | ⟨7, _⟩ => row7 I R P q

end Rows

/-! The sum out of all experts is the one the slot names. -/

/-- An integer read as a real and cut back is the integer. -/
theorem cut_int (b : BitVec 32) : Ideal.fptosi 32 (((b.toInt : ℤ) : ℝ) : EReal) = b := by
  have h1 := BitVec.toInt_lt (x := b)
  have h2 := BitVec.le_toInt (x := b)
  unfold Ideal.fptosi
  rw [Ideal.toIntClamped_coe, Int.floor_intCast, Int.ceil_intCast, ite_self, min_eq_right (by norm_num at h1 ⊢; omega),
    max_eq_right (by norm_num at h2 ⊢; omega), BitVec.ofInt_toInt]

theorem picked_eq (I R : IVec S8x256 32) (P : FVec Ideal S256x1 .f32) (B : Fin 256 → BitVec 32) (k : Fin 8) (q : Fin 256)
    (hP : ∀ e, P (ix2 e 0) = (((B e).toInt : ℝ) : EReal)) (hI : (I (ix2 k q)).toNat < 256) :
    picked I R P k q = B ⟨(I (ix2 k q)).toNat, hI⟩ + R (ix2 k q) := by
  unfold picked
  rw [Finset.sum_eq_single (⟨(I (ix2 k q)).toNat, hI⟩ : Fin 256), if_pos (BitVec.ofNat_toNat 32 _ |>.trans (BitVec.setWidth_eq _)), hP, cut_int]
  · intro e _ he
    refine if_neg fun h => he (Fin.ext ?_)
    have := congrArg BitVec.toNat h
    rw [BitVec.toNat_ofNat, Nat.mod_eq_of_lt (by omega)] at this
    exact this
  · exact fun h => absurd (Finset.mem_univ _) h

end Cert.Dest

end
-- ==== Proof.Dest.Value.lean ====
/-
  The rows' value: entry `i` of a result is the first row of the expert that slot `i` names plus the slot's rank, times the
  rows per token. The kernel's points and the reference's host operations both end with it where the experts are in range.
-/
module

public import proofs.«01_k».proof.Pre_in_range
public import proofs.«01_k».proof.Proof.Dest.Tile
public import proofs.«01_k».proof.Proof.Gen.Reference5Ideal.Run
public import Idealize.ShloMosaic.Lib.ValueIdxCore
public import Idealize.ShloMosaic.Lib.Pointwise
public import Idealize.ShloMosaic.Lib.Claim

@[expose] public section

set_option maxRecDepth 16384

noncomputable section

namespace Cert.Dest

open Idealize.ShloMosaic Idealize.ShloMosaic.TcCoe

/-- The experts, or the ranks, of all slots. -/
abbrev Slots := IVec ⟨2, ![8, 32768]⟩ 32

/-- The experts' first rows. -/
abbrev Starts := IVec ⟨1, ![256]⟩ 32

/-- The slots' rows, `f` for each token. -/
def rows (I R : Slots) (S : Starts) (f : BitVec 32) : Slots :=
  fun i => (S (ix1 (Fin.ofNat 256 (I i).toNat)) + R i) * f

/-- Every slot names one of the 256 experts. -/
def InRange (I : Slots) : Prop := ∀ i, (I i).toNat < 256

/-- The precondition's own side condition. -/
theorem pre_facts : Cert.Pre_in_range.Facts := ⟨by decide⟩

/-- A word that is neither negative nor 256 or more, read signed, is below 256. -/
theorem lt_of_bits (b : BitVec 32) (h : IntOp.cmpi .sge b 0#32 &&& IntOp.cmpi .slt b 256#32 = 1#1) : b.toNat < 256 := by
  have hb : ∀ s t : Bool, BitVec.ofBool s &&& BitVec.ofBool t = 1#1 → s = true ∧ t = true := by decide
  obtain ⟨h1, h2⟩ := hb _ _ h
  have g1 : 0 ≤ b.toInt := by simpa [BitVec.sle] using h1
  have g2 : b.toInt < 256 := by simpa [BitVec.slt] using h2
  rw [BitVec.toInt_eq_toNat_cond] at g1 g2
  split at g1 <;> omega

section Pre
attribute [local instance] pre_facts

theorem in_range (I R : Slots) (S : Starts) (h : Cert.Pre_in_range.fn (F := Ideal) I R S = fun _ => 1#1) : InRange I := by
  intro i
  have e := congrFun h i
  pointwise [Cert.Pre_in_range.fn] at e
  exact lt_of_bits _ e

end Pre

section Kernel
open Cert.Kernel5Ideal Cert.Kernel5Ideal.Gen

variable (m : (ℓ : Loc nD τ sig) → Buf (Elt Ideal) ℓ) (c : Dev nD) (t : Fin cfg0.N)

/-- The arguments. -/
abbrev aI : Slots := m ((c : Thread nD τ).loc main_arg0)
abbrev aR : Slots := m ((c : Thread nD τ).loc main_arg1)
abbrev aS : Starts := m ((c : Thread nD τ).loc main_arg2)

/-- The windows' index maps. -/
theorem idx : ∀ t : Fin cfg0.N,
    win0_0.index t = ![0, (grid0.coords t 0).val]
    ∧ win0_1.index t = ![0, (grid0.coords t 0).val]
    ∧ win0_2.index t = ![0, 0]
    ∧ win0_3.index t = ![0, (grid0.coords t 0).val]
    ∧ win0_4.index t = ![0, (grid0.coords t 0).val]
    ∧ (grid0.coords t 0).val < 128 :=
  (by decide +kernel : ∀ t : Fin grid0.N, _)

/-- The first rows as the region is entered with them. -/
theorem starts_at (e : Fin 256) : (V m c main_v1 : FVec Ideal S256x1 .f32) (ix2 e 0) = ((((aS m c (ix1 e)).toInt : ℤ) : ℝ) : EReal) := by
  unfold V
  entry_read
  pointwise
  rfl

/-- The blocks a point is handed. -/
abbrev bI : Vec Ideal S8x256 .i32 := iblk m c 0 t
abbrev bR : Vec Ideal S8x256 .i32 := iblk m c 1 t
abbrev bS : Vec Ideal S256x1 .f32 := iblk m c 2 t

theorem col_lt (q : Fin 256) : 256 * (grid0.coords t 0).val + q.val < 32768 := by
  have := (idx t).2.2.2.2.2
  have := q.isLt
  omega

theorem bI_at (k : Fin 8) (q : Fin 256) : bI m c t (ix2 k q) = aI m c (ix2 k ⟨256 * (grid0.coords t 0).val + q.val, col_lt t q⟩) := by
  have e0 := (idx t).1
  unfold bI iblk
  blk_simp
  rw [show (win0_0.blk t).view.emb (ix2 k q) = ix2 k ⟨256 * (grid0.coords t 0).val + q.val, col_lt t q⟩ by blk_ext [e0]]
  rfl

theorem bR_at (k : Fin 8) (q : Fin 256) : bR m c t (ix2 k q) = aR m c (ix2 k ⟨256 * (grid0.coords t 0).val + q.val, col_lt t q⟩) := by
  have e0 := (idx t).2.1
  unfold bR iblk
  blk_simp
  rw [show (win0_1.blk t).view.emb (ix2 k q) = ix2 k ⟨256 * (grid0.coords t 0).val + q.val, col_lt t q⟩ by blk_ext [e0]]
  rfl

theorem bS_at (e : Fin 256) : bS m c t (ix2 e 0) = ((((aS m c (ix1 e)).toInt : ℤ) : ℝ) : EReal) := by
  have e0 := (idx t).2.2.1
  unfold bS iblk
  blk_simp
  rw [show (win0_2.blk t).view.emb (ix2 e 0) = ix2 e 0 by blk_ext [e0]]
  exact starts_at m c e

/-- What a point computes is the slots' rows of its block. -/
theorem made_at (h : InRange (aI m c)) (k : Fin 8) (q : Fin 256) (f : BitVec 32) :
    made (bI m c t) (bR m c t) (bS m c t) (ix2 k q) * f
      = rows (aI m c) (aR m c) (aS m c) f (ix2 k ⟨256 * (grid0.coords t 0).val + q.val, col_lt t q⟩) := by
  have hI : (bI m c t (ix2 k q)).toNat < 256 := by rw [bI_at]; exact h _
  rw [rows_at, picked_eq _ _ _ (fun e => aS m c (ix1 e)) k q (bS_at m c t) hI, bR_at]
  unfold rows
  refine congrArg (fun s => (aS m c (ix1 s) + _) * f) (Fin.ext ?_)
  have h' := h (ix2 k ⟨256 * (grid0.coords t 0).val + q.val, col_lt t q⟩)
  simp only [Fin.ofNat, Nat.mod_eq_of_lt h', bI_at]

theorem point3 (h : InRange (aI m c)) (y : S8x256.Idx) : out0_3 (iblk m c 0 t) (iblk m c 1 t) (iblk m c 2 t) y
    = rows (aI m c) (aR m c) (aS m c) 4#32 ((win0_3.blk t).view.emb y) := by
  obtain ⟨k, q, rfl⟩ : ∃ (k : Fin 8) (q : Fin 256), y = ix2 k q := ⟨y 0, y 1, by ext i; fin_cases i <;> rfl⟩
  have e0 := (idx t).2.2.2.1
  rw [show (win0_3.blk t).view.emb (ix2 k q) = ix2 k ⟨256 * (grid0.coords t 0).val + q.val, col_lt t q⟩ by blk_ext [e0]]
  refine Eq.trans ?_ (made_at m c t h k q 4#32)
  unfold out0_3
  frame_out
  rfl

theorem point4 (h : InRange (aI m c)) (y : S8x256.Idx) : out0_4 (iblk m c 0 t) (iblk m c 1 t) (iblk m c 2 t) y
    = rows (aI m c) (aR m c) (aS m c) 8#32 ((win0_4.blk t).view.emb y) := by
  obtain ⟨k, q, rfl⟩ : ∃ (k : Fin 8) (q : Fin 256), y = ix2 k q := ⟨y 0, y 1, by ext i; fin_cases i <;> rfl⟩
  have e0 := (idx t).2.2.2.2.1
  rw [show (win0_4.blk t).view.emb (ix2 k q) = ix2 k ⟨256 * (grid0.coords t 0).val + q.val, col_lt t q⟩ by blk_ext [e0]]
  refine Eq.trans ?_ (made_at m c t h k q 8#32)
  unfold out0_4
  frame_out
  rfl

/-- The result arrays after the run. -/
theorem final3 (h : InRange (aI m c)) : (dats m 0 c).arrAt 3 cfg0.N = rows (aI m c) (aR m c) (aS m c) 4#32 := by
  refine (dats m 0 c).arrAt_eq_of_covers 3 _ (by decide +kernel) fun t _ y => ?_
  blk_simp
  rw [after0_3]
  exact point3 m c t h y

theorem final4 (h : InRange (aI m c)) : (dats m 0 c).arrAt 4 cfg0.N = rows (aI m c) (aR m c) (aS m c) 8#32 := by
  refine (dats m 0 c).arrAt_eq_of_covers 4 _ (by decide +kernel) fun t _ y => ?_
  blk_simp
  rw [after0_4]
  exact point4 m c t h y

end Kernel

section Reference
open Cert.Reference5Ideal Cert.Reference5Ideal.Gen

/-- An expert in range is not negative, so its index is itself. -/
theorem index_eq (b : BitVec 32) (h : b.toNat < 256) :
    Scalar.select (IntOp.cmpi .slt b 0#32) (IntOp.addi b 256#32) b = b ∧ min b.toInt.toNat 255 = b.toNat := by
  have hi : b.toInt = b.toNat := BitVec.toInt_eq_toNat_of_lt (by omega)
  have hb : b.slt 0#32 = false := by simp [BitVec.slt, hi]
  refine ⟨?_, by omega⟩
  simp only [Scalar.select, IntOp.cmpi, hb]
  rfl

/-- The reference's composed terms are the slots' rows. -/
theorem ref_eq (I R : Slots) (S : Starts) (f : BitVec 32) (h : InRange I) :
    muli (addi (Host.gather gather_S256_S8x32768x1_S8x32768_n_0_n_n_0_2_1 S
      (broadcastInDim S8x32768x1 ![0, 1] bcast_S8x32768_S8x32768x1_0_1
        (select (cmpi .slt I (broadcastInDim S8x32768 ![] bcast_S_S8x32768 (constantI S_ 32 0#32)))
          (addi I (broadcastInDim S8x32768 ![] bcast_S_S8x32768 (constantI S_ 32 256#32))) I))) R)
      (broadcastInDim S8x32768 ![] bcast_S_S8x32768 (constantI S_ 32 f)) = rows I R S f := by
  funext i
  obtain ⟨k, q, rfl⟩ : ∃ (k : Fin 8) (q : Fin 32768), i = ix2 k q := ⟨i 0, i 1, by ext i; fin_cases i <;> rfl⟩
  have hI := h (ix2 k q)
  obtain ⟨h1, h2⟩ := index_eq _ hI
  refine congrArg (fun s => (s + R (ix2 k q)) * f) ?_
  refine (ValueIdx.gather_take_apply (N := 256) (by decide) _ S _ (ix2 k q)).trans (congrArg (fun s => S (ix1 s)) (Fin.ext ?_))
  refine Eq.trans ?_ (h2.trans (Nat.mod_eq_of_lt hI).symm)
  refine congrArg (fun b : BitVec 32 => min b.toInt.toNat 255) (Eq.trans ?_ h1)
  pointwise

end Reference

end Cert.Dest

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.SbI.Frame
public import proofs.«01_k».proof.Proof.SbK.Frame
public import proofs.«01_k».proof.Proof.SbI.Value
public import proofs.«01_k».proof.Proof.RefState
public import proofs.«01_k».proof.Proof.Real
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Proj.Value
public import proofs.«01_k».proof.Proof.MergeI.Value
public import proofs.«01_k».proof.Proof.MergeK.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Hg.Value
public import proofs.«01_k».proof.Proof.Hg.RefRun
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Dest.Value
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The value claim: on real arguments both runs end with `Stick.outs` of the argument. -/
theorem value : algebraic_KernelIdeal_ReferenceIdeal_pre_finite (hKernelIdeal := Cert.KernelIdeal.Gen.facts)
    (hReferenceIdeal := Cert.ReferenceIdeal.Gen.facts) (hPre_finite := Cert.Pre_finite.Sb.facts) := by
  intro m g m' g' hpre harg
  have hX : ∀ c, Stick.AllReal (Cert.KernelIdeal.Sb.arg m c) := fun c => Cert.Pre_finite.Sb.all_real _ (hpre c)
  have hX' : ∀ c, Stick.AllReal (Cert.ReferenceIdeal.Sb.arg m' c) := fun c =>
    (congrArg Stick.AllReal (harg c)).mpr (hX c)
  refine ⟨fun c => Stick.outs (Cert.KernelIdeal.Sb.arg m c), ?_, ?_⟩
  · exact (θ_run _ _ _).mono (fun r h c => ⟨(h c).1.trans (Cert.KernelIdeal.Sb.final (hX c)), (h c).2⟩)
      (Cert.KernelIdeal.Sb.run_result m g)
  · refine (θ_run _ _ _).mono (fun r h c => ⟨?_, ?_⟩) (Cert.ReferenceIdeal.Value.run_fold m' g')
    · exact (h c Cert.ReferenceIdeal.main_v20 rfl).trans ((Cert.ReferenceIdeal.Sb.final_value m' c (hX' c)).trans
        (congrArg Stick.outs (harg c)))
    · exact (h c Cert.ReferenceIdeal.main_arg0 rfl).trans (Cert.ReferenceIdeal.Sb.final_arg0 m' c)

/-- The projection's value claim: both runs end with `Proj.proj` of the arguments. -/
theorem value2 : algebraic_Kernel2Ideal_Reference2Ideal (hKernel2Ideal := Cert.Kernel2Ideal.Gen.facts)
    (hReference2Ideal := Cert.Reference2Ideal.Gen.facts) := by
  intro m g m' g' _ harg
  refine ⟨fun c => Proj.proj (m ((c.tc : Thread _ _).loc Cert.Kernel2Ideal.main_arg0)) (m ((c.tc : Thread _ _).loc Cert.Kernel2Ideal.main_arg1)), ?_, ?_⟩
  · exact (θ_run _ _ _).mono (fun r h c => ⟨(h c).1.trans (Proj.final m c), (h c).2⟩) (Cert.Kernel2Ideal.Value.run_blocks m g)
  · refine (θ_run _ _ _).mono (fun r h c => ⟨(h c).1.trans ?_, (h c).2⟩) (Cert.Reference2Ideal.Value.run m' g')
    refine (Proj.ref_eq _ _).trans ?_
    exact congrArg₂ Proj.proj (harg c).1 (harg c).2

/-- The projection's reference has no semaphores and leaves its arguments. -/
theorem frame_ref2 : quiescent_Reference2Ideal (hReference2Ideal := Cert.Reference2Ideal.Gen.facts) := fun m g _ =>
  (θ_run _ _ _).mono (fun _ h => ⟨fun c => (h c).2, sem_eq_zero_of_no_sems rfl _⟩) (Cert.Reference2Ideal.Value.run m g)

/-- The merge's value claim: both runs end with `Merge.rows` of the arguments. -/
theorem value3 : algebraic_Kernel3Ideal_Reference3Ideal (hKernel3Ideal := Cert.Kernel3Ideal.Gen.facts)
    (hReference3Ideal := Cert.Reference3Ideal.Gen.facts) := by
  intro m g m' g' _ harg
  refine ⟨fun c => Merge.rows (Merge.aH m c) (Merge.aS m c) (Merge.aX m c) (Merge.aW m c) (Merge.aWH m c) (Merge.aWS m c)
    (Merge.aWO m c) (Merge.aG m c) (Merge.aB m c), ?_, ?_⟩
  · refine (θ_run _ _ _).mono (fun r h c => ⟨(h.1 c).trans (Merge.final m c), h.2.1 c⟩)
      (θ_run_and (Cert.Kernel3Ideal.Mg.run_result m g) (Cert.Kernel3Ideal.Mg.frame m g))
  · refine (θ_run _ _ _).mono (fun r h c => ⟨(h c).1.trans ((Merge.ref_res m' c).trans ?_), (h c).2⟩) (Cert.Reference3Ideal.Value.run m' g')
    obtain ⟨h0, h1, h2, h3, h4, h5, h6, h7, h8⟩ := harg c
    rw [h0, h1, h2, h3, h4, h5, h6, h7, h8]

/-- The merge's reference has no semaphores and leaves its arguments. -/
theorem frame_ref3 : quiescent_Reference3Ideal (hReference3Ideal := Cert.Reference3Ideal.Gen.facts) := fun m g _ =>
  (θ_run _ _ _).mono (fun _ h => ⟨fun c => (h c).2, sem_eq_zero_of_no_sems rfl _⟩) (Cert.Reference3Ideal.Value.run m g)

/-- The merge's words: its packed halves and the buffer that holds them, by the rules' own proofs. -/
theorem words3 : preserves_Kernel3_Kernel3Ideal :=
  ⟨IdealRules.bf16_pair.bufferStatement _ _, IdealRules.bf16_pair.bufferStatement _ _, IdealRules.bf16_pair.statement _ _,
    IdealRules.bf16_pack.statement _⟩

/-- The recurrent branch's value claim: both runs end with `Hgrn.rows` of the arguments. -/
theorem value4 : algebraic_Kernel4Ideal_Reference4Ideal (hKernel4Ideal := Cert.Kernel4Ideal.Gen.facts)
    (hReference4Ideal := Cert.Reference4Ideal.Gen.facts) := by
  intro m g m' g' _ harg
  refine ⟨fun c => Hgrn.rows (Hgrn.aX m c) (Hgrn.aW m c) (Hgrn.aL m c) (Hgrn.aG m c), ?_, ?_⟩
  · refine (θ_run _ _ _).mono (fun r h c => ⟨((h.1 c).1 4).trans (Hgrn.final m c), h.2.1 c⟩)
      (θ_run_and (Cert.Kernel4Ideal.Gen.run_main m g) (Cert.Kernel4Ideal.Gen.frame m g))
  · refine (θ_run _ _ _).mono (fun r h c => ⟨(h.1 c Cert.Reference4Ideal.main_v101 rfl).trans ((Hgrn.Ref.final_value m' c).trans ?_), h.2.1 c⟩)
      (θ_run_and (Cert.Reference4Ideal.Value.run_fold m' g') (Hgrn.Ref.frame m' g'))
    obtain ⟨h0, h1, h2, h3⟩ := harg c
    exact congr (congr (congrArg₂ Hgrn.rows h0 h1) h2) h3

/-- The experts' rows' value claim: where the experts are in range both runs end with `Dest.rows` of the arguments. -/
theorem value5 : algebraic_Kernel5Ideal_Reference5Ideal_pre_in_range (hKernel5Ideal := Cert.Kernel5Ideal.Gen.facts)
    (hReference5Ideal := Cert.Reference5Ideal.Gen.facts) (hPre_in_range := Dest.pre_facts) := by
  intro m g m' g' hpre harg
  have hI : ∀ c, Dest.InRange (Dest.aI m c) := fun c => Dest.in_range _ _ _ (hpre c)
  refine ⟨fun c => Dest.rows (Dest.aI m c) (Dest.aR m c) (Dest.aS m c) 4#32,
    fun c => Dest.rows (Dest.aI m c) (Dest.aR m c) (Dest.aS m c) 8#32, ?_, ?_⟩
  · exact (θ_run _ _ _).mono (fun r h c => ⟨(h c).1.trans (Dest.final3 m c (hI c)), (h c).2.1.trans (Dest.final4 m c (hI c)), (h c).2.2⟩)
      (Cert.Kernel5Ideal.Value.run_blocks m g)
  · refine (θ_run _ _ _).mono (fun r h c => ?_) (Cert.Reference5Ideal.Value.run m' g')
    obtain ⟨h0, h1, h2⟩ := harg c
    have e : ∀ f, Dest.rows (m' ((c.tc : Thread _ _).loc Cert.Reference5Ideal.main_arg0))
        (m' ((c.tc : Thread _ _).loc Cert.Reference5Ideal.main_arg1)) (m' ((c.tc : Thread _ _).loc Cert.Reference5Ideal.main_arg2)) f
        = Dest.rows (Dest.aI m c) (Dest.aR m c) (Dest.aS m c) f := fun f =>
      congrFun (congr (congrArg₂ Dest.rows h0 h1) h2) f
    have hI' : Dest.InRange (m' ((c.tc : Thread _ _).loc Cert.Reference5Ideal.main_arg0)) := (congrArg Dest.InRange h0).mpr (hI c)
    exact ⟨(h c).1.trans ((Dest.ref_eq _ _ _ 4#32 hI').trans (e _)), (h c).2.1.trans ((Dest.ref_eq _ _ _ 8#32 hI').trans (e _)), (h c).2.2⟩

/-- The experts' rows' reference has no semaphores and leaves its arguments. -/
theorem frame_ref5 : quiescent_Reference5Ideal (hReference5Ideal := Cert.Reference5Ideal.Gen.facts) := fun m g _ =>
  (θ_run _ _ _).mono (fun _ h => ⟨fun c => (h c).2.2, sem_eq_zero_of_no_sems rfl _⟩) (Cert.Reference5Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Sb.facts, Dest.pre_facts,
  fun m g _ => Cert.Kernel.Sb.frame m g, fun m g _ => Cert.KernelIdeal.Sb.frame m g, fun m g _ => Cert.KernelIdeal.Sb.frame m g,
  fun m g _ => Cert.ReferenceIdeal.Sb.frame m g, fun m g _ => Cert.ReferenceIdeal.Sb.frame m g,
  fun m g _ => Cert.Kernel2.Gen.frame m g, fun m g _ => Cert.Kernel2Ideal.Gen.frame m g, frame_ref2,
  fun m g _ => Cert.Kernel3.Mg.frame m g, fun m g _ => Cert.Kernel3Ideal.Mg.frame m g, frame_ref3,
  fun m g _ => Cert.Kernel4.Gen.frame m g, fun m g _ => Cert.Kernel4Ideal.Gen.frame m g, fun m g _ => Hgrn.Ref.frame m g,
  fun m g _ => Cert.Kernel5.Gen.frame m g, fun m g _ => Cert.Kernel5Ideal.Gen.frame m g, fun m g _ => Cert.Kernel5Ideal.Gen.frame m g,
  frame_ref5, fun m g _ => frame_ref5 m g trivial,
  IdealRules.named_const.statement Cert.KernelIdeal.κ "dead" .f32 0x42DC0000#32 ⊤ rfl, value,
  trivial, value2, words3, value3, trivial, value4, trivial, value5⟩

end Cert.Proof

end
